-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).1 = (fun _ => 1#1)
    ∧ (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite [hPre_finite : Cert.Pre_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1))).1 = (fun _ => 1#1)
    ∧ (Cert.Pre_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_RouterRefIdeal_pre_finite [hRouterRefIdeal : Cert.RouterRefIdeal.Facts] [hPre_finite : Cert.Pre_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v6_0)) (v1 : (c : Dev Cert.DenseIdeal.nD) → Buf (Elt Ideal) ((c.tc : Thread Cert.DenseIdeal.nD Cert.DenseIdeal.τ).loc Cert.DenseIdeal.main_v6_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6_0) = v0 c
          ∧ r.2.mem ((c.tc : Thread Cert.DenseIdeal.nD Cert.DenseIdeal.τ).loc Cert.DenseIdeal.main_v6_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v31) = v0 c
          ∧ r.2.mem ((c.tc : Thread Cert.DenseRefIdeal.nD Cert.DenseRefIdeal.τ).loc Cert.DenseRefIdeal.main_v32) = v1 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v16) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v11) = v0 c
          ∧ r.2.mem ((c.tc : Thread Cert.MixRefIdeal.nD Cert.MixRefIdeal.τ).loc Cert.MixRefIdeal.main_v4) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v8_0)) (v1 : (c : Dev Cert.TailIdeal.nD) → Buf (Elt Ideal) ((c.tc : Thread Cert.TailIdeal.nD Cert.TailIdeal.τ).loc Cert.TailIdeal.main_v8_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v8_0) = v0 c
          ∧ r.2.mem ((c.tc : Thread Cert.TailIdeal.nD Cert.TailIdeal.τ).loc Cert.TailIdeal.main_v8_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v103) = v0 c
          ∧ r.2.mem ((c.tc : Thread Cert.TailRefIdeal.nD Cert.TailRefIdeal.τ).loc Cert.TailRefIdeal.main_v104) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Router_RouterIdeal : Prop :=
  True

def algebraic_RouterIdeal_RouterRefIdeal_pre_finite [hRouterIdeal : Cert.RouterIdeal.Facts] [hRouterRefIdeal : Cert.RouterRefIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v27) = v0 c
          ∧ r.2.mem ((c.tc : Thread Cert.RouterRefIdeal.nD Cert.RouterRefIdeal.τ).loc Cert.RouterRefIdeal.main_v28) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseRefIdeal : Cert.DenseRefIdeal.Facts) (hGates : Cert.Gates.Facts) (hGatesIdeal : Cert.GatesIdeal.Facts) (hGatesRefIdeal : Cert.GatesRefIdeal.Facts) (hMix : Cert.Mix.Facts) (hMixIdeal : Cert.MixIdeal.Facts) (hMixRefIdeal : Cert.MixRefIdeal.Facts) (hTail : Cert.Tail.Facts) (hTailIdeal : Cert.TailIdeal.Facts) (hTailRefIdeal : Cert.TailRefIdeal.Facts) (hRouter : Cert.Router.Facts) (hRouterIdeal : Cert.RouterIdeal.Facts) (hRouterRefIdeal : Cert.RouterRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Dense (hDense := hDense)
    ∧ quiescent_DenseIdeal (hDenseIdeal := hDenseIdeal)
    ∧ quiescent_DenseRefIdeal (hDenseRefIdeal := hDenseRefIdeal)
    ∧ quiescent_Gates (hGates := hGates)
    ∧ quiescent_GatesIdeal (hGatesIdeal := hGatesIdeal)
    ∧ quiescent_GatesRefIdeal (hGatesRefIdeal := hGatesRefIdeal)
    ∧ quiescent_Mix (hMix := hMix)
    ∧ quiescent_MixIdeal (hMixIdeal := hMixIdeal)
    ∧ quiescent_MixRefIdeal (hMixRefIdeal := hMixRefIdeal)
    ∧ quiescent_Tail (hTail := hTail)
    ∧ quiescent_TailIdeal (hTailIdeal := hTailIdeal)
    ∧ quiescent_TailRefIdeal (hTailRefIdeal := hTailRefIdeal)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterRefIdeal (hRouterRefIdeal := hRouterRefIdeal)
    ∧ quiescent_RouterRefIdeal_pre_finite (hRouterRefIdeal := hRouterRefIdeal) (hPre_finite := hPre_finite)
    ∧ preserves_Kernel_KernelIdeal
    ∧ algebraic_KernelIdeal_ReferenceIdeal (hKernelIdeal := hKernelIdeal) (hReferenceIdeal := hReferenceIdeal)
    ∧ preserves_Dense_DenseIdeal
    ∧ algebraic_DenseIdeal_DenseRefIdeal (hDenseIdeal := hDenseIdeal) (hDenseRefIdeal := hDenseRefIdeal)
    ∧ preserves_Gates_GatesIdeal
    ∧ algebraic_GatesIdeal_GatesRefIdeal (hGatesIdeal := hGatesIdeal) (hGatesRefIdeal := hGatesRefIdeal)
    ∧ preserves_Mix_MixIdeal
    ∧ algebraic_MixIdeal_MixRefIdeal (hMixIdeal := hMixIdeal) (hMixRefIdeal := hMixRefIdeal)
    ∧ preserves_Tail_TailIdeal
    ∧ algebraic_TailIdeal_TailRefIdeal (hTailIdeal := hTailIdeal) (hTailRefIdeal := hTailRefIdeal)
    ∧ preserves_Router_RouterIdeal
    ∧ algebraic_RouterIdeal_RouterRefIdeal_pre_finite (hRouterIdeal := hRouterIdeal) (hRouterRefIdeal := hRouterRefIdeal) (hPre_finite := hPre_finite)
-- ==== Pre_finite.lean ====
abbrev S16384x2048 : Shape := ⟨2, ![16384, 2048]⟩
abbrev S2048x8 : Shape := ⟨2, ![2048, 8]⟩
abbrev S_ : Shape := ⟨0, ![]⟩

class Facts : Prop where
  bcast_S_S16384x2048 : S_.BroadcastsInDim S16384x2048 (![] : Fin 0 → Fin S16384x2048.rank)
  bcast_S_S2048x8 : S_.BroadcastsInDim S2048x8 (![] : Fin 0 → Fin S2048x8.rank)

variable [Facts]

def fn {F : FTy → Type} [FloatOps F] (main_arg0 : FVec F S16384x2048 .f32) (main_arg1 : FVec F S2048x8 .f32) : IVec S16384x2048 1 × IVec S2048x8 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S2048x8 .f32 := Host.absf main_arg1
  let main_cst_0 : FVec F S_ .f32 := constant S_ .f32 0x7F800000#32
  let main_v4 : FVec F S2048x8 .f32 := broadcastInDim S2048x8 ![] bcast_S_S2048x8 main_cst_0
  let main_v5 : IVec S2048x8 1 := cmpf .olt main_v3 main_v4
  (main_v2, main_v5)
-- ==== Kernel.lean ====
abbrev S36864x2048 : Shape := ⟨2, ![36864, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩
abbrev S72 : Shape := ⟨1, ![72]⟩
abbrev S1 : Shape := ⟨1, ![1]⟩
abbrev S72x1 : Shape := ⟨2, ![72, 1]⟩
abbrev S1x8 : Shape := ⟨2, ![1, 8]⟩
abbrev S72x8 : Shape := ⟨2, ![72, 8]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 71
  | .vmem => 12
  | .smem => 3
  | _ => 0

abbrev bufTy : (tb : Table) → Fin (tcTables nBuf tb) → BufTy
  | .hbm, ⟨0, _⟩ => ⟨S36864x2048, .f32⟩
  | .hbm, ⟨1, _⟩ => ⟨S8, .i32⟩
  | .hbm, ⟨2, _⟩ => ⟨S8x2048x7168, .f32⟩
  | .hbm, ⟨3, _⟩ => ⟨S8x2048x7168, .f32⟩
  | .hbm, ⟨4, _⟩ => ⟨S8x7168x2048, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S72, .i32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S72x1, .i32⟩
  | .hbm, ⟨40, _⟩ => ⟨S1x8, .i32⟩
  | .hbm, ⟨41, _⟩ => ⟨S72x8, .i32⟩
  | .hbm, ⟨42, _⟩ => ⟨S72x8, .i32⟩
  | .hbm, ⟨43, _⟩ => ⟨S72x8, .i1⟩
  | .hbm, ⟨44, _⟩ => ⟨S72x8, .i32⟩
  | .hbm, ⟨45, _⟩ => ⟨S_, .i32⟩
  | .hbm, ⟨46, _⟩ => ⟨S72, .i32⟩
  | .hbm, ⟨47, _⟩ => ⟨S72, .i32⟩
  | .hbm, ⟨48, _⟩ => ⟨S72, .i1⟩
  | .hbm, ⟨49, _⟩ => ⟨S_, .i32⟩
  | .hbm, ⟨50, _⟩ => ⟨S72, .i32⟩
  | .hbm, ⟨51, _⟩ => ⟨S72, .i1⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S72, .i32⟩
  | .hbm, ⟨60, _⟩ => ⟨S72, .i32⟩
  | .hbm, ⟨61, _⟩ => ⟨S_, .i32⟩
  | .hbm, ⟨62, _⟩ => ⟨S72, .i32⟩
  | .hbm, ⟨63, _⟩ => ⟨S_, .i32⟩
  | .hbm, ⟨64, _⟩ => ⟨S72, .i32⟩
  | .hbm, ⟨65, _⟩ => ⟨S72, .i1⟩
  | .hbm, ⟨66, _⟩ => ⟨S72, .i32⟩
  | .hbm, ⟨67, _⟩ => ⟨S8x2048x7168, .bf16⟩
  | .hbm, ⟨68, _⟩ => ⟨S8x2048x7168, .bf16⟩
  | .hbm, ⟨69, _⟩ => ⟨S8x7168x2048, .bf16⟩
  | .hbm, ⟨70, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .smem, ⟨0, _⟩ => ⟨S72, .i32⟩
  | .local _ .smem, ⟨1, _⟩ => ⟨S72, .i32⟩
  | .local _ .smem, ⟨2, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_c_7 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call2_v0 : Ref sig .tc := ⟨.hbm, 59, rfl⟩
abbrev main_v28 : Ref sig .tc := ⟨.hbm, 60, rfl⟩
abbrev main_c_8 : Ref sig .tc := ⟨.hbm, 61, rfl⟩
abbrev main_v29 : Ref sig .tc := ⟨.hbm, 62, rfl⟩
abbrev main_c_9 : Ref sig .tc := ⟨.hbm, 63, rfl⟩
abbrev main_v31 : Ref sig .tc := ⟨.hbm, 64, rfl⟩
abbrev main_v32 : Ref sig .tc := ⟨.hbm, 65, rfl⟩
abbrev main_call3_v0 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v30 : Ref sig .tc := ⟨.smem, 0, rfl⟩
abbrev main_v20 : Ref sig .tc := ⟨.smem, 1, rfl⟩
abbrev main_v33 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨3, ![main_v30.idx, main_v20.idx, main_v33.idx], fun | 0 => main_v30.names | 1 => main_v20.names | 2 => main_v33.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v9 : BitVec 1 := Scalar.cmpi .eq arg1 c6_i32
  let v10 : BitVec 32 := Scalar.extui v9
  let c0_i32_2 : BitVec 32 := 0#32
  let v11 : BitVec 1 := Scalar.cmpi .ne v10 c0_i32_2
  v11

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S72) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  ![v1.toNat, c0_i32.toNat, v5.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let v2 : Index := Scalar.indexCast arg0
  let v3 : BitVec 32 := pf.at 1 (Rect.unit (s := S72) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  ![v1.toNat, v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S36864x2048 : Shape := ⟨2, ![36864, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S1 : Shape := ⟨1, ![1]⟩
abbrev S1x2048x7168 : Shape := ⟨3, ![1, 2048, 7168]⟩
abbrev S2048x7168 : Shape := ⟨2, ![2048, 7168]⟩
abbrev S36864x7168 : Shape := ⟨2, ![36864, 7168]⟩
abbrev S1x7168x2048 : Shape := ⟨3, ![1, 7168, 2048]⟩
abbrev S7168x2048 : Shape := ⟨2, ![7168, 2048]⟩

abbrev nBuf : Space → Nat
  | .hbm => 256
  | .vmem => 0
  | .smem => 0
  | _ => 0

abbrev hbmTy0_0 (i : Nat) : BufTy := match i % 128 with
  | 0 => ⟨S36864x2048, .f32⟩
  | 1 => ⟨S8, .i32⟩
  | 2 => ⟨S8x2048x7168, .f32⟩
  | 3 => ⟨S8x2048x7168, .f32⟩
  | 4 => ⟨S8x7168x2048, .f32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S_, .i32⟩
  | 28 => ⟨S8, .i32⟩
  | 29 => ⟨S36864, .i32⟩
  | 30 => ⟨S_, .i32⟩
  | 31 => ⟨S_, .i32⟩
  | 32 => ⟨S36864, .i32⟩
  | 33 => ⟨S36864, .i32⟩
  | 34 => ⟨S36864, .i32⟩
  | 35 => ⟨S_, .i32⟩
  | 36 => ⟨S36864, .i32⟩
  | 37 => ⟨S36864, .i1⟩
  | 38 => ⟨S36864, .i32⟩
  | 39 => ⟨S36864, .i32⟩
  | 40 => ⟨S_, .i32⟩
  | 41 => ⟨S36864, .i32⟩
  | 42 => ⟨S36864, .i1⟩
  | 43 => ⟨S36864, .i1⟩
  | 44 => ⟨S_, .i32⟩
  | 45 => ⟨S36864, .i32⟩
  | 46 => ⟨S36864, .i32⟩
  | 47 => ⟨S36864, .i32⟩
  | 48 => ⟨S36864x1, .i32⟩
  | 49 => ⟨S1x8, .i32⟩
  | 50 => ⟨S36864x8, .i32⟩
  | 51 => ⟨S36864x8, .i32⟩
  | 52 => ⟨S36864x8, .i1⟩
  | 53 => ⟨S36864x8, .i32⟩
  | 54 => ⟨S_, .i32⟩
  | 55 => ⟨S36864, .i32⟩
  | 56 => ⟨S1, .i32⟩
  | 57 => ⟨S_, .i32⟩
  | 58 => ⟨S36864, .i32⟩
  | 59 => ⟨S36864, .i1⟩
  | 60 => ⟨S36864, .f32⟩
  | 61 => ⟨S36864x1, .i32⟩
  | 62 => ⟨S1x8, .i32⟩
  | 63 => ⟨S36864x8, .i32⟩
  | 64 => ⟨S36864x8, .i32⟩
  | 65 => ⟨S36864x8, .i1⟩
  | 66 => ⟨S36864x8, .f32⟩
  | 67 => ⟨S36864x1, .f32⟩
  | 68 => ⟨S36864x8, .f32⟩
  | 69 => ⟨S36864x8, .f32⟩
  | 70 => ⟨S_, .f32⟩
  | 71 => ⟨S36864x2048, .f32⟩
  | 72 => ⟨S1x2048x7168, .f32⟩
  | 73 => ⟨S2048x7168, .f32⟩
  | 74 => ⟨S36864x7168, .f32⟩
  | 75 => ⟨S36864x7168, .f32⟩
  | 76 => ⟨S36864x7168, .f32⟩
  | 77 => ⟨S_, .f32⟩
  | 78 => ⟨S36864x7168, .f32⟩
  | 79 => ⟨S36864x7168, .f32⟩
  | 80 => ⟨S_, .f32⟩
  | 81 => ⟨S36864x7168, .f32⟩
  | 82 => ⟨S36864x7168, .f32⟩
  | 83 => ⟨S36864x7168, .f32⟩
  | 84 => ⟨S1x2048x7168, .f32⟩
  | 85 => ⟨S2048x7168, .f32⟩
  | 86 => ⟨S36864x7168, .f32⟩
  | 87 => ⟨S36864x7168, .f32⟩
  | 88 => ⟨S36864x1, .f32⟩
  | 89 => ⟨S1x7168x2048, .f32⟩
  | 90 => ⟨S7168x2048, .f32⟩
  | 91 => ⟨S36864x2048, .f32⟩
  | 92 => ⟨S36864x2048, .f32⟩
  | 93 => ⟨S36864x2048, .f32⟩
  | 94 => ⟨S36864x2048, .f32⟩
  | 95 => ⟨S1x2048x7168, .f32⟩
  | 96 => ⟨S2048x7168, .f32⟩
  | 97 => ⟨S36864x7168, .f32⟩
  | 98 => ⟨S36864x7168, .f32⟩
  | 99 => ⟨S36864x7168, .f32⟩
  | 100 => ⟨S_, .f32⟩
  | 101 => ⟨S36864x7168, .f32⟩
  | 102 => ⟨S36864x7168, .f32⟩
  | 103 => ⟨S_, .f32⟩
  | 104 => ⟨S36864x7168, .f32⟩
  | 105 => ⟨S36864x7168, .f32⟩
  | 106 => ⟨S36864x7168, .f32⟩
  | 107 => ⟨S1x2048x7168, .f32⟩
  | 108 => ⟨S2048x7168, .f32⟩
  | 109 => ⟨S36864x7168, .f32⟩
  | 110 => ⟨S36864x7168, .f32⟩
  | 111 => ⟨S36864x1, .f32⟩
  | 112 => ⟨S1x7168x2048, .f32⟩
  | 113 => ⟨S7168x2048, .f32⟩
  | 114 => ⟨S36864x2048, .f32⟩
  | 115 => ⟨S36864x2048, .f32⟩
  | 116 => ⟨S36864x2048, .f32⟩
  | 117 => ⟨S36864x2048, .f32⟩
  | 118 => ⟨S1x2048x7168, .f32⟩
  | 119 => ⟨S2048x7168, .f32⟩
  | 120 => ⟨S36864x7168, .f32⟩
  | 121 => ⟨S36864x7168, .f32⟩
  | 122 => ⟨S36864x7168, .f32⟩
  | 123 => ⟨S_, .f32⟩
  | 124 => ⟨S36864x7168, .f32⟩
  | 125 => ⟨S36864x7168, .f32⟩
  | 126 => ⟨S_, .f32⟩
  | 127 => ⟨S36864x7168, .f32⟩
  | _ => ⟨S36864x2048, .f32⟩

abbrev hbmTy0_1 (i : Nat) : BufTy := match i % 128 with
  | 0 => ⟨S36864x7168, .f32⟩
  | 1 => ⟨S36864x7168, .f32⟩
  | 2 => ⟨S1x2048x7168, .f32⟩
  | 3 => ⟨S2048x7168, .f32⟩
  | 4 => ⟨S36864x7168, .f32⟩
  | 5 => ⟨S36864x7168, .f32⟩
  | 6 => ⟨S36864x1, .f32⟩
  | 7 => ⟨S1x7168x2048, .f32⟩
  | 8 => ⟨S7168x2048, .f32⟩
  | 9 => ⟨S36864x2048, .f32⟩
  | 10 => ⟨S36864x2048, .f32⟩
  | 11 => ⟨S36864x2048, .f32⟩
  | 12 => ⟨S36864x2048, .f32⟩
  | 13 => ⟨S1x2048x7168, .f32⟩
  | 14 => ⟨S2048x7168, .f32⟩
  | 15 => ⟨S36864x7168, .f32⟩
  | 16 => ⟨S36864x7168, .f32⟩
  | 17 => ⟨S36864x7168, .f32⟩
  | 18 => ⟨S_, .f32⟩
  | 19 => ⟨S36864x7168, .f32⟩
  | 20 => ⟨S36864x7168, .f32⟩
  | 21 => ⟨S_, .f32⟩
  | 22 => ⟨S36864x7168, .f32⟩
  | 23 => ⟨S36864x7168, .f32⟩
  | 24 => ⟨S36864x7168, .f32⟩
  | 25 => ⟨S1x2048x7168, .f32⟩
  | 26 => ⟨S2048x7168, .f32⟩
  | 27 => ⟨S36864x7168, .f32⟩
  | 28 => ⟨S36864x7168, .f32⟩
  | 29 => ⟨S36864x1, .f32⟩
  | 30 => ⟨S1x7168x2048, .f32⟩
  | 31 => ⟨S7168x2048, .f32⟩
  | 32 => ⟨S36864x2048, .f32⟩
  | 33 => ⟨S36864x2048, .f32⟩
  | 34 => ⟨S36864x2048, .f32⟩
  | 35 => ⟨S36864x2048, .f32⟩
  | 36 => ⟨S1x2048x7168, .f32⟩
  | 37 => ⟨S2048x7168, .f32⟩
  | 38 => ⟨S36864x7168, .f32⟩
  | 39 => ⟨S36864x7168, .f32⟩
  | 40 => ⟨S36864x7168, .f32⟩
  | 41 => ⟨S_, .f32⟩
  | 42 => ⟨S36864x7168, .f32⟩
  | 43 => ⟨S36864x7168, .f32⟩
  | 44 => ⟨S_, .f32⟩
  | 45 => ⟨S36864x7168, .f32⟩
  | 46 => ⟨S36864x7168, .f32⟩
  | 47 => ⟨S36864x7168, .f32⟩
  | 48 => ⟨S1x2048x7168, .f32⟩
  | 49 => ⟨S2048x7168, .f32⟩
  | 50 => ⟨S36864x7168, .f32⟩
  | 51 => ⟨S36864x7168, .f32⟩
  | 52 => ⟨S36864x1, .f32⟩
  | 53 => ⟨S1x7168x2048, .f32⟩
  | 54 => ⟨S7168x2048, .f32⟩
  | 55 => ⟨S36864x2048, .f32⟩
  | 56 => ⟨S36864x2048, .f32⟩
  | 57 => ⟨S36864x2048, .f32⟩
  | 58 => ⟨S36864x2048, .f32⟩
  | 59 => ⟨S1x2048x7168, .f32⟩
  | 60 => ⟨S2048x7168, .f32⟩
  | 61 => ⟨S36864x7168, .f32⟩
  | 62 => ⟨S36864x7168, .f32⟩
  | 63 => ⟨S36864x7168, .f32⟩
  | 64 => ⟨S_, .f32⟩
  | 65 => ⟨S36864x7168, .f32⟩
  | 66 => ⟨S36864x7168, .f32⟩
  | 67 => ⟨S_, .f32⟩
  | 68 => ⟨S36864x7168, .f32⟩
  | 69 => ⟨S36864x7168, .f32⟩
  | 70 => ⟨S36864x7168, .f32⟩
  | 71 => ⟨S1x2048x7168, .f32⟩
  | 72 => ⟨S2048x7168, .f32⟩
  | 73 => ⟨S36864x7168, .f32⟩
  | 74 => ⟨S36864x7168, .f32⟩
  | 75 => ⟨S36864x1, .f32⟩
  | 76 => ⟨S1x7168x2048, .f32⟩
  | 77 => ⟨S7168x2048, .f32⟩
  | 78 => ⟨S36864x2048, .f32⟩
  | 79 => ⟨S36864x2048, .f32⟩
  | 80 => ⟨S36864x2048, .f32⟩
  | 81 => ⟨S36864x2048, .f32⟩
  | 82 => ⟨S1x2048x7168, .f32⟩
  | 83 => ⟨S2048x7168, .f32⟩
  | 84 => ⟨S36864x7168, .f32⟩
  | 85 => ⟨S36864x7168, .f32⟩
  | 86 => ⟨S36864x7168, .f32⟩
  | 87 => ⟨S_, .f32⟩
  | 88 => ⟨S36864x7168, .f32⟩
  | 89 => ⟨S36864x7168, .f32⟩
  | 90 => ⟨S_, .f32⟩
  | 91 => ⟨S36864x7168, .f32⟩
  | 92 => ⟨S36864x7168, .f32⟩
  | 93 => ⟨S36864x7168, .f32⟩
  | 94 => ⟨S1x2048x7168, .f32⟩
  | 95 => ⟨S2048x7168, .f32⟩
  | 96 => ⟨S36864x7168, .f32⟩
  | 97 => ⟨S36864x7168, .f32⟩
  | 98 => ⟨S36864x1, .f32⟩
  | 99 => ⟨S1x7168x2048, .f32⟩
  | 100 => ⟨S7168x2048, .f32⟩
  | 101 => ⟨S36864x2048, .f32⟩
  | 102 => ⟨S36864x2048, .f32⟩
  | 103 => ⟨S36864x2048, .f32⟩
  | 104 => ⟨S36864x2048, .f32⟩
  | 105 => ⟨S1x2048x7168, .f32⟩
  | 106 => ⟨S2048x7168, .f32⟩
  | 107 => ⟨S36864x7168, .f32⟩
  | 108 => ⟨S36864x7168, .f32⟩
  | 109 => ⟨S36864x7168, .f32⟩
  | 110 => ⟨S_, .f32⟩
  | 111 => ⟨S36864x7168, .f32⟩
  | 112 => ⟨S36864x7168, .f32⟩
  | 113 => ⟨S_, .f32⟩
  | 114 => ⟨S36864x7168, .f32⟩
  | 115 => ⟨S36864x7168, .f32⟩
  | 116 => ⟨S36864x7168, .f32⟩
  | 117 => ⟨S1x2048x7168, .f32⟩
  | 118 => ⟨S2048x7168, .f32⟩
  | 119 => ⟨S36864x7168, .f32⟩
  | 120 => ⟨S36864x7168, .f32⟩
  | 121 => ⟨S36864x1, .f32⟩
  | 122 => ⟨S1x7168x2048, .f32⟩
  | 123 => ⟨S7168x2048, .f32⟩
  | 124 => ⟨S36864x2048, .f32⟩
  | 125 => ⟨S36864x2048, .f32⟩
  | 126 => ⟨S36864x2048, .f32⟩
  | 127 => ⟨S36864x2048, .f32⟩
  | _ => ⟨S36864x2048, .f32⟩

abbrev hbmTy (i : Nat) : BufTy := match i / 128 with
  | 0 => hbmTy0_0 i
  | 1 => hbmTy0_1 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_call1_call0_c : Ref sig .tc := ⟨.hbm, 26, rfl⟩
abbrev main_call1_call0_v0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_2 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_call5_v0 : Ref sig .tc := ⟨.hbm, 98, rfl⟩
abbrev main_call5_v1 : Ref sig .tc := ⟨.hbm, 99, rfl⟩
abbrev main_call5_cst : Ref sig .tc := ⟨.hbm, 100, rfl⟩
abbrev main_call5_v2 : Ref sig .tc := ⟨.hbm, 101, rfl⟩
abbrev main_call5_v3 : Ref sig .tc := ⟨.hbm, 102, rfl⟩
abbrev main_call5_cst_0 : Ref sig .tc := ⟨.hbm, 103, rfl⟩
abbrev main_call5_v4 : Ref sig .tc := ⟨.hbm, 104, rfl⟩
abbrev main_call5_v5 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_call11_v0 : Ref sig .tc := ⟨.hbm, 236, rfl⟩
abbrev main_call11_v1 : Ref sig .tc := ⟨.hbm, 237, rfl⟩
abbrev main_call11_cst : Ref sig .tc := ⟨.hbm, 238, rfl⟩
abbrev main_call11_v2 : Ref sig .tc := ⟨.hbm, 239, rfl⟩
abbrev main_call11_v3 : Ref sig .tc := ⟨.hbm, 240, rfl⟩
abbrev main_call11_cst_0 : Ref sig .tc := ⟨.hbm, 241, rfl⟩
abbrev main_call11_v4 : Ref sig .tc := ⟨.hbm, 242, rfl⟩
abbrev main_call11_v5 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩

abbrev nD : Nat := 1
abbrev τ : Topo := Topo.v7x

variable {F : FTy → Type} [FloatOps F]
-- ==== Dense.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S16384x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DenseRefIdeal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Gates.lean ====
abbrev S16384x2048 : Shape := ⟨2, ![16384, 2048]⟩
abbrev S2048x8192 : Shape := ⟨2, ![2048, 8192]⟩
abbrev S16384x4096 : Shape := ⟨2, ![16384, 4096]⟩
abbrev S512x2048 : Shape := ⟨2, ![512, 2048]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S2048x8192, .bf16⟩
  | .hbm, ⟨3, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S512x4096, .f32⟩
  | .local _ .vmem, ⟨4, _⟩ => ⟨S512x4096, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatesRefIdeal.lean ====
abbrev S16384x2048 : Shape := ⟨2, ![16384, 2048]⟩
abbrev S2048x8192 : Shape := ⟨2, ![2048, 8192]⟩
abbrev S16384x8192 : Shape := ⟨2, ![16384, 8192]⟩
abbrev S16384x4096 : Shape := ⟨2, ![16384, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S16384x8192, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Mix.lean ====
abbrev S16384x2048 : Shape := ⟨2, ![16384, 2048]⟩
abbrev S2048x8192 : Shape := ⟨2, ![2048, 8192]⟩
abbrev S24x16384x128 : Shape := ⟨3, ![24, 16384, 128]⟩
abbrev S16384x1024 : Shape := ⟨2, ![16384, 1024]⟩
abbrev S512x2048 : Shape := ⟨2, ![512, 2048]⟩
abbrev S2048x4096 : Shape := ⟨2, ![2048, 4096]⟩
abbrev S24x512x128 : Shape := ⟨3, ![24, 512, 128]⟩
abbrev S512x1024 : Shape := ⟨2, ![512, 1024]⟩
abbrev S2048x1024 : Shape := ⟨2, ![2048, 1024]⟩
abbrev S512x128 : Shape := ⟨2, ![512, 128]⟩
abbrev S1x512x128 : Shape := ⟨3, ![1, 512, 128]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S2048x8192, .bf16⟩
  | .hbm, ⟨3, _⟩ => ⟨S24x16384x128, .bf16⟩
  | .hbm, ⟨4, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S24x512x128, .bf16⟩
  | .local _ .vmem, ⟨4, _⟩ => ⟨S24x512x128, .bf16⟩
  | .local _ .vmem, ⟨5, _⟩ => ⟨S512x1024, .f32⟩
  | .local _ .vmem, ⟨6, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S24x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixRefIdeal.lean ====
abbrev S16384x2048 : Shape := ⟨2, ![16384, 2048]⟩
abbrev S2048x8192 : Shape := ⟨2, ![2048, 8192]⟩
abbrev S16384x8192 : Shape := ⟨2, ![16384, 8192]⟩
abbrev S16384x1024 : Shape := ⟨2, ![16384, 1024]⟩
abbrev S16384x4096 : Shape := ⟨2, ![16384, 4096]⟩
abbrev S_ : Shape := ⟨0, ![]⟩
abbrev S16384x3072 : Shape := ⟨2, ![16384, 3072]⟩
abbrev S16384x24x128 : Shape := ⟨3, ![16384, 24, 128]⟩
abbrev S24x16384x128 : Shape := ⟨3, ![24, 16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S16384x8192, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x4096, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x3072, .f32⟩
  | .hbm, ⟨12, _⟩ => ⟨S16384x24x128, .f32⟩
  | .hbm, ⟨13, _⟩ => ⟨S24x16384x128, .f32⟩
  | .hbm, ⟨14, _⟩ => ⟨S24x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Tail.lean ====
abbrev S8x16384x128 : Shape := ⟨3, ![8, 16384, 128]⟩
abbrev S16384x1024 : Shape := ⟨2, ![16384, 1024]⟩
abbrev S16384x4096 : Shape := ⟨2, ![16384, 4096]⟩
abbrev S16384x2048 : Shape := ⟨2, ![16384, 2048]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S1x2048 : Shape := ⟨2, ![1, 2048]⟩
abbrev S8x256x128 : Shape := ⟨3, ![8, 256, 128]⟩
abbrev S256x1024 : Shape := ⟨2, ![256, 1024]⟩
abbrev S16x1024 : Shape := ⟨2, ![16, 1024]⟩
abbrev S256x2048 : Shape := ⟨2, ![256, 2048]⟩
abbrev S4x280x1024 : Shape := ⟨3, ![4, 280, 1024]⟩
abbrev S4x8x1024 : Shape := ⟨3, ![4, 8, 1024]⟩
abbrev S1x16x1024 : Shape := ⟨3, ![1, 16, 1024]⟩
abbrev S1x256x1024 : Shape := ⟨3, ![1, 256, 1024]⟩
abbrev S256x1 : Shape := ⟨2, ![256, 1]⟩
abbrev S1x256x128 : Shape := ⟨3, ![1, 256, 128]⟩
abbrev S256x128 : Shape := ⟨2, ![256, 128]⟩
abbrev S1024x512 : Shape := ⟨2, ![1024, 512]⟩
abbrev S256x512 : Shape := ⟨2, ![256, 512]⟩
abbrev S1x272x768 : Shape := ⟨3, ![1, 272, 768]⟩
abbrev S272x768 : Shape := ⟨2, ![272, 768]⟩
abbrev S1x272x512 : Shape := ⟨3, ![1, 272, 512]⟩
abbrev S272x512 : Shape := ⟨2, ![272, 512]⟩
abbrev S1x272x256 : Shape := ⟨3, ![1, 272, 256]⟩
abbrev S272x256 : Shape := ⟨2, ![272, 256]⟩
abbrev S1x256x256 : Shape := ⟨3, ![1, 256, 256]⟩
abbrev S256x256 : Shape := ⟨2, ![256, 256]⟩
abbrev S1x256 : Shape := ⟨2, ![1, 256]⟩
abbrev S128x2048 : Shape := ⟨2, ![128, 2048]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩

abbrev nBuf : Space → Nat
  | .hbm => 21
  | .vmem => 24
  | .smem => 0
  | _ => 0

abbrev bufTy : (tb : Table) → Fin (tcTables nBuf tb) → BufTy
  | .hbm, ⟨0, _⟩ => ⟨S8x16384x128, .f32⟩
  | .hbm, ⟨1, _⟩ => ⟨S16384x1024, .f32⟩
  | .hbm, ⟨2, _⟩ => ⟨S16384x4096, .f32⟩
  | .hbm, ⟨3, _⟩ => ⟨S16384x2048, .f32⟩
  | .hbm, ⟨4, _⟩ => ⟨S4x256x256, .f32⟩
  | .hbm, ⟨5, _⟩ => ⟨S1024, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S8x16384x128, .bf16⟩
  | .hbm, ⟨12, _⟩ => ⟨S4x256x256, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S1x1024, .f32⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S16384x2048, .bf16⟩
  | .local _ .vmem, ⟨0, _⟩ => ⟨S8x256x128, .bf16⟩
  | .local _ .vmem, ⟨1, _⟩ => ⟨S8x256x128, .bf16⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S4x256x256, .bf16⟩
  | .local _ .vmem, ⟨13, _⟩ => ⟨S1x1024, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | .local _ .vmem, ⟨23, _⟩ => ⟨S4x280x1024, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== TailRefIdeal.lean ====
abbrev S8x16384x128 : Shape := ⟨3, ![8, 16384, 128]⟩
abbrev S16384x1024 : Shape := ⟨2, ![16384, 1024]⟩
abbrev S16384x4096 : Shape := ⟨2, ![16384, 4096]⟩
abbrev S16384x2048 : Shape := ⟨2, ![16384, 2048]⟩
abbrev S4x256x256 : Shape := ⟨3, ![4, 256, 256]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S16384x8x128 : Shape := ⟨3, ![16384, 8, 128]⟩
abbrev S2x8192x1024 : Shape := ⟨3, ![2, 8192, 1024]⟩
abbrev S8192 : Shape := ⟨1, ![8192]⟩
abbrev S2x8192x256 : Shape := ⟨3, ![2, 8192, 256]⟩
abbrev S_ : Shape := ⟨0, ![]⟩
abbrev S1x8192x1 : Shape := ⟨3, ![1, 8192, 1]⟩
abbrev S1x256x256 : Shape := ⟨3, ![1, 256, 256]⟩
abbrev S256x256 : Shape := ⟨2, ![256, 256]⟩
abbrev S1x1x1024 : Shape := ⟨3, ![1, 1, 1024]⟩
abbrev S16384 : Shape := ⟨1, ![16384]⟩
abbrev S16384x1 : Shape := ⟨2, ![16384, 1]⟩
abbrev S1x2048 : Shape := ⟨2, ![1, 2048]⟩

abbrev nBuf : Space → Nat
  | .hbm => 134
  | .vmem => 0
  | .smem => 0
  | _ => 0

abbrev hbmTy0_0 (i : Nat) : BufTy := match i % 128 with
  | 0 => ⟨S8x16384x128, .f32⟩
  | 1 => ⟨S16384x1024, .f32⟩
  | 2 => ⟨S16384x4096, .f32⟩
  | 3 => ⟨S16384x2048, .f32⟩
  | 4 => ⟨S4x256x256, .f32⟩
  | 5 => ⟨S1024, .f32⟩
  | 6 => ⟨S1024x2048, .f32⟩
  | 7 => ⟨S1024x2048, .f32⟩
  | 8 => ⟨S2048x2048, .f32⟩
  | 9 => ⟨S2048, .f32⟩
  | 10 => ⟨S2048, .f32⟩
  | 11 => ⟨S16384x8x128, .f32⟩
  | 12 => ⟨S16384x1024, .f32⟩
  | 13 => ⟨S2x8192x1024, .f32⟩
  | 14 => ⟨S8192, .i32⟩
  | 15 => ⟨S2x8192x256, .f32⟩
  | 16 => ⟨S_, .f32⟩
  | 17 => ⟨S_, .f32⟩
  | 18 => ⟨S2x8192x256, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S8192, .f32⟩
  | 26 => ⟨S1x8192x1, .f32⟩
  | 27 => ⟨S2x8192x256, .f32⟩
  | 28 => ⟨S2x8192x256, .f32⟩
  | 29 => ⟨S2x8192x256, .f32⟩
  | 30 => ⟨S1x256x256, .f32⟩
  | 31 => ⟨S256x256, .f32⟩
  | 32 => ⟨S2x8192x256, .f32⟩
  | 33 => ⟨S2x8192x256, .f32⟩
  | 34 => ⟨S_, .f32⟩
  | 35 => ⟨S_, .f32⟩
  | 36 => ⟨S2x8192x256, .f32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S8192, .f32⟩
  | 44 => ⟨S1x8192x1, .f32⟩
  | 45 => ⟨S2x8192x256, .f32⟩
  | 46 => ⟨S2x8192x256, .f32⟩
  | 47 => ⟨S2x8192x256, .f32⟩
  | 48 => ⟨S1x256x256, .f32⟩
  | 49 => ⟨S256x256, .f32⟩
  | 50 => ⟨S2x8192x256, .f32⟩
  | 51 => ⟨S2x8192x256, .f32⟩
  | 52 => ⟨S_, .f32⟩
  | 53 => ⟨S_, .f32⟩
  | 54 => ⟨S2x8192x256, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S1x8192x1, .f32⟩
  | 63 => ⟨S2x8192x256, .f32⟩
  | 64 => ⟨S2x8192x256, .f32⟩
  | 65 => ⟨S2x8192x256, .f32⟩
  | 66 => ⟨S1x256x256, .f32⟩
  | 67 => ⟨S256x256, .f32⟩
  | 68 => ⟨S2x8192x256, .f32⟩
  | 69 => ⟨S2x8192x256, .f32⟩
  | 70 => ⟨S_, .f32⟩
  | 71 => ⟨S_, .f32⟩
  | 72 => ⟨S2x8192x256, .f32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .f32⟩
  | 80 => ⟨S1x8192x1, .f32⟩
  | 81 => ⟨S2x8192x256, .f32⟩
  | 82 => ⟨S2x8192x256, .f32⟩
  | 83 => ⟨S2x8192x256, .f32⟩
  | 84 => ⟨S1x256x256, .f32⟩
  | 85 => ⟨S256x256, .f32⟩
  | 86 => ⟨S2x8192x256, .f32⟩
  | 87 => ⟨S2x8192x1024, .f32⟩
  | 88 => ⟨S1x1x1024, .f32⟩
  | 89 => ⟨S2x8192x1024, .f32⟩
  | 90 => ⟨S2x8192x1024, .f32⟩
  | 91 => ⟨S16384x1024, .f32⟩
  | 92 => ⟨S16384x2048, .f32⟩
  | 93 => ⟨S16384x2048, .f32⟩
  | 94 => ⟨S16384x2048, .f32⟩
  | 95 => ⟨S16384x2048, .f32⟩
  | 96 => ⟨S16384x2048, .f32⟩
  | 97 => ⟨S16384x2048, .f32⟩
  | 98 => ⟨S16384x2048, .f32⟩
  | 99 => ⟨S_, .f32⟩
  | 100 => ⟨S16384x2048, .f32⟩
  | 101 => ⟨S16384x2048, .f32⟩
  | 102 => ⟨S16384x2048, .f32⟩
  | 103 => ⟨S16384x2048, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x2048, .f32⟩
  | 111 => ⟨S16384x2048, .f32⟩
  | 112 => ⟨S16384x2048, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x2048, .f32⟩
  | 120 => ⟨S16384x2048, .f32⟩
  | 121 => ⟨S_, .f32⟩
  | 122 => ⟨S16384x1, .f32⟩
  | 123 => ⟨S16384x1, .f32⟩
  | 124 => ⟨S16384x1, .f32⟩
  | 125 => ⟨S16384x2048, .f32⟩
  | 126 => ⟨S16384x2048, .f32⟩
  | 127 => ⟨S1x2048, .f32⟩
  | _ => ⟨S8x16384x128, .f32⟩

abbrev hbmTy0_1 (i : Nat) : BufTy := match i % 128 with
  | 0 => ⟨S16384x2048, .f32⟩
  | 1 => ⟨S16384x2048, .f32⟩
  | 2 => ⟨S1x2048, .f32⟩
  | 3 => ⟨S16384x2048, .f32⟩
  | 4 => ⟨S16384x2048, .f32⟩
  | 5 => ⟨S16384x2048, .bf16⟩
  | _ => ⟨S8x16384x128, .f32⟩

abbrev hbmTy (i : Nat) : BufTy := match i / 128 with
  | 0 => hbmTy0_0 i
  | 1 => hbmTy0_1 i
  | _ => ⟨S8x16384x128, .f32⟩

abbrev bufTy : (tb : Table) → Fin (tcTables nBuf tb) → BufTy
  | .hbm, ⟨i, _⟩ => hbmTy i
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_15 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== Router.lean ====
abbrev S16384x2048 : Shape := ⟨2, ![16384, 2048]⟩
abbrev S2048x8 : Shape := ⟨2, ![2048, 8]⟩
abbrev S_ : Shape := ⟨0, ![]⟩
abbrev S2048x128 : Shape := ⟨2, ![2048, 128]⟩
abbrev S16384x128 : Shape := ⟨2, ![16384, 128]⟩
abbrev S1x128 : Shape := ⟨2, ![1, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128 : Shape := ⟨1, ![128]⟩

abbrev nBuf : Space → Nat
  | .hbm => 9
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x8, .f32⟩
  | .hbm, ⟨2, _⟩ => ⟨S16384x2048, .bf16⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S16384x128, .f32⟩
  | .hbm, ⟨8, _⟩ => ⟨S1x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | .local _ .vmem, ⟨5, _⟩ => ⟨S1x128, .f32⟩
  | .local _ .vmem, ⟨6, _⟩ => ⟨S1x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RouterRefIdeal.lean ====
abbrev S16384x2048 : Shape := ⟨2, ![16384, 2048]⟩
abbrev S2048x8 : Shape := ⟨2, ![2048, 8]⟩
abbrev S16384x8 : Shape := ⟨2, ![16384, 8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S1x16384x8 : Shape := ⟨3, ![1, 16384, 8]⟩
abbrev S16384x1x8 : Shape := ⟨3, ![16384, 1, 8]⟩
abbrev S16384x6 : Shape := ⟨2, ![16384, 6]⟩
abbrev S8 : Shape := ⟨1, ![8]⟩
abbrev S1x8 : Shape := ⟨2, ![1, 8]⟩
abbrev S16384x128 : Shape := ⟨2, ![16384, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8, .f32⟩
  | .hbm, ⟨2, _⟩ => ⟨S16384x8, .f32⟩
  | .hbm, ⟨3, _⟩ => ⟨S16384x2, .f32⟩
  | .hbm, ⟨4, _⟩ => ⟨S16384x2, .i32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x2, .f32⟩
  | .hbm, ⟨12, _⟩ => ⟨S16384x2, .f32⟩
  | .hbm, ⟨13, _⟩ => ⟨S16384x2, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x2, .f32⟩
  | .hbm, ⟨18, _⟩ => ⟨S16384x2, .f32⟩
  | .hbm, ⟨19, _⟩ => ⟨S16384x2x1, .i32⟩
  | .hbm, ⟨20, _⟩ => ⟨S1x1x8, .i32⟩
  | .hbm, ⟨21, _⟩ => ⟨S16384x2x8, .i32⟩
  | .hbm, ⟨22, _⟩ => ⟨S16384x2x8, .i32⟩
  | .hbm, ⟨23, _⟩ => ⟨S16384x2x8, .i1⟩
  | .hbm, ⟨24, _⟩ => ⟨S16384x2x8, .f32⟩
  | .hbm, ⟨25, _⟩ => ⟨S_, .f32⟩
  | .hbm, ⟨26, _⟩ => ⟨S16384x8, .f32⟩
  | .hbm, ⟨27, _⟩ => ⟨S1x16384x8, .f32⟩
  | .hbm, ⟨28, _⟩ => ⟨S_, .f32⟩
  | .hbm, ⟨29, _⟩ => ⟨S_, .f32⟩
  | .hbm, ⟨30, _⟩ => ⟨S1x16384x8, .f32⟩
  | .hbm, ⟨31, _⟩ => ⟨S16384x8, .f32⟩
  | .hbm, ⟨32, _⟩ => ⟨S16384x8, .f32⟩
  | .hbm, ⟨33, _⟩ => ⟨S16384x2x1, .i32⟩
  | .hbm, ⟨34, _⟩ => ⟨S1x1x8, .i32⟩
  | .hbm, ⟨35, _⟩ => ⟨S16384x2x8, .i32⟩
  | .hbm, ⟨36, _⟩ => ⟨S16384x2x8, .i32⟩
  | .hbm, ⟨37, _⟩ => ⟨S16384x2x8, .i1⟩
  | .hbm, ⟨38, _⟩ => ⟨S16384x2x8, .f32⟩
  | .hbm, ⟨39, _⟩ => ⟨S16384x1x8, .f32⟩
  | .hbm, ⟨40, _⟩ => ⟨S16384x2x8, .f32⟩
  | .hbm, ⟨41, _⟩ => ⟨S16384x2x8, .f32⟩
  | .hbm, ⟨42, _⟩ => ⟨S_, .f32⟩
  | .hbm, ⟨43, _⟩ => ⟨S16384x2, .f32⟩
  | .hbm, ⟨44, _⟩ => ⟨S16384x2, .f32⟩
  | .hbm, ⟨45, _⟩ => ⟨S16384x6, .f32⟩
  | .hbm, ⟨46, _⟩ => ⟨S_, .f32⟩
  | .hbm, ⟨47, _⟩ => ⟨S8, .f32⟩
  | .hbm, ⟨48, _⟩ => ⟨S1x8, .f32⟩
  | .hbm, ⟨49, _⟩ => ⟨S_, .i32⟩
  | .hbm, ⟨50, _⟩ => ⟨S_, .f32⟩
  | .hbm, ⟨51, _⟩ => ⟨S16384x128, .f32⟩
  | .hbm, ⟨52, _⟩ => ⟨S_, .i32⟩
  | .hbm, ⟨53, _⟩ => ⟨S_, .f32⟩
  | .hbm, ⟨54, _⟩ => ⟨S1x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_call1_call0_cst : Ref sig .tc := ⟨.hbm, 28, rfl⟩
abbrev main_call1_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_c : Ref sig .tc := ⟨.hbm, 49, rfl⟩
abbrev main_call3_v0 : Ref sig .tc := ⟨.hbm, 50, rfl⟩
abbrev main_v27 : Ref sig .tc := ⟨.hbm, 51, rfl⟩
abbrev main_c_5 : Ref sig .tc := ⟨.hbm, 52, rfl⟩
abbrev main_call4_v0 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The launch of the experts' feed-forward: what the host operations leave, the tables of words the index maps read,
the blocks of the four inputs, and when the body's three branches are taken. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- All the operations the host does before the launch, in order. -/
abbrev hostAll : List (HloOp τ sig (Elt F)) := List.flatten [hostOps0, hostOps0_1, hostOps0_2, hostOps0_3, hostOps0_4, hostOps0_5, hostOps0_6, hostOps0_7]

/-- The buffers of core `c` when the launch begins. -/
abbrev V (c : Dev nD) (b : Ref sig .tc) : Buf (Elt F) ((c : Thread nD τ).loc b) :=
  StableHlo.after hostAll (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 800000 in
/-- The program is its host operations followed by the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- A buffer that no host operation writes is at the launch as it was given. -/
theorem V_of_unwritten (c : Dev nD) (b : Ref sig .tc) (h : ∀ op ∈ (hostAll : List (HloOp τ sig (Elt F))), Proc.devRef .tc b ∉ op.writes) :
    V m c b = m ((c : Thread nD τ).loc b) :=
  StableHlo.after_of_forall_not_mem (b := Proc.devRef .tc b) _ _ h

theorem V_arg0 (c : Dev nD) : V m c main_arg0 = m ((c : Thread nD τ).loc main_arg0) :=
  V_of_unwritten m c main_arg0 (List.forall_iff_forall_mem.mp (by
    simp only [hostAll, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  V_of_unwritten m c main_arg1 (List.forall_iff_forall_mem.mp (by
    simp only [hostAll, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg2 (c : Dev nD) : V m c main_arg2 = m ((c : Thread nD τ).loc main_arg2) :=
  V_of_unwritten m c main_arg2 (List.forall_iff_forall_mem.mp (by
    simp only [hostAll, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg3 (c : Dev nD) : V m c main_arg3 = m ((c : Thread nD τ).loc main_arg3) :=
  V_of_unwritten m c main_arg3 (List.forall_iff_forall_mem.mp (by
    simp only [hostAll, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg4 (c : Dev nD) : V m c main_arg4 = m ((c : Thread nD τ).loc main_arg4) :=
  V_of_unwritten m c main_arg4 (List.forall_iff_forall_mem.mp (by
    simp only [hostAll, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The tables -/

/-- The three tables of words at the launch. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Every block the index maps name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body receives them. -/
abbrev tm0 : Memref sig .tc .smem S72 .i32 := Memref.whole main_v30
abbrev htm0 : tm0.IsWhole := Memref.isWhole_whole _
abbrev tm1 : Memref sig .tc .smem S72 .i32 := Memref.whole main_v20
abbrev htm1 : tm1.IsWhole := Memref.isWhole_whole _
abbrev tm2 : Memref sig .tc .smem S72 .i32 := Memref.whole main_v33
abbrev htm2 : tm2.IsWhole := Memref.isWhole_whole _

abbrev TbBuf (c : Dev nD) {S : Shape} {e : EltTy} (M : Memref sig .tc .smem S e) : Type := Buf (Elt F) (M.view.loc (c : Thread nD τ))
/-- The body's half of a table. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tm0 (tbl m 0) ∗ tbPt c tm1 (tbl m 1) ∗ tbPt c tm2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The word of the second table the body reads at coordinates `i`. -/
abbrev okWord (c : Dev nD) (i : grid0.Coords) (f : TbBuf (F := F) c tm1) : BitVec 32 :=
  tm1.view.readAt (Elt F) (Rect.unit (s := S72) (k0_off1 i) S1.size (k0_off1_inb i)).toLoadRect f (Shape.Idx.first (numel1_S1.symm ▸ Nat.one_pos))

/-! ## The blocks -/

/-- The block of window `w` at point `t`, in its array as it is at the launch. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branches -/

/-- The first branch: the tile is in use and the block of hidden columns is the first. -/
abbrev startsAt (i : grid0.Coords) (v1 : BitVec 32) : Prop := (Scalar.cmpi .ne (Scalar.extui (Scalar.andi (Scalar.cmpi .eq v1 1#32) (Scalar.cmpi .eq (BitVec.ofNat 32 (i 1).val) 0#32))) 0#32) = 1#1
/-- The second branch: the tile is in use. -/
abbrev worksAt (v1 : BitVec 32) : Prop := (Scalar.cmpi .ne (Scalar.extui (Scalar.cmpi .eq v1 1#32)) 0#32) = 1#1
/-- The third branch: the block of hidden columns is the last. -/
abbrev endsAt (i : grid0.Coords) : Prop := k0_cond3 i = 1#1

theorem coords_0 (t : Fin grid0.N) : (grid0.coords t 0).val = t.val / 7 := by
  have ht : t.val < 504 := Nat.lt_of_lt_of_eq t.isLt N_0
  have e0 : (grid0.coords t 0).val = t.val / 7 % 72 := Pipeline.Grid.coords_val t 0 (by decide) rfl
  omega

theorem coords_1 (t : Fin grid0.N) : (grid0.coords t 1).val = t.val % 7 := by
  have e1 : (grid0.coords t 1).val = t.val / 1 % 7 := Pipeline.Grid.coords_val t 1 (by decide) rfl
  omega

theorem endsAt_iff (t : Fin grid0.N) : endsAt (grid0.coords t) ↔ t.val % 7 = 6 := by
  have ht : t.val < 504 := Nat.lt_of_lt_of_eq t.isLt N_0
  have e1 := coords_1 t
  simp only [endsAt, k0_cond3, e1]
  word_cmp

theorem cmpi_eq_of_ne {v w : BitVec 32} (h : v ≠ w) : Scalar.cmpi .eq v w = 0#1 := by
  have hb : (v == w) = false := by simp [h]
  show BitVec.ofBool (v == w) = 0#1
  rw [hb]; rfl

theorem worksAt_iff (v : BitVec 32) : worksAt v ↔ v = 1#32 := by
  unfold worksAt
  by_cases h : v = 1#32
  · subst h; simp; decide
  · simp only [h, iff_false]
    rw [cmpi_eq_of_ne h]; decide

theorem startsAt_iff (t : Fin grid0.N) (v : BitVec 32) : startsAt (grid0.coords t) v ↔ v = 1#32 ∧ t.val % 7 = 0 := by
  have e1 := coords_1 t
  unfold startsAt
  by_cases h : v = 1#32
  · subst h
    simp only [e1, true_and]
    by_cases h0 : t.val % 7 = 0
    · rw [h0]; simp; decide
    · rw [cmpi_eq_of_ne (w := 0#32) (fun hh => h0 (by have := congrArg BitVec.toNat hh; simp at this; omega))]
      simp only [h0, iff_false]; decide
  · rw [cmpi_eq_of_ne h]
    simp only [h, _root_.false_and, iff_false]
    rcases BitVec.eq_zero_or_eq_one (Scalar.cmpi .eq (BitVec.ofNat 32 (grid0.coords t 1).val) 0#32) with h2 | h2 <;> rw [h2] <;> decide

theorem live_0 (hO : Ok m) : ∀ t : Fin (cfgM m hO).N, (cfgM m hO).idle 0 (grid0.coords t) = false :=
  (fun _ => rfl : ∀ t : Fin grid0.N, idle0 0 (grid0.coords t) = false)
theorem live_1 (hO : Ok m) : ∀ t : Fin (cfgM m hO).N, (cfgM m hO).idle 1 (grid0.coords t) = false :=
  (fun _ => rfl : ∀ t : Fin grid0.N, idle0 1 (grid0.coords t) = false)
theorem live_2 (hO : Ok m) : ∀ t : Fin (cfgM m hO).N, (cfgM m hO).idle 2 (grid0.coords t) = false :=
  (fun _ => rfl : ∀ t : Fin grid0.N, idle0 2 (grid0.coords t) = false)
theorem live_3 (hO : Ok m) : ∀ t : Fin (cfgM m hO).N, (cfgM m hO).idle 3 (grid0.coords t) = false :=
  (fun _ => rfl : ∀ t : Fin grid0.N, idle0 3 (grid0.coords t) = false)
theorem idle_out (hO : Ok m) : ∀ t : Fin (cfgM m hO).N, ¬endsAt (grid0.coords t) → (cfgM m hO).idle 4 (grid0.coords t) = true :=
  (by decide +kernel : ∀ t : Fin grid0.N, ¬endsAt (grid0.coords t) → idle0 4 (grid0.coords t) = true)
theorem noFlush_out (hO : Ok m) : ∀ t : Fin (cfgM m hO).N, ¬endsAt (grid0.coords t) → ((cfgM m hO).win 4).flush t = false :=
  (by decide +kernel : ∀ t : Fin grid0.N, ¬endsAt (grid0.coords t) → Pipeline.Window.flushOf grid0 true cc0_transform_4 t = false)
theorem live_out (hO : Ok m) : ∀ t : Fin (cfgM m hO).N, endsAt (grid0.coords t) → (cfgM m hO).idle 4 (grid0.coords t) = false :=
  (by decide +kernel : ∀ t : Fin grid0.N, endsAt (grid0.coords t) → idle0 4 (grid0.coords t) = false)

/-! ## The memrefs of the body -/

abbrev ms0 (hO : Ok m) (t : Fin (cfgM m hO).N) : Memref sig .tc .vmem S512x2048 .f32 := spec0_0.stage ((cfgM m hO).slots t 0)
abbrev ms1 (hO : Ok m) (t : Fin (cfgM m hO).N) : Memref sig .tc .vmem S1x2048x1024 .bf16 := spec0_1.stage ((cfgM m hO).slots t 1)
abbrev ms2 (hO : Ok m) (t : Fin (cfgM m hO).N) : Memref sig .tc .vmem S1x2048x1024 .bf16 := spec0_2.stage ((cfgM m hO).slots t 2)
abbrev ms3 (hO : Ok m) (t : Fin (cfgM m hO).N) : Memref sig .tc .vmem S1x1024x2048 .bf16 := spec0_3.stage ((cfgM m hO).slots t 3)
abbrev ms4 (hO : Ok m) (t : Fin (cfgM m hO).N) : Memref sig .tc .vmem S512x2048 .f32 := spec0_4.stage ((cfgM m hO).slots t 4)

/-- The scratch holding the converted block of tokens. -/
abbrev sx : Memref sig .tc .vmem S512x2048 .bf16 := Memref.whole cc0_scratch0
/-- The scratch holding the running sum. -/
abbrev sa : Memref sig .tc .vmem S512x2048 .f32 := Memref.whole cc0_scratch1

theorem PhiA_eq (c : Dev nD) : (Pipeline.ΦA spec0 c : sProp 𝕄) = iprop(iprop((∃ d, owns (c : Thread nD τ) sx fullShare d) ∗ (∃ d, owns (c : Thread nD τ) sa fullShare d)) ∗ (∃ r, prngReg c r)) := by
  unfold Pipeline.ΦA; rw [scopedRest0_eq]; simp only [sx, sa, owns_whole]; try rfl

end Cert.Moe

end
-- ==== Proof.Body.lean ====
module

public import proofs.«01_k».proof.Proof.Setup
public import Idealize.ShloMosaic.Lib.VecWindow

/-! The kernel body at one point of the grid, as a triple with explicit contents. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole
variable {sig' : RefSig} {κ : Kind} {sp : Space} {s : Shape} {e : EltTy} {Val : EltTy → Type}

/-- After a store of the whole buffer it holds what was stored. -/
theorem stored (v : View sig' κ sp s e) (f : v.ty.Contents Val) {off : Fin s.rank → ℕ} (inb : ∀ a, off a + s.size a ≤ s.size a)
    (w : s.Idx → Val e) (L : List (View.Piece Val s e)) :
    v.read Val (v.writes Val f ((⟨Rect.unit off (no_index s.size) inb, w⟩ : View.Piece Val s e) :: L)) = w :=
  View.read_writes_full v f inb w L

/-- A load of the whole buffer reads what it holds. -/
theorem loaded (v : View sig' κ sp s e) (f : v.ty.Contents Val) {off : Fin s.rank → ℕ} (inb : ∀ a, off a + s.size a ≤ s.size a) :
    v.readAt Val (Rect.unit off (no_index s.size) inb).toLoadRect f = v.read Val f :=
  View.readAt_full v f inb

/-- A load of the whole buffer after a store of the whole buffer reads what was stored. -/
theorem reloaded [∀ e, Nonempty (Val e)] (v : View sig' κ sp s e) {off off' : Fin s.rank → ℕ} (inb : ∀ a, off a + s.size a ≤ s.size a)
    (inb' : ∀ a, off' a + s.size a ≤ s.size a) (w : s.Idx → Val e) (L : List (View.Piece Val s e)) :
    v.readCov ((⟨Rect.unit off' (no_index s.size) inb', w⟩ : View.Piece Val s e) :: L) (Rect.unit off (no_index s.size) inb).toLoadRect = w :=
  View.readCov_full v inb inb' w L

end Whole

/-- The converted tokens after a point. -/
def newX (i : grid0.Coords) (v : BitVec 32) (x : Vec F S512x2048 .f32) (xb : Vec F S512x2048 .bf16) : Vec F S512x2048 .bf16 :=
  if startsAt i v then k0_pay1 x else xb

/-- The running sum after a point. -/
def newA (i : grid0.Coords) (v : BitVec 32) (xb : Vec F S512x2048 .bf16) (wg wu : Vec F S1x2048x1024 .bf16)
    (wd : Vec F S1x1024x2048 .bf16) (a : Vec F S512x2048 .f32) : Vec F S512x2048 .f32 :=
  if worksAt v then k0_pay3 xb wg wu (if startsAt i v then k0_pay2 else a) wd else if startsAt i v then k0_pay2 else a

/-- The output's buffer after a point. -/
def newO (i : grid0.Coords) (v : BitVec 32) (a o : Vec F S512x2048 .f32) : Vec F S512x2048 .f32 :=
  if endsAt i then k0_pay4 v a else o

set_option maxHeartbeats 4000000 in
theorem body_triple (c : Dev nD) (i : grid0.Coords) (arg5 : Memref sig .tc .vmem S512x2048 .f32) (harg5 : arg5.IsWhole)
    (arg6 : Memref sig .tc .vmem S1x2048x1024 .bf16) (harg6 : arg6.IsWhole) (arg7 : Memref sig .tc .vmem S1x2048x1024 .bf16) (harg7 : arg7.IsWhole)
    (arg8 : Memref sig .tc .vmem S1x1024x2048 .bf16) (harg8 : arg8.IsWhole) (arg9 : Memref sig .tc .vmem S512x2048 .f32) (harg9 : arg9.IsWhole)
    (arg10 : Memref sig .tc .vmem S512x2048 .bf16) (harg10 : arg10.IsWhole) (arg11 : Memref sig .tc .vmem S512x2048 .f32) (harg11 : arg11.IsWhole)
    (x : Vec F S512x2048 .f32) (wg wu : Vec F S1x2048x1024 .bf16) (wd : Vec F S1x1024x2048 .bf16) (o : Vec F S512x2048 .f32)
    (xb : Vec F S512x2048 .bf16) (a : Vec F S512x2048 .f32)
    (t0 : TbBuf (F := F) c tm0) (t1 : TbBuf (F := F) c tm1) (t2 : TbBuf (F := F) c tm2) (E : Set ℕ) (K : PUnit → sProp 𝕄) :
    iprop(owns (c : Thread nD τ) arg5 fullShare x ∗ owns (c : Thread nD τ) arg6 fullShare wg ∗ owns (c : Thread nD τ) arg7 fullShare wu
        ∗ owns (c : Thread nD τ) arg8 fullShare wd ∗ owns (c : Thread nD τ) arg9 fullShare o ∗ owns (c : Thread nD τ) arg10 fullShare xb
        ∗ owns (c : Thread nD τ) arg11 fullShare a ∗ tbPt c tm0 t0 ∗ tbPt c tm1 t1 ∗ tbPt c tm2 t2
        ∗ (iprop(owns (c : Thread nD τ) arg5 fullShare x ∗ owns (c : Thread nD τ) arg6 fullShare wg ∗ owns (c : Thread nD τ) arg7 fullShare wu
            ∗ owns (c : Thread nD τ) arg8 fullShare wd
            ∗ owns (c : Thread nD τ) arg9 fullShare (newO i (okWord c i t1) (newA i (okWord c i t1) (newX i (okWord c i t1) x xb) wg wu wd a) o)
            ∗ owns (c : Thread nD τ) arg10 fullShare (newX i (okWord c i t1) x xb)
            ∗ owns (c : Thread nD τ) arg11 fullShare (newA i (okWord c i t1) (newX i (okWord c i t1) x xb) wg wu wd a)
            ∗ tbPt c tm0 t0 ∗ tbPt c tm1 t1 ∗ tbPt c tm2 t2) -∗ K ⟨⟩))
      ⊢ wp frame (wpE (defs₀ (F := F)) Variants.none c none) E
          (cc0_moe_ffn i tm0 htm0 tm1 htm1 tm2 htm2 arg5 harg5 arg6 harg6 arg7 harg7 arg8 harg8 arg9 harg9 arg10 harg10 arg11 harg11) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hf5; obtain rfl := harg11.eq_unread hf6
  by_cases h0 : startsAt i (okWord c i t1) <;> by_cases h1 : worksAt (okWord c i t1) <;> by_cases h2 : endsAt i
  all_goals
    sl_exec (disch := first | sl_exact h0 | sl_exact h1 | sl_exact h2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _
      isplitr
      swap
      · iexact H4
      ipureintro
      sl_unfold_run_names
      try unfold newX
      try unfold newA
      try unfold newO
      (try simp only [if_pos h0]); (try simp only [if_neg h0]); (try simp only [if_pos h1]); (try simp only [if_neg h1])
      (try simp only [if_pos h2]); (try simp only [if_neg h2])
      (try simp only [stored, loaded, reloaded, hf0, hf1, hf2, hf3, hf4, hf5, hf6]); try rfl
    isplitl [H5]
    · iexists _
      isplitr
      swap
      · iexact H5
      ipureintro
      sl_unfold_run_names
      try unfold newX
      try unfold newA
      try unfold newO
      (try simp only [if_pos h0]); (try simp only [if_neg h0]); (try simp only [if_pos h1]); (try simp only [if_neg h1])
      (try simp only [if_pos h2]); (try simp only [if_neg h2])
      (try simp only [stored, loaded, reloaded, hf0, hf1, hf2, hf3, hf4, hf5, hf6]); try rfl
    isplitl [H6]
    · iexists _
      isplitr
      swap
      · iexact H6
      ipureintro
      sl_unfold_run_names
      try unfold newX
      try unfold newA
      try unfold newO
      (try simp only [if_pos h0]); (try simp only [if_neg h0]); (try simp only [if_pos h1]); (try simp only [if_neg h1])
      (try simp only [if_pos h2]); (try simp only [if_neg h2])
      (try simp only [stored, loaded, reloaded, hf0, hf1, hf2, hf3, hf4, hf5, hf6]); try rfl
    isplitl [HT0]; · iexact HT0
    isplitl [HT1]; · iexact HT1
    iexact HT2

end Cert.Moe

end
-- ==== Proof.Run.lean ====
module

public import proofs.«01_k».proof.Proof.Body
public import Idealize.ShloMosaic.Lib.Claim

/-! The run of the launch. Between two points the scratch holds, while a tile in use is worked on, its converted tokens
and the sum over the blocks of hidden columns so far; otherwise anything. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the points -/

/-- The point of tile `i` and block `f` of hidden columns. -/
def pt (hO : Ok m) (n : ℕ) : Fin (cfgM m hO).N := ⟨n % 504, by
  have : (cfgM m hO).N = 504 := N_0
  omega⟩

theorem pt_val (hO : Ok m) (t : Fin (cfgM m hO).N) : pt m hO t.val = t := by
  have hN : t.val < 504 := lt_of_lt_of_eq t.isLt (show (cfgM m hO).N = 504 from N_0)
  exact Fin.ext (Nat.mod_eq_of_lt hN)

def bx (hO : Ok m) (c : Dev nD) (t : Fin (cfgM m hO).N) : Vec F S512x2048 .f32 := iblk m hO c 0 t
def bg (hO : Ok m) (c : Dev nD) (t : Fin (cfgM m hO).N) : Vec F S1x2048x1024 .bf16 := iblk m hO c 1 t
def bu (hO : Ok m) (c : Dev nD) (t : Fin (cfgM m hO).N) : Vec F S1x2048x1024 .bf16 := iblk m hO c 2 t
def bd (hO : Ok m) (c : Dev nD) (t : Fin (cfgM m hO).N) : Vec F S1x1024x2048 .bf16 := iblk m hO c 3 t

/-- Entry `i` of a table. -/
def ent (i : ℕ) : S72.Idx := fun a => ⟨i % 72, by
  have : S72.size a = 72 := by fin_cases a; rfl
  omega⟩

/-- Whether tile `i` is in use: its word in the second table. -/
def flag (i : ℕ) : BitVec 32 := tbl m 1 (ent i)

theorem off_eq (hO : Ok m) (t : Fin (cfgM m hO).N) (a : Fin 1) : k0_off1 (grid0.coords t) a = t.val / 7 := by
  have e0 := coords_0 t
  have hN : t.val < 504 := lt_of_lt_of_eq t.isLt (show (cfgM m hO).N = 504 from N_0)
  fin_cases a
  show (Scalar.indexCast (BitVec.ofNat 32 (grid0.coords t 0).val)).toNat = _
  simp [e0, Scalar.indexCast]; omega

theorem okWord_at (c : Dev nD) (i : grid0.Coords) (f : TbBuf (F := F) c tm1) (n : ℕ) (h : ∀ a, k0_off1 i a = n) (hn : n < 72) :
    okWord c i f = f (ent n) := by
  unfold okWord
  rw [View.readAt_apply]
  refine congrArg f (funext fun a => Fin.ext ?_)
  show k0_off1 i a + 1 * 0 = n % 72
  rw [h a]; omega

theorem okWord_eq (hO : Ok m) (c : Dev nD) (t : Fin (cfgM m hO).N) : okWord c (grid0.coords t) (tbl m 1) = flag m (t.val / 7) := by
  have hN : t.val < 504 := lt_of_lt_of_eq t.isLt (show (cfgM m hO).N = 504 from N_0)
  exact okWord_at c (grid0.coords t) (tbl m 1) (t.val / 7) (off_eq m hO t) (by omega)

/-- The sum over the first `f` blocks of hidden columns of tile `i`. -/
def part (hO : Ok m) (c : Dev nD) (i : ℕ) : ℕ → Vec F S512x2048 .f32
  | 0 => k0_pay2
  | f + 1 => k0_pay3 (k0_pay1 (bx m hO c (pt m hO (7 * i)))) (bg m hO c (pt m hO (7 * i + f))) (bu m hO c (pt m hO (7 * i + f)))
      (part hO c i f) (bd m hO c (pt m hO (7 * i + f)))

/-- What is known of the scratch before point `n`. -/
def Inv (hO : Ok m) (c : Dev nD) (n : ℕ) (xb : Vec F S512x2048 .bf16) (a : Vec F S512x2048 .f32) : Prop :=
  n % 7 ≠ 0 → flag m (n / 7) = 1#32 → xb = k0_pay1 (bx m hO c (pt m hO (7 * (n / 7)))) ∧ a = part m hO c (n / 7) (n % 7)

/-- The output's block after the last point of a tile. -/
def outAt (hO : Ok m) (c : Dev nD) (t : Fin (cfgM m hO).N) : Vec F S512x2048 .f32 :=
  k0_pay4 (flag m (t.val / 7)) (part m hO c (t.val / 7) 7)

theorem pay4_unused {v : BitVec 32} (h : v ≠ 1#32) (a a' : Vec F S512x2048 .f32) : k0_pay4 v a = k0_pay4 v a' := by
  unfold k0_pay4
  simp only [cmpi_eq_of_ne h]
  rfl

/-- One point of a tile in use carries the sum one block further. -/
theorem step_used (hO : Ok m) (c : Dev nD) (t : Fin (cfgM m hO).N) (xb : Vec F S512x2048 .bf16) (a : Vec F S512x2048 .f32)
    (hI : Inv m hO c t.val xb a) (hv : flag m (t.val / 7) = 1#32) :
    newX (grid0.coords t) (flag m (t.val / 7)) (bx m hO c t) xb = k0_pay1 (bx m hO c (pt m hO (7 * (t.val / 7))))
    ∧ newA (grid0.coords t) (flag m (t.val / 7)) (newX (grid0.coords t) (flag m (t.val / 7)) (bx m hO c t) xb) (bg m hO c t) (bu m hO c t) (bd m hO c t) a
      = part m hO c (t.val / 7) (t.val % 7 + 1) := by
  have ht : 7 * (t.val / 7) + t.val % 7 = t.val := by omega
  unfold newA
  rw [if_pos ((worksAt_iff _).2 hv)]
  have key : newX (grid0.coords t) (flag m (t.val / 7)) (bx m hO c t) xb = k0_pay1 (bx m hO c (pt m hO (7 * (t.val / 7))))
      ∧ (if startsAt (grid0.coords t) (flag m (t.val / 7)) then k0_pay2 else a) = part m hO c (t.val / 7) (t.val % 7) := by
    unfold newX
    by_cases h0 : t.val % 7 = 0
    · rw [if_pos ((startsAt_iff t _).2 ⟨hv, h0⟩), if_pos ((startsAt_iff t _).2 ⟨hv, h0⟩), h0]
      rw [h0, Nat.add_zero] at ht
      rw [ht, pt_val]
      exact ⟨rfl, rfl⟩
    · have hn : ¬startsAt (grid0.coords t) (flag m (t.val / 7)) := fun h => h0 ((startsAt_iff t _).1 h).2
      rw [if_neg hn, if_neg hn]
      exact hI h0 hv
  refine ⟨key.1, ?_⟩
  rw [key.1, key.2]
  show _ = k0_pay3 _ (bg m hO c (pt m hO (7 * (t.val / 7) + t.val % 7))) _ _ _
  rw [ht, pt_val]

/-- One point keeps what is known of the scratch. -/
theorem step_inv (hO : Ok m) (c : Dev nD) (t : Fin (cfgM m hO).N) (xb : Vec F S512x2048 .bf16) (a : Vec F S512x2048 .f32)
    (hI : Inv m hO c t.val xb a) :
    Inv m hO c (t.val + 1) (newX (grid0.coords t) (flag m (t.val / 7)) (bx m hO c t) xb)
      (newA (grid0.coords t) (flag m (t.val / 7)) (newX (grid0.coords t) (flag m (t.val / 7)) (bx m hO c t) xb) (bg m hO c t) (bu m hO c t) (bd m hO c t) a) := by
  intro h1 hv
  have e1 : (t.val + 1) / 7 = t.val / 7 := by omega
  have e2 : (t.val + 1) % 7 = t.val % 7 + 1 := by omega
  rw [e1] at hv
  rw [e1, e2]
  exact step_used m hO c t xb a hI hv

/-- The last point of a tile stores its block of the result. -/
theorem step_out (hO : Ok m) (c : Dev nD) (t : Fin (cfgM m hO).N) (xb : Vec F S512x2048 .bf16) (a o : Vec F S512x2048 .f32)
    (hI : Inv m hO c t.val xb a) (h6 : t.val % 7 = 6) :
    newO (grid0.coords t) (flag m (t.val / 7)) (newA (grid0.coords t) (flag m (t.val / 7)) (newX (grid0.coords t) (flag m (t.val / 7)) (bx m hO c t) xb) (bg m hO c t) (bu m hO c t) (bd m hO c t) a) o
      = outAt m hO c t := by
  unfold newO outAt
  rw [if_pos ((endsAt_iff t).2 h6)]
  by_cases hv : flag m (t.val / 7) = 1#32
  · rw [(step_used m hO c t xb a hI hv).2, h6]
  · exact pay4_unused hv _ _

/-! ## The proof data -/

/-- The invariant before point `n`. -/
def Phi (hO : Ok m) (c : Dev nD) (n : ℕ) : sProp 𝕄 :=
  iprop(iprop((∃ xb a, ⌜Inv m hO c n xb a⌝ ∗ owns (c : Thread nD τ) sx fullShare xb ∗ owns (c : Thread nD τ) sa fullShare a)
    ∗ (∃ r, prngReg c r)) ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

theorem before_0 (hO : Ok m) (c : Dev nD) (t : Fin (cfgM m hO).N) (d) : (dats m hO 0 c).before 0 t d = bx m hO c t :=
  before_0_of m hO (dats m hO 0 c) (A_eq m hO c 0) (after_0 m hO c) t d
theorem before_1 (hO : Ok m) (c : Dev nD) (t : Fin (cfgM m hO).N) (d) : (dats m hO 0 c).before 1 t d = bg m hO c t :=
  before_1_of m hO (dats m hO 0 c) (A_eq m hO c 1) (after_1 m hO c) t d
theorem before_2 (hO : Ok m) (c : Dev nD) (t : Fin (cfgM m hO).N) (d) : (dats m hO 0 c).before 2 t d = bu m hO c t :=
  before_2_of m hO (dats m hO 0 c) (A_eq m hO c 2) (after_2 m hO c) t d
theorem before_3 (hO : Ok m) (c : Dev nD) (t : Fin (cfgM m hO).N) (d) : (dats m hO 0 c).before 3 t d = bd m hO c t :=
  before_3_of m hO (dats m hO 0 c) (A_eq m hO c 3) (after_3 m hO c) t d

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- What the body leaves in the output's buffer is what the proof data say. -/
theorem leaves_out (hO : Ok m) (c : Dev nD) (t : Fin (cfgM m hO).N) (xb : Vec F S512x2048 .bf16) (a o : Vec F S512x2048 .f32)
    (hI : Inv m hO c t.val xb a) (d) (ho : o = (dats m hO 0 c).before 4 t d) :
    owns (c : Thread nD τ) (ms4 m hO t) fullShare
      (newO (grid0.coords t) (flag m (t.val / 7)) (newA (grid0.coords t) (flag m (t.val / 7)) (newX (grid0.coords t) (flag m (t.val / 7)) (bx m hO c t) xb) (bg m hO c t) (bu m hO c t) (bd m hO c t) a) o)
    ⊢ ((dats m hO 0 c).leavesExact 4 t : sProp 𝕄) := by
  by_cases h6 : t.val % 7 = 6
  · rw [step_out m hO c t xb a o hI h6]
    rw [show (dats m hO 0 c).leavesExact 4 t = owns (c : Thread nD τ) (ms4 m hO t) fullShare ((dats m hO 0 c).after 4 t) from by
      unfold Dat.leavesExact; rw [live_out m hO t ((endsAt_iff t).2 h6)]; try rfl, after_4]
  · have hn : ¬endsAt (grid0.coords t) := fun h => h6 ((endsAt_iff t).1 h)
    unfold newO
    rw [if_neg hn, Dat.leavesExact_idle (dats m hO 0 c) 4 t (idle_out m hO t hn) (noFlush_out m hO t hn)]
    subst ho
    iintro H
    iexists _; iexact H

set_option maxHeartbeats 3200000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before_0, before_1, before_2, before_3]
  rw [show (dats m hO 0 c).owesAt () t.succ = (dats m hO 0 c).owesAt () t.castSucc from rfl]
  rw [show (dats m hO 0 c).Φ t.succ = Phi m hO c (t.val + 1) from rfl, show (dats m hO 0 c).Φ t.castSucc = Phi m hO c t.val from rfl]
  unfold Phi
  rw [PhiT_eq]
  rw [show (dats m hO 0 c).leavesExact 0 t = owns (c : Thread nD τ) (ms0 m hO t) fullShare (bx m hO c t) from by
      unfold Dat.leavesExact; rw [live_0 m hO t, after_0]; rfl]
  rw [show (dats m hO 0 c).leavesExact 1 t = owns (c : Thread nD τ) (ms1 m hO t) fullShare (bg m hO c t) from by
      unfold Dat.leavesExact; rw [live_1 m hO t, after_1]; rfl]
  rw [show (dats m hO 0 c).leavesExact 2 t = owns (c : Thread nD τ) (ms2 m hO t) fullShare (bu m hO c t) from by
      unfold Dat.leavesExact; rw [live_2 m hO t, after_2]; rfl]
  rw [show (dats m hO 0 c).leavesExact 3 t = owns (c : Thread nD τ) (ms3 m hO t) fullShare (bd m hO c t) from by
      unfold Dat.leavesExact; rw [live_3 m hO t, after_3]; rfl]
  iintro ⟨⟨⟨⟨%xb, %a, %hI, HS0, HS1⟩, Hg⟩, ⟨HT0, HT1, HT2⟩⟩, Ho, ⟨%d0, H0⟩, ⟨%d1, H1⟩, ⟨%d2, H2⟩, ⟨%d3, H3⟩, ⟨%d4, H4⟩⟩
  iapply (body_triple c (grid0.coords t) _ _ _ _ _ _ _ _ _ _ _ _ _ _ (bx m hO c t) (bg m hO c t) (bu m hO c t) (bd m hO c t)
    ((dats m hO 0 c).before 4 t d4) xb a (tbl m 0) (tbl m 1) (tbl m 2) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  isplitl [HT2]; · iexact HT2
  rw [okWord_eq m hO c t]
  iintro ⟨H0, H1, H2, H3, H4, HS0, HS1, HT0, HT1, HT2⟩
  isplitl [HS0 HS1 Hg HT0 HT1 HT2]
  · isplitl [HS0 HS1 Hg]
    · isplitl [HS0 HS1]
      · iexists _; iexists _
        isplitr
        · ipureintro; exact step_inv m hO c t xb a hI
        isplitl [HS0]; · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iapply (leaves_out m hO c t xb a _ hI d4 rfl)
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq]
  unfold Phi
  iintro ⟨⟨⟨⟨%d0, HS0⟩, ⟨%d1, HS1⟩⟩, Hg⟩, HT⟩
  isplitl [HS0 HS1 Hg]
  · isplitl [HS0 HS1]
    · iexists d0; iexists d1
      isplitr
      · ipureintro; exact fun h => absurd rfl h
      isplitl [HS0]; · iexact HS0
      iexact HS1
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (Fin.last (cfgM m hO).N).val from rfl, PhiA_eq]
  unfold Phi
  iintro ⟨⟨⟨%xb, %a, -, HS0, HS1⟩, Hg⟩, -⟩
  isplitl [HS0 HS1]
  · isplitl [HS0]
    · iexists _; iexact HS0
    iexists _; iexact HS1
  iexact Hg

set_option backward.isDefEq.respectTransparency.types false in
/-- The launch runs to the end, with the arrays at what the proof data give and the counters at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run, read at the arguments and at the result. -/
theorem run_args (hO : Ok m) : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v37) = (dats m hO 0 c).arrAt 4 (cfgM m hO).N)
      ∧ r.2.sem = fun _ => 0) :=
  (θ_run defs _ _).mono (fun _ h => ⟨fun c => ⟨((h.1 c).1 0).trans (((dats m hO 0 c).arrAt_in 0 rfl _).trans ((A_eq m hO c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      (h.1 c).1 4⟩, h.2⟩) (run_main m ρ hO)

end Cert.Moe

end
-- ==== Proof.Tables.lean ====
module

public import proofs.«01_k».proof.Proof.Setup
public import Idealize.ShloMosaic.Lib.StableHlo.RunRead
public import Idealize.ShloMosaic.Lib.Pointwise
public import Idealize.ShloMosaic.Lib.Tactic.CleanTypes

/-! The words of the three tables: which expert a tile belongs to, whether the tile is in use, and which tile of rows it
reads. Each is read as a word computed from where the groups of tiles end. -/

@[expose] public section

set_option maxRecDepth 16384

noncomputable section

namespace Cert.Moe

open Cert.KernelIdeal Cert.KernelIdeal.Gen
open Idealize.ShloMosaic Idealize.ShloMosaic.TcCoe Idealize.ShloMosaic.Tactic

variable {F : FTy → Type} [FloatOps F]

/-- The host operations that find where the groups of tiles end. -/
abbrev headOps : List (HloOp τ sig (Elt F)) := List.flatten [hostOps0, hostOps0_1, hostOps0_2]
/-- The host operations after those. -/
abbrev tailOps : List (HloOp τ sig (Elt F)) := List.flatten [hostOps0_3, hostOps0_4, hostOps0_5, hostOps0_6, hostOps0_7]

/-- Running one list of host operations after another. -/
theorem after_two (A B : List (HloOp τ sig (Elt F))) (X : Valuation τ sig (Elt F)) :
    StableHlo.after (A ++ B) X = StableHlo.after B (StableHlo.after A X) := by
  induction A generalizing X with
  | nil => rfl
  | cons a A ih => exact ih _

/-- The last tile of each expert's group, counted from one, out of the experts' row counts less one rounded up. -/
def groupEnd (x : IVec S8 32) : IVec S8 32 :=
  Host.reduceWindow IntOp.addi ![8] ![1] ![7] ![0]
    (select (andi (cmpi .ne (signi x) (broadcastInDim S8 ![] bcast_S_S8 (signi (constantI S_ 32 512#32))))
        (cmpi .ne (Host.remsi x (broadcastInDim S8 ![] bcast_S_S8 (constantI S_ 32 512#32))) (broadcastInDim S8 ![] bcast_S_S8 (constantI S_ 32 0#32))))
      (subi (Host.divsi x (broadcastInDim S8 ![] bcast_S_S8 (constantI S_ 32 512#32))) (broadcastInDim S8 ![] bcast_S_S8 (constantI S_ 32 1#32)))
      (Host.divsi x (broadcastInDim S8 ![] bcast_S_S8 (constantI S_ 32 512#32))))
    (broadcastInDim S_ ![] bcast_S_S_ (constantI S_ 32 0#32)) reduceWindows_S8_S8_w8s1p7_0 h_S_

/-- Adding 512 and taking one away is adding 511. -/
theorem add_511 (x : IVec S8 32) : subi (addi x (broadcastInDim S8 ![] bcast_S_S8 (constantI S_ 32 512#32))) (broadcastInDim S8 ![] bcast_S_S8 (constantI S_ 32 1#32))
    = addi x (broadcastInDim S8 ![] bcast_S_S8 (constantI S_ 32 511#32)) := by
  funext i
  show (x i + 512#32) - 1#32 = x i + 511#32
  generalize x i = a
  apply BitVec.eq_of_toNat_eq
  simp only [BitVec.toNat_sub, BitVec.toNat_add, BitVec.toNat_ofNat]
  omega

set_option maxHeartbeats 1000000 in
/-- The ends of the groups after the first host operations. -/
theorem head_ends (X : Valuation τ sig (Elt F)) : StableHlo.after (headOps (F := F)) X (Proc.devRef .tc main_v5)
    = groupEnd (addi (X (Proc.devRef .tc main_arg1)) (broadcastInDim S8 ![] bcast_S_S8 (constantI S_ 32 511#32))) := by
  refine Eq.trans (b := groupEnd (subi (addi (X (Proc.devRef .tc main_arg1)) (broadcastInDim S8 ![] bcast_S_S8 (constantI S_ 32 512#32))) (broadcastInDim S8 ![] bcast_S_S8 (constantI S_ 32 1#32)))) ?_ (congrArg groupEnd (add_511 _))
  after_reads_simp
  simp only [StableHlo.TRef.toBuf, StableHlo.TRef.ofBuf, cast_eq, id_eq]
  unfold groupEnd
  clean_types
  with_reducible rfl

/-- How many groups end at or before each tile, out of where the groups end. -/
def expertOf (E : IVec S8 32) : IVec S72 32 :=
  Host.reduce IntOp.addi (extui 32 (cmpi .sge (broadcastInDim S72x8 ![0, 1] bcast_S72x1_S72x8_0_1 (broadcastInDim S72x1 ![0] bcast_S72_S72x1_0 (iotaInDim S72 32 0)))
      (broadcastInDim S72x8 ![0, 1] bcast_S1x8_S72x8_0_1 (broadcastInDim S1x8 ![1] bcast_S8_S1x8_1 E))) natLt_1_32)
    (constantI S_ 32 0#32) reducesTo_S72x8_S72_d1 h_S_

/-- How many of the groups end at or before the tile numbered `w`. -/
def passed (E : IVec S8 32) (w : BitVec 32) : BitVec 32 :=
  Finset.fold IntOp.addi (0#32) (fun e : Fin 8 => BitVec.setWidth 32 (IntOp.cmpi .sge w (E (ix1 e)))) Finset.univ

/-- Whether the tile numbered `w` comes before the end of the last group. -/
def within (E : IVec S8 32) (w : BitVec 32) : BitVec 1 := IntOp.cmpi .slt w (E (ix1 7))

theorem expertOf_eq (E : IVec S8 32) (i : S72.Idx) : expertOf E i = passed E (BitVec.ofNat 32 (i 0).val) := by
  unfold expertOf passed
  pointwise

/-- A fold of sums of words, as a number, is at most the sum of the numbers. -/
theorem fold_toNat_le (f : Fin 8 → BitVec 32) (s : Finset (Fin 8)) : (Finset.fold IntOp.addi (0#32) f s).toNat ≤ ∑ e ∈ s, (f e).toNat := by
  induction s using Finset.induction_on with
  | empty => simp
  | insert a s ha ih =>
    rw [Finset.fold_insert ha, Finset.sum_insert ha]
    show (f a + _).toNat ≤ _
    rw [BitVec.toNat_add]
    exact le_trans (Nat.mod_le _ _) (by omega)

theorem bit_le (b : BitVec 1) : (BitVec.setWidth 32 b).toNat ≤ 1 := by
  revert b; decide

theorem passed_le (E : IVec S8 32) (w : BitVec 32) : (passed E w).toNat ≤ 8 := by
  refine le_trans (fold_toNat_le _ _) ?_
  rw [Fin.sum_univ_eight]
  have h := fun e : Fin 8 => bit_le (IntOp.cmpi .sge w (E (ix1 e)))
  have h0 := h 0; have h1 := h 1; have h2 := h 2; have h3 := h 3; have h4 := h 4; have h5 := h 5; have h6 := h 6; have h7 := h 7
  omega

/-- A tile that comes before the end of the last group belongs to one of the eight experts. -/
theorem passed_lt (E : IVec S8 32) (w : BitVec 32) (hw : within E w = 1#1) : (passed E w).toNat < 8 := by
  refine lt_of_le_of_lt (fold_toNat_le _ _) ?_
  rw [Fin.sum_univ_eight]
  have h := fun e : Fin 8 => bit_le (IntOp.cmpi .sge w (E (ix1 e)))
  have h0 := h 0; have h1 := h 1; have h2 := h 2; have h3 := h 3; have h4 := h 4; have h5 := h 5; have h6 := h 6
  have h7 : (BitVec.setWidth 32 (IntOp.cmpi .sge w (E (ix1 7)))).toNat = 0 := by
    unfold within at hw
    generalize E (ix1 7) = a at hw
    have hs : w.slt a = true := by
      rcases Bool.eq_false_or_eq_true (w.slt a) with h | h
      · exact h
      · exfalso; revert hw; show BitVec.ofBool (w.slt a) = 1#1 → False; rw [h]; decide
    have hsle : a.sle w = false := by
      rw [BitVec.sle_eq_not_slt, hs]; rfl
    show (BitVec.setWidth 32 (BitVec.ofBool (a.sle w))).toNat = 0
    rw [hsle]; rfl
  omega

set_option maxHeartbeats 1000000

/-- The second table: whether a tile is in use. -/
theorem tail_used (X : Valuation τ sig (Elt F)) (i : S72.Idx) : StableHlo.after (tailOps (F := F)) X (Proc.devRef .tc main_v20) i
    = BitVec.setWidth 32 (within (X (Proc.devRef .tc main_v5)) (BitVec.ofNat 32 (i 0).val)) := by
  after_reads_simp
  unfold within
  clean_types
  pointwise

/-- The third table: the tile itself while it is in use, and the last one in use after that. -/
theorem tail_src (X : Valuation τ sig (Elt F)) (i : S72.Idx) : StableHlo.after (tailOps (F := F)) X (Proc.devRef .tc main_v33) i
    = Scalar.select (IntOp.cmpi .eq (BitVec.setWidth 32 (within (X (Proc.devRef .tc main_v5)) (BitVec.ofNat 32 (i 0).val))) 1#32)
        (BitVec.ofNat 32 (i 0).val) (IntOp.maxsi (IntOp.subi (X (Proc.devRef .tc main_v5) (ix1 7)) 1#32) 0#32) := by
  after_reads_simp
  simp only [StableHlo.TRef.toBuf, StableHlo.TRef.ofBuf, cast_eq]
  unfold within
  clean_types
  pointwise

/-- The first table before it is read at an index: the expert of each tile in use, and the one expert found at some entry elsewhere, at most 7. -/
theorem tail_expert_all (X : Valuation τ sig (Elt F)) : ∃ k : Fin 1 → ℤ, StableHlo.after (tailOps (F := F)) X (Proc.devRef .tc main_v30)
    = minsi (select (cmpi .eq (StableHlo.after (tailOps (F := F)) X (Proc.devRef .tc main_v20) : IVec S72 32) (broadcastInDim S72 ![] bcast_S_S72 (constantI S_ 32 1#32))) (expertOf (X (Proc.devRef .tc main_v5)))
        (broadcastInDim S72 ![] bcast_S_S72 (fun i => shapeCast S_ (Host.dynamicSlice S1 (expertOf (X (Proc.devRef .tc main_v5))) k sliceFits_S72_S1) shapeCasts_S1_S_ i)))
      (broadcastInDim S72 ![] bcast_S_S72 (constantI S_ 32 7#32)) := by
  refine ⟨?_, ?_⟩
  rotate_left
  · after_reads_simp
    rfl

end Cert.Moe
-- ==== Proof.Places.lean ====
module

public import proofs.«01_k».proof.Proof.Run
public import proofs.«01_k».proof.Proof.Tables

/-! Where the blocks lie: the words of the tables are the words the host computes, every block lies inside its array,
and for a tile in use the blocks are the tile's rows and its expert's weights. -/

@[expose] public section

set_option maxRecDepth 16384

noncomputable section

namespace Cert.Moe

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- Where the experts' groups of tiles end. -/
def ends (c : Dev nD) : IVec S8 32 :=
  groupEnd (addi (m ((c : Thread nD τ).loc main_arg1)) (broadcastInDim S8 ![] bcast_S_S8 (constantI S_ 32 511#32)))

theorem V_split (c : Dev nD) : StableHlo.after (hostAll (F := F)) (fun b => m (c, b))
    = StableHlo.after tailOps (StableHlo.after headOps (fun b => m (c, b))) :=
  after_two headOps tailOps _

theorem head_ends_at (c : Dev nD) : StableHlo.after (headOps (F := F)) (fun b => m (c, b)) (Proc.devRef .tc main_v5) = ends m c :=
  head_ends _

/-- The word of a table's entry: the tile's expert, and the tile of rows it reads. -/
def expertWord (n : ℕ) : BitVec 32 := tbl m 0 (ent n)
def srcWord (n : ℕ) : BitVec 32 := tbl m 2 (ent n)

theorem ent_val {n : ℕ} (hn : n < 72) : (ent n 0).val = n := Nat.mod_eq_of_lt hn

theorem flag_eq {n : ℕ} (hn : n < 72) : flag m n = BitVec.setWidth 32 (within (ends m 0) (BitVec.ofNat 32 n)) := by
  show StableHlo.after (hostAll (F := F)) (fun b => m ((0 : Dev nD), b)) (Proc.devRef .tc main_v20) (ent n) = _
  rw [V_split, tail_used, head_ends_at, ent_val hn]

/-- A tile's word in the second table is one exactly when the tile comes before the end of the last group. -/
theorem flag_iff {n : ℕ} (hn : n < 72) : flag m n = 1#32 ↔ within (ends m 0) (BitVec.ofNat 32 n) = 1#1 := by
  rw [flag_eq m hn]
  generalize within (ends m 0) (BitVec.ofNat 32 n) = b
  revert b; decide

theorem srcWord_eq {n : ℕ} (hn : n < 72) : srcWord m n
    = Scalar.select (IntOp.cmpi .eq (flag m n) 1#32) (BitVec.ofNat 32 n) (IntOp.maxsi (IntOp.subi (ends m 0 (ix1 7)) 1#32) 0#32) := by
  rw [flag_eq m hn]
  show StableHlo.after (hostAll (F := F)) (fun b => m ((0 : Dev nD), b)) (Proc.devRef .tc main_v33) (ent n) = _
  rw [V_split, tail_src, head_ends_at, ent_val hn]

theorem select_one {α : Type} {v w : BitVec 32} (a b : α) : Scalar.select (IntOp.cmpi .eq v w) a b = if v = w then a else b := by
  by_cases h : v = w
  · subst h; rw [if_pos rfl]; simp [Scalar.select, IntOp.cmpi]
  · rw [if_neg h]
    have : IntOp.cmpi .eq v w = 0#1 := cmpi_eq_of_ne h
    rw [this]; rfl

/-- A tile in use reads its own rows. -/
theorem src_used {n : ℕ} (hn : n < 72) (h : flag m n = 1#32) : (srcWord m n).toNat = n := by
  rw [srcWord_eq m hn, select_one, if_pos h, BitVec.toNat_ofNat]; omega

/-- A sum of words near zero, in number few enough, stays near zero. -/
theorem foldl_near {ι : Type} (g : ι → BitVec 32) (hg : ∀ i, |(g i).toInt| ≤ 8388608) (L : List ι) (a : BitVec 32) (K : ℕ) (hK : K + L.length ≤ 100) (ha : |a.toInt| ≤ 8388608 * K) :
    |(L.foldl (fun r i => IntOp.addi r (g i)) a).toInt| ≤ 8388608 * (K + L.length : ℕ) := by
  induction L generalizing a K with
  | nil => simpa using ha
  | cons i L ih =>
    rw [List.foldl_cons]
    have hi := hg i
    rw [List.length_cons] at hK
    have h1 : |(IntOp.addi a (g i)).toInt| ≤ 8388608 * (K + 1 : ℕ) := by
      show |(a + g i).toInt| ≤ _
      rw [abs_le] at ha hi ⊢
      rw [BitVec.toInt_add]
      rw [Int.bmod_eq_of_le (by omega) (by omega)]
      push_cast at *
      constructor <;> omega
    have := ih (IntOp.addi a (g i)) (K + 1) (by omega) h1
    rw [List.length_cons, show K + (L.length + 1) = K + 1 + L.length by omega]
    exact this

/-- A word divided by 512, rounded down, is near zero. -/
theorem tiles_near (a : BitVec 32) (b : BitVec 1) : |(Scalar.select b (IntOp.subi (IntOp.divsi .host a 512#32) 1#32) (IntOp.divsi .host a 512#32)).toInt| ≤ 8388608 := by
  have hd : IntOp.divsi .host a 512#32 = a.sdiv 512#32 := by
    unfold IntOp.divsi
    rw [if_neg]
    rintro (h | ⟨_, h⟩)
    · exact absurd h (by decide)
    · exact absurd h (by decide)
  have h1 : (a.sdiv 512#32).toInt = a.toInt.tdiv 512 := by
    rw [BitVec.toInt_sdiv_of_ne_or_ne _ _ (Or.inr (by decide))]; rfl
  have h2 : (a.toInt.tdiv 512).natAbs = a.toInt.natAbs / 512 := Int.natAbs_tdiv _ _
  have h3 := BitVec.toInt_lt (x := a)
  have h4 := BitVec.le_toInt (x := a)
  have h5 : (IntOp.subi (a.sdiv 512#32) 1#32).toInt = a.toInt.tdiv 512 - 1 := by
    show (a.sdiv 512#32 - 1#32).toInt = _
    rw [BitVec.toInt_sub, h1, show (1#32 : BitVec 32).toInt = 1 from rfl]
    exact Int.bmod_eq_of_le (by omega) (by omega)
  rw [hd, abs_le]
  have hb : b = 0#1 ∨ b = 1#1 := BitVec.eq_zero_or_eq_one b
  rcases hb with rfl | rfl
  · rw [show Scalar.select 0#1 (IntOp.subi (a.sdiv 512#32) 1#32) (a.sdiv 512#32) = a.sdiv 512#32 from rfl, h1]
    omega
  · rw [show Scalar.select 1#1 (IntOp.subi (a.sdiv 512#32) 1#32) (a.sdiv 512#32) = IntOp.subi (a.sdiv 512#32) 1#32 from rfl, h5]
    omega

/-- The groups end near zero, whatever the row counts: the ends do not come near the words' own bounds. -/
theorem ends_near (x : IVec S8 32) (j : S8.Idx) : |(groupEnd x j).toInt| ≤ 8388608 * 8 := by
  unfold groupEnd Host.reduceWindow
  refine le_trans (foldl_near _ ?_ _ _ 0 ?_ ?_) ?_
  · intro n
    dsimp only
    split
    · exact tiles_near _ _
    · decide
  · decide
  · decide
  · decide

/-- Every tile reads one of the 72 tiles of rows. -/
theorem src_lt {n : ℕ} (hn : n < 72) : (srcWord m n).toNat < 72 := by
  by_cases h : flag m n = 1#32
  · rw [src_used m hn h]; exact hn
  · rw [srcWord_eq m hn, select_one, if_neg h]
    have hw : ¬ within (ends m 0) (BitVec.ofNat 32 n) = 1#1 := fun hh => h ((flag_iff m hn).2 hh)
    unfold within at hw
    have hnear := ends_near (addi (m (((0 : Dev nD) : Thread nD τ).loc main_arg1)) (broadcastInDim S8 ![] bcast_S_S8 (constantI S_ 32 511#32))) (ix1 7)
    change |(ends m 0 (ix1 7)).toInt| ≤ _ at hnear
    rw [abs_le] at hnear
    generalize ends m 0 (ix1 7) = a at hw hnear ⊢
    have hs : (BitVec.ofNat 32 n).slt a = false := by
      rcases Bool.eq_false_or_eq_true ((BitVec.ofNat 32 n).slt a) with h2 | h2
      · exact absurd (show BitVec.ofBool ((BitVec.ofNat 32 n).slt a) = 1#1 by rw [h2]; rfl) hw
      · exact h2
    have hle : ¬ (BitVec.ofNat 32 n).toInt < a.toInt := by
      intro hh
      have : (BitVec.ofNat 32 n).slt a = true := by rw [BitVec.slt_iff_toInt_lt]; exact hh
      rw [hs] at this; cases this
    have hn32 : (BitVec.ofNat 32 n).toInt = n := by
      rw [BitVec.toInt_eq_toNat_of_lt (by rw [BitVec.toNat_ofNat]; omega), BitVec.toNat_ofNat]; omega
    rw [hn32] at hle
    unfold IntOp.maxsi
    show (if (0#32 : BitVec 32).slt (a - 1#32) then a - 1#32 else 0#32).toNat < 72
    split
    · rename_i hpos
      have h0 : 0 < (a - 1#32).toInt := by
        rw [BitVec.slt_iff_toInt_lt] at hpos; exact hpos
      have h3 := BitVec.toInt_eq_toNat_cond (x := a)
      have h4 := BitVec.toInt_eq_toNat_cond (x := a - 1#32)
      have h5 : (a - 1#32).toNat = (2 ^ 32 - 1 + a.toNat) % 2 ^ 32 := BitVec.toNat_sub a 1#32
      have h6 := a.isLt
      split_ifs at h3 h4 <;> omega
    · decide

theorem minsi_lt (a : BitVec 32) (h : a.toNat ≤ 8) : (IntOp.minsi a 7#32).toNat = min a.toNat 7 := by
  have ha : a = BitVec.ofNat 32 a.toNat := (BitVec.ofNat_toNat 32 a).symm ▸ by simp
  generalize a.toNat = n at ha h
  subst ha
  revert n; decide

/-- The words of the first table: the expert of a tile in use, and some word at most 7. -/
theorem expert_all {n : ℕ} (hn : n < 72) : (expertWord m n).toNat < 8 ∧ (flag m n = 1#32 → expertWord m n = passed (ends m 0) (BitVec.ofNat 32 n)) := by
  obtain ⟨k, hk⟩ := tail_expert_all (F := F) (StableHlo.after headOps (fun b => m ((0 : Dev nD), b)))
  rw [head_ends_at, ← V_split] at hk
  have hl : ∀ j : S72.Idx, (expertOf (ends m 0) j).toNat ≤ 8 := fun j => by rw [expertOf_eq]; exact passed_le _ _
  have he : expertOf (ends m 0) (ent n) = passed (ends m 0) (BitVec.ofNat 32 n) := by rw [expertOf_eq, ent_val hn]
  have e : ∃ j : S72.Idx, expertWord m n = IntOp.minsi (Scalar.select (IntOp.cmpi .eq (flag m n) 1#32) (expertOf (ends m 0) (ent n)) (expertOf (ends m 0) j)) 7#32 :=
    ⟨_, congrFun hk (ent n)⟩
  obtain ⟨j, e⟩ := e
  rw [select_one] at e
  have hj := hl j
  have hn' := hl (ent n)
  constructor
  · rw [e, minsi_lt _ (by split <;> assumption)]; omega
  · intro h
    rw [e, if_pos h, he]
    have hlt := passed_lt (ends m 0) (BitVec.ofNat 32 n) ((flag_iff m hn).1 h)
    apply BitVec.eq_of_toNat_eq
    rw [minsi_lt _ (by omega)]; omega

/-! ## The index maps -/

/-- The entry an index map reads is the tile's. -/
theorem entry_eq (i : grid0.Coords) (h) : (Rect.unit (s := S72) ![(Scalar.indexCast (BitVec.ofNat 32 (i 0).val)).toNat] S1.size h).toLoadRect.idx (Shape.Idx.first (numel1_S1.symm ▸ Nat.one_pos)) = ent (i 0).val := by
  have hi : (i 0).val < 72 := (i 0).isLt
  funext a
  apply Fin.ext
  fin_cases a
  show (Scalar.indexCast (BitVec.ofNat 32 (i 0).val)).toNat + 1 * 0 = (i 0).val % 72
  simp [Scalar.indexCast]
  omega

/-- The block of hidden columns a point reads: its own while the tile is in use, the last one after that. -/
def colBlock (i : grid0.Coords) : ℕ := if flag m (i 0).val = 1#32 then (i 1).val else 6

theorem colBlock_lt (i : grid0.Coords) : colBlock m i < 7 := by
  have h1 : (i 1).val < 7 := (i 1).isLt
  unfold colBlock; split <;> omega

/-- The word the index maps read of a table is the tile's entry. -/
theorem word_at (i : grid0.Coords) (h) (f : S72.Idx → BitVec 32) :
    f ((Rect.unit (s := S72) ![(Scalar.indexCast (BitVec.ofNat 32 (i 0).val)).toNat] S1.size h).emb (Shape.Idx.first (numel1_S1.symm ▸ Nat.one_pos))) = f (ent (i 0).val) :=
  congrArg f (entry_eq i h)

theorem cols_eq (i : grid0.Coords) (v : BitVec 32) : (Scalar.select (Scalar.cmpi .eq v 1#32) (BitVec.ofNat 32 (i 1).val) 6#32).toNat = if v = 1#32 then (i 1).val else 6 := by
  have h1 : (i 1).val < 7 := (i 1).isLt
  rw [show Scalar.cmpi .eq v 1#32 = IntOp.cmpi .eq v 1#32 from rfl, select_one]
  split
  · rw [BitVec.toNat_ofNat]; omega
  · rfl

/-- Where the four inputs' blocks lie, by the tables' words. -/
theorem place_0 (i : grid0.Coords) : cc0_transform_0 k0_off1_inb numel1_S1 (tbl m) i = ![(srcWord m (i 0).val).toNat, 0] := by
  show ![BitVec.toNat _, 0] = _
  exact congrArg (fun v : BitVec 32 => (![v.toNat, 0] : Fin 2 → ℕ)) (word_at i _ (tbl m 2))
theorem place_1 (i : grid0.Coords) : cc0_transform_1 k0_off1_inb numel1_S1 (tbl m) i = ![(expertWord m (i 0).val).toNat, 0, colBlock m i] := by
  refine (congrArg₂ (fun v w : BitVec 32 => (![v.toNat, 0, (Scalar.select (Scalar.cmpi .eq w 1#32) (BitVec.ofNat 32 (i 1).val) 6#32).toNat] : Fin 3 → ℕ)) (word_at i _ (tbl m 0)) (word_at i _ (tbl m 1))).trans ?_
  exact congrArg (fun z => (![(expertWord m (i 0).val).toNat, 0, z] : Fin 3 → ℕ)) (cols_eq i (flag m (i 0).val))
theorem place_2 (i : grid0.Coords) : cc0_transform_2 k0_off1_inb numel1_S1 (tbl m) i = ![(expertWord m (i 0).val).toNat, 0, colBlock m i] := place_1 m i
theorem place_3 (i : grid0.Coords) : cc0_transform_3 k0_off1_inb numel1_S1 (tbl m) i = ![(expertWord m (i 0).val).toNat, colBlock m i, 0] := by
  refine (congrArg₂ (fun v w : BitVec 32 => (![v.toNat, (Scalar.select (Scalar.cmpi .eq w 1#32) (BitVec.ofNat 32 (i 1).val) 6#32).toNat, 0] : Fin 3 → ℕ)) (word_at i _ (tbl m 0)) (word_at i _ (tbl m 1))).trans ?_
  exact congrArg (fun z => (![(expertWord m (i 0).val).toNat, z, 0] : Fin 3 → ℕ)) (cols_eq i (flag m (i 0).val))

/-- A block of each input lies inside its array, its transfers whole words. -/
theorem rows_fit (ix : Fin 2 → ℕ) (h0 : ix 0 < 72) (h1 : ix 1 = 0) : ∃ h : (∀ a, (ix a + 1) * S512x2048.size a ≤ S36864x2048.size a),
    EltTy.bits .f32 = 32 ∨ (Rect.block (s := S36864x2048) S512x2048.size ix h).WholeWords (EltTy.packing .f32) := by
  refine ⟨?_, Or.inl rfl⟩
  intro a; fin_cases a
  · show (ix 0 + 1) * 512 ≤ 36864; omega
  · show (ix 1 + 1) * 2048 ≤ 2048; omega
theorem cols_fit (ix : Fin 3 → ℕ) (h0 : ix 0 < 8) (h1 : ix 1 = 0) (h2 : ix 2 < 7) : ∃ h : (∀ a, (ix a + 1) * S1x2048x1024.size a ≤ S8x2048x7168.size a),
    EltTy.bits .bf16 = 32 ∨ (Rect.block (s := S8x2048x7168) S1x2048x1024.size ix h).WholeWords (EltTy.packing .bf16) := by
  refine ⟨?_, Or.inr (Affine.block_words_dvd (by decide) (by decide))⟩
  intro a; fin_cases a
  · show (ix 0 + 1) * 1 ≤ 8; omega
  · show (ix 1 + 1) * 2048 ≤ 2048; omega
  · show (ix 2 + 1) * 1024 ≤ 7168; omega
theorem downs_fit (ix : Fin 3 → ℕ) (h0 : ix 0 < 8) (h1 : ix 1 < 7) (h2 : ix 2 = 0) : ∃ h : (∀ a, (ix a + 1) * S1x1024x2048.size a ≤ S8x7168x2048.size a),
    EltTy.bits .bf16 = 32 ∨ (Rect.block (s := S8x7168x2048) S1x1024x2048.size ix h).WholeWords (EltTy.packing .bf16) := by
  refine ⟨?_, Or.inr (Affine.block_words_dvd (by decide) (by decide))⟩
  intro a; fin_cases a
  · show (ix 0 + 1) * 1 ≤ 8; omega
  · show (ix 1 + 1) * 1024 ≤ 7168; omega
  · show (ix 2 + 1) * 2048 ≤ 2048; omega

/-- Where the index maps, at some tables, name one of 72 tiles of rows, one of eight experts and one of seven blocks of columns, the
    blocks lie inside their arrays. -/
theorem ok_of (pf : pre0.Contents (Elt F)) (a b k : grid0.Coords → ℕ) (ha : ∀ i, a i < 72) (hb : ∀ i, b i < 8) (hk : ∀ i, k i < 7)
    (h0 : ∀ i, cc0_transform_0 k0_off1_inb numel1_S1 pf i = ![a i, 0]) (h1 : ∀ i, cc0_transform_1 k0_off1_inb numel1_S1 pf i = ![b i, 0, k i])
    (h2 : ∀ i, cc0_transform_2 k0_off1_inb numel1_S1 pf i = ![b i, 0, k i]) (h3 : ∀ i, cc0_transform_3 k0_off1_inb numel1_S1 pf i = ![b i, k i, 0]) : ok0 pf := by
  unfold ok0
  refine ⟨fun i => rows_fit _ ?_ ?_, fun i => cols_fit _ ?_ ?_ ?_, fun i => cols_fit _ ?_ ?_ ?_, fun i => downs_fit _ ?_ ?_ ?_⟩
  · rw [h0]; exact ha i
  · rw [h0]; rfl
  · rw [h1]; exact hb i
  · rw [h1]; rfl
  · rw [h1]; exact hk i
  · rw [h2]; exact hb i
  · rw [h2]; rfl
  · rw [h2]; exact hk i
  · rw [h3]; exact hb i
  · rw [h3]; exact hk i
  · rw [h3]; rfl

/-- Every block the index maps name lies inside its array, and its transfers are whole words. -/
theorem ok : Ok m :=
  ok_of (tbl m) (fun i => (srcWord m (i 0).val).toNat) (fun i => (expertWord m (i 0).val).toNat) (colBlock m)
    (fun i => src_lt m (i 0).isLt) (fun i => (expert_all m (i 0).isLt).1) (colBlock_lt m) (place_0 m) (place_1 m) (place_2 m) (place_3 m)

end Cert.Moe
-- ==== Proof.Blocks.lean ====
module

public import proofs.«01_k».proof.Proof.Places
public import Idealize.ShloMosaic.Lib.Pipeline.ValueKit

/-! The blocks of a tile in use, read at coordinates of the arguments. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

theorem pt_coords (hO : Ok m) {i f : ℕ} (hi : i < 72) (hf : f < 7) :
    (grid0.coords (pt m hO (7 * i + f)) 0).val = i ∧ (grid0.coords (pt m hO (7 * i + f)) 1).val = f := by
  have e : (pt m hO (7 * i + f)).val = 7 * i + f := Nat.mod_eq_of_lt (by omega)
  have h0 := coords_0 (pt m hO (7 * i + f))
  have h1 := coords_1 (pt m hO (7 * i + f))
  omega

/-- A block's place is what its index map names. -/
theorem index_of_0 (a : (pcfg0 (F := F)).Adm) (t : Fin grid0.N) : ((cfg0 a).win 0).index t = cc0_transform_0 k0_off1_inb numel1_S1 a.1 (grid0.coords t) := rfl
theorem index_of_1 (a : (pcfg0 (F := F)).Adm) (t : Fin grid0.N) : ((cfg0 a).win 1).index t = cc0_transform_1 k0_off1_inb numel1_S1 a.1 (grid0.coords t) := rfl
theorem index_of_2 (a : (pcfg0 (F := F)).Adm) (t : Fin grid0.N) : ((cfg0 a).win 2).index t = cc0_transform_2 k0_off1_inb numel1_S1 a.1 (grid0.coords t) := rfl
theorem index_of_3 (a : (pcfg0 (F := F)).Adm) (t : Fin grid0.N) : ((cfg0 a).win 3).index t = cc0_transform_3 k0_off1_inb numel1_S1 a.1 (grid0.coords t) := rfl
theorem index_of_4 (a : (pcfg0 (F := F)).Adm) (t : Fin grid0.N) : ((cfg0 a).win 4).index t = cc0_transform_4 (grid0.coords t) := rfl

/-- An element of a block is the element of the array at the block's place. -/
theorem read_of_0 (a : (pcfg0 (F := F)).Adm) (t : Fin grid0.N) (X : S36864x2048.Idx → F .f32) (y : S512x2048.Idx) (z : S36864x2048.Idx) {p : ℕ}
    (hix : cc0_transform_0 k0_off1_inb numel1_S1 a.1 (grid0.coords t) = ![p, 0]) (h0 : (z 0).val = p * 512 + (y 0).val) (h1 : (z 1).val = (y 1).val) :
    View.read (Elt F) (((cfg0 a).win 0).blk t).view X y = X z := by
  refine congrArg X (funext fun q => Fin.ext ?_)
  refine (Pipeline.Window.rect_emb_val ((cfg0 a).win 0) t y q).trans ?_
  rw [index_of_0, hix]
  fin_cases q
  · exact h0.symm
  · exact (Nat.zero_add _).trans h1.symm

theorem read_of_1 (a : (pcfg0 (F := F)).Adm) (t : Fin grid0.N) (X : S8x2048x7168.Idx → F .bf16) (y : S1x2048x1024.Idx) (z : S8x2048x7168.Idx) {p r : ℕ}
    (hix : cc0_transform_1 k0_off1_inb numel1_S1 a.1 (grid0.coords t) = ![p, 0, r]) (h0 : (z 0).val = p) (h1 : (z 1).val = (y 1).val)
    (h2 : (z 2).val = r * 1024 + (y 2).val) : View.read (Elt F) (((cfg0 a).win 1).blk t).view X y = X z := by
  refine congrArg X (funext fun q => Fin.ext ?_)
  refine (Pipeline.Window.rect_emb_val ((cfg0 a).win 1) t y q).trans ?_
  rw [index_of_1, hix]
  have hy : (y 0).val = 0 := Nat.lt_one_iff.mp (y 0).isLt
  fin_cases q
  · exact (congrArg₂ (· + ·) (Nat.mul_one p) hy).trans h0.symm
  · exact (Nat.zero_add _).trans h1.symm
  · exact h2.symm

theorem read_of_2 (a : (pcfg0 (F := F)).Adm) (t : Fin grid0.N) (X : S8x2048x7168.Idx → F .bf16) (y : S1x2048x1024.Idx) (z : S8x2048x7168.Idx) {p r : ℕ}
    (hix : cc0_transform_2 k0_off1_inb numel1_S1 a.1 (grid0.coords t) = ![p, 0, r]) (h0 : (z 0).val = p) (h1 : (z 1).val = (y 1).val)
    (h2 : (z 2).val = r * 1024 + (y 2).val) : View.read (Elt F) (((cfg0 a).win 2).blk t).view X y = X z := by
  refine congrArg X (funext fun q => Fin.ext ?_)
  refine (Pipeline.Window.rect_emb_val ((cfg0 a).win 2) t y q).trans ?_
  rw [index_of_2, hix]
  have hy : (y 0).val = 0 := Nat.lt_one_iff.mp (y 0).isLt
  fin_cases q
  · exact (congrArg₂ (· + ·) (Nat.mul_one p) hy).trans h0.symm
  · exact (Nat.zero_add _).trans h1.symm
  · exact h2.symm

theorem read_of_3 (a : (pcfg0 (F := F)).Adm) (t : Fin grid0.N) (X : S8x7168x2048.Idx → F .bf16) (y : S1x1024x2048.Idx) (z : S8x7168x2048.Idx) {p r : ℕ}
    (hix : cc0_transform_3 k0_off1_inb numel1_S1 a.1 (grid0.coords t) = ![p, r, 0]) (h0 : (z 0).val = p) (h1 : (z 1).val = r * 1024 + (y 1).val)
    (h2 : (z 2).val = (y 2).val) : View.read (Elt F) (((cfg0 a).win 3).blk t).view X y = X z := by
  refine congrArg X (funext fun q => Fin.ext ?_)
  refine (Pipeline.Window.rect_emb_val ((cfg0 a).win 3) t y q).trans ?_
  rw [index_of_3, hix]
  have hy : (y 0).val = 0 := Nat.lt_one_iff.mp (y 0).isLt
  fin_cases q
  · exact (congrArg₂ (· + ·) (Nat.mul_one p) hy).trans h0.symm
  · exact h1.symm
  · exact (Nat.zero_add _).trans h2.symm

/-- The weights the launch receives are the arguments' in the shorter format. -/
theorem tail_gate (X : Valuation τ sig (Elt F)) : StableHlo.after (tailOps (F := F)) X (Proc.devRef .tc main_v34) = truncf .bf16 (X (Proc.devRef .tc main_arg2)) bitsLt_bf16_f32 := by
  after_reads_simp
theorem tail_up (X : Valuation τ sig (Elt F)) : StableHlo.after (tailOps (F := F)) X (Proc.devRef .tc main_v35) = truncf .bf16 (X (Proc.devRef .tc main_arg3)) bitsLt_bf16_f32 := by
  after_reads_simp
theorem tail_down (X : Valuation τ sig (Elt F)) : StableHlo.after (tailOps (F := F)) X (Proc.devRef .tc main_v36) = truncf .bf16 (X (Proc.devRef .tc main_arg4)) bitsLt_bf16_f32 := by
  after_reads_simp
theorem head_gate (X : Valuation τ sig (Elt F)) : StableHlo.after (headOps (F := F)) X (Proc.devRef .tc main_arg2) = X (Proc.devRef .tc main_arg2) := by
  after_reads_simp
theorem head_up (X : Valuation τ sig (Elt F)) : StableHlo.after (headOps (F := F)) X (Proc.devRef .tc main_arg3) = X (Proc.devRef .tc main_arg3) := by
  after_reads_simp
theorem head_down (X : Valuation τ sig (Elt F)) : StableHlo.after (headOps (F := F)) X (Proc.devRef .tc main_arg4) = X (Proc.devRef .tc main_arg4) := by
  after_reads_simp

theorem V_gate (c : Dev nD) : V m c main_v34 = truncf .bf16 (m ((c : Thread nD τ).loc main_arg2)) bitsLt_bf16_f32 := by
  show StableHlo.after (hostAll (F := F)) (fun b => m (c, b)) (Proc.devRef .tc main_v34) = _
  rw [V_split, tail_gate, head_gate]
theorem V_up (c : Dev nD) : V m c main_v35 = truncf .bf16 (m ((c : Thread nD τ).loc main_arg3)) bitsLt_bf16_f32 := by
  show StableHlo.after (hostAll (F := F)) (fun b => m (c, b)) (Proc.devRef .tc main_v35) = _
  rw [V_split, tail_up, head_up]
theorem V_down (c : Dev nD) : V m c main_v36 = truncf .bf16 (m ((c : Thread nD τ).loc main_arg4)) bitsLt_bf16_f32 := by
  show StableHlo.after (hostAll (F := F)) (fun b => m (c, b)) (Proc.devRef .tc main_v36) = _
  rw [V_split, tail_down, head_down]

theorem bx_eq (hO : Ok m) (c : Dev nD) (t : Fin grid0.N) (y : S512x2048.Idx) :
    bx m hO c t y = View.read (Elt F) (((cfg0 (adm m hO)).win 0).blk t).view (V m c main_arg0) y := by unfold bx iblk; rfl
theorem bg_eq (hO : Ok m) (c : Dev nD) (t : Fin grid0.N) (y : S1x2048x1024.Idx) :
    bg m hO c t y = View.read (Elt F) (((cfg0 (adm m hO)).win 1).blk t).view (V m c main_v34) y := by unfold bg iblk; rfl
theorem bu_eq (hO : Ok m) (c : Dev nD) (t : Fin grid0.N) (y : S1x2048x1024.Idx) :
    bu m hO c t y = View.read (Elt F) (((cfg0 (adm m hO)).win 2).blk t).view (V m c main_v35) y := by unfold bu iblk; rfl
theorem bd_eq (hO : Ok m) (c : Dev nD) (t : Fin grid0.N) (y : S1x1024x2048.Idx) :
    bd m hO c t y = View.read (Elt F) (((cfg0 (adm m hO)).win 3).blk t).view (V m c main_v36) y := by unfold bd iblk; rfl

theorem bx_read (hO : Ok m) (c : Dev nD) (t : Fin grid0.N) (y : S512x2048.Idx) (z : S36864x2048.Idx) {p : ℕ}
    (e : (srcWord m (grid0.coords t 0).val).toNat = p) (h0 : (z 0).val = p * 512 + (y 0).val) (h1 : (z 1).val = (y 1).val) :
    bx m hO c t y = m ((c : Thread nD τ).loc main_arg0) z := by
  have hix := place_0 m (grid0.coords t)
  rw [e] at hix
  refine (bx_eq m hO c t y).trans ?_
  rw [V_arg0]
  exact read_of_0 (adm m hO) t _ y z hix h0 h1

theorem bg_read (hO : Ok m) (c : Dev nD) (t : Fin grid0.N) (y : S1x2048x1024.Idx) (z : S8x2048x7168.Idx) {p r : ℕ}
    (e : (expertWord m (grid0.coords t 0).val).toNat = p) (k : colBlock m (grid0.coords t) = r)
    (h0 : (z 0).val = p) (h1 : (z 1).val = (y 1).val) (h2 : (z 2).val = r * 1024 + (y 2).val) :
    bg m hO c t y = truncf .bf16 (m ((c : Thread nD τ).loc main_arg2)) bitsLt_bf16_f32 z := by
  have hix := place_1 m (grid0.coords t)
  rw [e, k] at hix
  refine (bg_eq m hO c t y).trans ?_
  rw [V_gate]
  exact read_of_1 (adm m hO) t _ y z hix h0 h1 h2

theorem bu_read (hO : Ok m) (c : Dev nD) (t : Fin grid0.N) (y : S1x2048x1024.Idx) (z : S8x2048x7168.Idx) {p r : ℕ}
    (e : (expertWord m (grid0.coords t 0).val).toNat = p) (k : colBlock m (grid0.coords t) = r)
    (h0 : (z 0).val = p) (h1 : (z 1).val = (y 1).val) (h2 : (z 2).val = r * 1024 + (y 2).val) :
    bu m hO c t y = truncf .bf16 (m ((c : Thread nD τ).loc main_arg3)) bitsLt_bf16_f32 z := by
  have hix := place_2 m (grid0.coords t)
  rw [e, k] at hix
  refine (bu_eq m hO c t y).trans ?_
  rw [V_up]
  exact read_of_2 (adm m hO) t _ y z hix h0 h1 h2

theorem bd_read (hO : Ok m) (c : Dev nD) (t : Fin grid0.N) (y : S1x1024x2048.Idx) (z : S8x7168x2048.Idx) {p r : ℕ}
    (e : (expertWord m (grid0.coords t 0).val).toNat = p) (k : colBlock m (grid0.coords t) = r)
    (h0 : (z 0).val = p) (h1 : (z 1).val = r * 1024 + (y 1).val) (h2 : (z 2).val = (y 2).val) :
    bd m hO c t y = truncf .bf16 (m ((c : Thread nD τ).loc main_arg4)) bitsLt_bf16_f32 z := by
  have hix := place_3 m (grid0.coords t)
  rw [e, k] at hix
  refine (bd_eq m hO c t y).trans ?_
  rw [V_down]
  exact read_of_3 (adm m hO) t _ y z hix h0 h1 h2

/-! ## A tile in use -/

/-- The expert of tile `i`, while it is in use. -/
def expertAt (i : ℕ) : ℕ := (passed (ends m 0) (BitVec.ofNat 32 i)).toNat

theorem expertAt_lt {i : ℕ} (hi : i < 72) (h : flag m i = 1#32) : expertAt m i < 8 :=
  passed_lt _ _ ((flag_iff m hi).mp h)

theorem words_used {i f : ℕ} (hO : Ok m) (hi : i < 72) (hf : f < 7) (h : flag m i = 1#32) :
    (srcWord m (grid0.coords (pt m hO (7 * i + f)) 0).val).toNat = i
    ∧ (expertWord m (grid0.coords (pt m hO (7 * i + f)) 0).val).toNat = expertAt m i
    ∧ colBlock m (grid0.coords (pt m hO (7 * i + f))) = f := by
  obtain ⟨e0, e1⟩ := pt_coords m hO hi hf
  refine ⟨by rw [e0]; exact src_used m hi h, by rw [e0, (expert_all m hi).2 h]; rfl, ?_⟩
  unfold colBlock
  rw [e0, e1, if_pos h]

theorem bx_used (hO : Ok m) (c : Dev nD) {i f : ℕ} (hi : i < 72) (hf : f < 7) (h : flag m i = 1#32) (y : S512x2048.Idx) (z : S36864x2048.Idx)
    (h0 : (z 0).val = i * 512 + (y 0).val) (h1 : (z 1).val = (y 1).val) :
    bx m hO c (pt m hO (7 * i + f)) y = m ((c : Thread nD τ).loc main_arg0) z := by
  obtain ⟨e0, e, k⟩ := words_used m hO hi hf h
  exact bx_read m hO c (pt m hO (7 * i + f)) y z e0 h0 h1

theorem bg_used (hO : Ok m) (c : Dev nD) {i f : ℕ} (hi : i < 72) (hf : f < 7) (h : flag m i = 1#32) (y : S1x2048x1024.Idx) (z : S8x2048x7168.Idx)
    (h0 : (z 0).val = expertAt m i) (h1 : (z 1).val = (y 1).val) (h2 : (z 2).val = f * 1024 + (y 2).val) :
    bg m hO c (pt m hO (7 * i + f)) y = truncf .bf16 (m ((c : Thread nD τ).loc main_arg2)) bitsLt_bf16_f32 z := by
  obtain ⟨e0, e, k⟩ := words_used m hO hi hf h
  exact bg_read m hO c (pt m hO (7 * i + f)) y z e k h0 h1 h2

theorem bu_used (hO : Ok m) (c : Dev nD) {i f : ℕ} (hi : i < 72) (hf : f < 7) (h : flag m i = 1#32) (y : S1x2048x1024.Idx) (z : S8x2048x7168.Idx)
    (h0 : (z 0).val = expertAt m i) (h1 : (z 1).val = (y 1).val) (h2 : (z 2).val = f * 1024 + (y 2).val) :
    bu m hO c (pt m hO (7 * i + f)) y = truncf .bf16 (m ((c : Thread nD τ).loc main_arg3)) bitsLt_bf16_f32 z := by
  obtain ⟨e0, e, k⟩ := words_used m hO hi hf h
  exact bu_read m hO c (pt m hO (7 * i + f)) y z e k h0 h1 h2

theorem bd_used (hO : Ok m) (c : Dev nD) {i f : ℕ} (hi : i < 72) (hf : f < 7) (h : flag m i = 1#32) (y : S1x1024x2048.Idx) (z : S8x7168x2048.Idx)
    (h0 : (z 0).val = expertAt m i) (h1 : (z 1).val = f * 1024 + (y 1).val) (h2 : (z 2).val = (y 2).val) :
    bd m hO c (pt m hO (7 * i + f)) y = truncf .bf16 (m ((c : Thread nD τ).loc main_arg4)) bitsLt_bf16_f32 z := by
  obtain ⟨e0, e, k⟩ := words_used m hO hi hf h
  exact bd_read m hO c (pt m hO (7 * i + f)) y z e k h0 h1 h2

end Cert.Moe

end
-- ==== Proof.Value.lean ====
module

public import proofs.«01_k».proof.Proof.Blocks

/-! The kernel's result over the extended reals: in a row of a tile in use, the sum over all hidden columns of the
tile's expert; in any other row, zero. -/

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- Hidden column `h` of expert `e`, for the token in row `r`. -/
def hidden (X : FVec Ideal S36864x2048 .f32) (G U : FVec Ideal S8x2048x7168 .f32) (r : Fin 36864) (e : Fin 8) (h : Fin 7168) : EReal :=
  (∑ k : Fin 2048, X (ix2 r k) * G (ix3 e k h)) * Ideal.logistic (∑ k : Fin 2048, X (ix2 r k) * G (ix3 e k h)) * ∑ k : Fin 2048, X (ix2 r k) * U (ix3 e k h)

/-- What expert `e` makes of the token in row `r`, at column `j`. -/
def expertOut (X : FVec Ideal S36864x2048 .f32) (G U : FVec Ideal S8x2048x7168 .f32) (D : FVec Ideal S8x7168x2048 .f32) (r : Fin 36864) (e : Fin 8) (j : Fin 2048) : EReal :=
  ∑ h : Fin 7168, hidden X G U r e h * D (ix3 e h j)

/-- Its summand at hidden column `n`, zero past the last column. -/
def summand (X : FVec Ideal S36864x2048 .f32) (G U : FVec Ideal S8x2048x7168 .f32) (D : FVec Ideal S8x7168x2048 .f32) (r : Fin 36864) (e : Fin 8) (j : Fin 2048) (n : ℕ) : EReal :=
  if h : n < 7168 then hidden X G U r e ⟨n, h⟩ * D (ix3 e ⟨n, h⟩ j) else 0

theorem sum_summand (X : FVec Ideal S36864x2048 .f32) (G U : FVec Ideal S8x2048x7168 .f32) (D : FVec Ideal S8x7168x2048 .f32) (r : Fin 36864) (e : Fin 8) (j : Fin 2048) :
    ∑ n ∈ Finset.range 7168, summand X G U D r e j n = expertOut X G U D r e j := by
  rw [Finset.sum_range]
  refine Finset.sum_congr rfl fun h _ => ?_
  exact dif_pos h.isLt

theorem first_at (y : S512x2048.Idx) : k0_pay2 (F := Ideal) y = (0 : EReal) := by
  pointwise [k0_pay2]

theorem conv_at (x : Vec Ideal S512x2048 .f32) (y : S512x2048.Idx) : (k0_pay1 x y : EReal) = x y := by
  pointwise [k0_pay1]

/-- One block of hidden columns, at an index. -/
theorem step_at (x : Vec Ideal S512x2048 .bf16) (g u : Vec Ideal S1x2048x1024 .bf16) (p : Vec Ideal S512x2048 .f32) (d : Vec Ideal S1x1024x2048 .bf16) (y : S512x2048.Idx) :
    (k0_pay3 x g u p d y : EReal) = (p y : EReal) + ∑ q : Fin 1024,
      ((∑ k : Fin 2048, (x (ix2 (y 0) k) : EReal) * g (ix3 0 k q)) * Ideal.logistic (∑ k : Fin 2048, (x (ix2 (y 0) k) : EReal) * g (ix3 0 k q))
        * ∑ k : Fin 2048, (x (ix2 (y 0) k) : EReal) * u (ix3 0 k q)) * d (ix3 0 q (y 1)) := by
  pointwise [k0_pay3]

theorem last_at (v : BitVec 32) (x : Vec Ideal S512x2048 .f32) (y : S512x2048.Idx) : (k0_pay4 (F := Ideal) v x y : EReal) = if v = 1#32 then (x y : EReal) else 0 := by
  pointwise [k0_pay4]
  by_cases h : v = 1#32
  · rw [if_pos h, h]; rfl
  · rw [if_neg h]
    have : Scalar.cmpi .eq v 1#32 = 0#1 := cmpi_eq_of_ne h
    rw [this]; rfl

variable (m : (ℓ : Loc nD τ sig) → Buf (Elt Ideal) ℓ)

/-- The sum over the first `f` blocks of hidden columns, for a tile in use. -/
theorem part_used (hO : Ok m) (c : Dev nD) {i : ℕ} (hi : i < 72) (h : flag m i = 1#32) (r : Fin 36864) (y : S512x2048.Idx) (hr : r.val = i * 512 + (y 0).val) :
    ∀ f : ℕ, f ≤ 7 → (part m hO c i f y : EReal) = ∑ n ∈ Finset.range (1024 * f),
      summand (m ((c : Thread nD τ).loc main_arg0)) (m ((c : Thread nD τ).loc main_arg2)) (m ((c : Thread nD τ).loc main_arg3)) (m ((c : Thread nD τ).loc main_arg4))
        r ⟨expertAt m i, expertAt_lt m hi h⟩ (y 1) n := by
  intro f
  induction f with
  | zero => intro _; exact first_at y
  | succ f ih =>
    intro hf
    have hx : ∀ k : Fin 2048, (k0_pay1 (bx m hO c (pt m hO (7 * i))) (ix2 (y 0) k) : EReal) = m ((c : Thread nD τ).loc main_arg0) (ix2 r k) := fun k =>
      (conv_at _ _).trans (bx_used m hO c hi (f := 0) (by omega) h _ _ hr rfl)
    rw [show 1024 * (f + 1) = 1024 * f + 1024 from by omega, Finset.sum_range_add, ← ih (by omega)]
    refine (step_at _ _ _ _ _ y).trans (congrArg _ ?_)
    rw [Finset.sum_range]
    refine Finset.sum_congr rfl fun q _ => ?_
    have hn : 1024 * f + q.val < 7168 := by omega
    have hg : ∀ k : Fin 2048, (bg m hO c (pt m hO (7 * i + f)) (ix3 0 k q) : EReal) = m ((c : Thread nD τ).loc main_arg2) (ix3 ⟨expertAt m i, expertAt_lt m hi h⟩ k ⟨1024 * f + q.val, hn⟩) := fun k =>
      bg_used m hO c hi (by omega) h _ _ rfl rfl (congrArg (· + q.val) (Nat.mul_comm 1024 f))
    have hu : ∀ k : Fin 2048, (bu m hO c (pt m hO (7 * i + f)) (ix3 0 k q) : EReal) = m ((c : Thread nD τ).loc main_arg3) (ix3 ⟨expertAt m i, expertAt_lt m hi h⟩ k ⟨1024 * f + q.val, hn⟩) := fun k =>
      bu_used m hO c hi (by omega) h _ _ rfl rfl (congrArg (· + q.val) (Nat.mul_comm 1024 f))
    have hd : (bd m hO c (pt m hO (7 * i + f)) (ix3 0 q (y 1)) : EReal) = m ((c : Thread nD τ).loc main_arg4) (ix3 ⟨expertAt m i, expertAt_lt m hi h⟩ ⟨1024 * f + q.val, hn⟩ (y 1)) :=
      bd_used m hO c hi (by omega) h _ _ rfl (congrArg (· + q.val) (Nat.mul_comm 1024 f)) rfl
    refine Eq.trans ?_ (dif_pos hn).symm
    unfold hidden
    simp only [hx, hg, hu, hd]

/-- Tile `i`'s block of the result is its rows. -/
theorem place_4 (t : Fin grid0.N) : cc0_transform_4 (grid0.coords t) = ![t.val / 7, 0] := by
  have h0 := coords_0 t
  have ht : t.val < 504 := Nat.lt_of_lt_of_eq t.isLt N_0
  have e : (BitVec.ofNat 32 (grid0.coords t 0).val).toNat = t.val / 7 := by rw [h0, BitVec.toNat_ofNat]; omega
  exact congrArg (fun n : ℕ => (![n, 0] : Fin 2 → ℕ)) e

/-- An element of the result's block, in the result. -/
theorem emb_of_4 (a : (pcfg0 (F := Ideal)).Adm) (t : Fin grid0.N) (y : S512x2048.Idx) (z : S36864x2048.Idx)
    (h0 : (z 0).val = t.val / 7 * 512 + (y 0).val) (h1 : (z 1).val = (y 1).val) : (((cfg0 a).win 4).blk t).view.emb y = z := by
  refine funext fun q => Fin.ext ?_
  refine (Pipeline.Window.rect_emb_val ((cfg0 a).win 4) t y q).trans ?_
  rw [index_of_4, place_4]
  fin_cases q
  · exact h0.symm
  · exact (Nat.zero_add _).trans h1.symm

theorem mem_of_4 (a : (pcfg0 (F := Ideal)).Adm) (t : Fin grid0.N) (y : S512x2048.Idx) (z : S36864x2048.Idx)
    (h0 : (z 0).val = t.val / 7 * 512 + (y 0).val) (h1 : (z 1).val = (y 1).val) : z ∈ (((cfg0 a).win 4).blk t).view.set :=
  emb_of_4 a t y z h0 h1 ▸ View.emb_mem_set (((cfg0 a).win 4).blk t).view y

/-- The kernel's result. -/
def result (c : Dev nD) : FVec Ideal S36864x2048 .f32 := fun i =>
  if h : flag m ((i 0).val / 512) = 1#32 then
    expertOut (m ((c : Thread nD τ).loc main_arg0)) (m ((c : Thread nD τ).loc main_arg2)) (m ((c : Thread nD τ).loc main_arg3)) (m ((c : Thread nD τ).loc main_arg4))
      (i 0) ⟨expertAt m ((i 0).val / 512), expertAt_lt m (by have : (i 0).val < 36864 := (i 0).isLt; omega) h⟩ (i 1)
  else (0 : EReal)

theorem outAt_at (hO : Ok m) (c : Dev nD) (t : Fin (cfgM m hO).N) (ht : t.val < 504) (y : S512x2048.Idx) (i : S36864x2048.Idx)
    (h0 : (i 0).val = t.val / 7 * 512 + (y 0).val) (h1 : (i 1).val = (y 1).val) : outAt m hO c t y = result m c i := by
  have hy : (y 0).val < 512 := (y 0).isLt
  have hd : (i 0).val / 512 = t.val / 7 := by omega
  have e1 : i 1 = y 1 := Fin.ext h1
  refine (last_at _ _ y).trans ?_
  unfold result
  by_cases h : flag m (t.val / 7) = 1#32
  · have hE : (⟨expertAt m (t.val / 7), expertAt_lt m (by omega) h⟩ : Fin 8) = ⟨expertAt m ((i 0).val / 512), expertAt_lt m (by omega) (hd ▸ h)⟩ := Fin.ext (congrArg (expertAt m) hd.symm)
    rw [if_pos h, dif_pos (hd ▸ h)]
    refine (part_used m hO c (by omega) h (i 0) y h0 7 le_rfl).trans ((sum_summand _ _ _ _ (i 0) _ (y 1)).trans ?_)
    rw [hE, e1]
  · rw [if_neg h, dif_neg (hd ▸ h)]

/-- Every row of the result is written. -/
theorem cover_4 (a : (pcfg0 (F := Ideal)).Adm) (i : S36864x2048.Idx) :
    ∃ t : Fin (cfg0 a).N, ((cfg0 a).win 4).flush t = true ∧ i ∈ (((cfg0 a).win 4).blk t).view.set := by
  have hi : (i 0).val < 36864 := (i 0).isLt
  have hN : (cfg0 a).N = 504 := N_0
  refine ⟨⟨7 * ((i 0).val / 512) + 6, by omega⟩, (flush0_4 a _).mpr (by show (7 * ((i 0).val / 512) + 6) % 7 = 6; omega),
    mem_of_4 a _ (ix2 (⟨(i 0).val % 512, by omega⟩ : Fin 512) (i 1 : Fin 2048)) i ?_ rfl⟩
  show (i 0).val = (7 * ((i 0).val / 512) + 6) / 7 * 512 + (i 0).val % 512
  omega

theorem out_place (hO : Ok m) (c : Dev nD) (t : Fin grid0.N) (y : S512x2048.Idx) :
    outAt m hO c t y = result m c ((((cfg0 (adm m hO)).win 4).blk t).view.emb y) := by
  have ht : t.val < 504 := Nat.lt_of_lt_of_eq t.isLt N_0
  have hy : (y 0).val < 512 := (y 0).isLt
  have hz : t.val / 7 * 512 + (y 0).val < 36864 := by omega
  generalize hq : (ix2 (⟨t.val / 7 * 512 + (y 0).val, hz⟩ : Fin 36864) (y 1 : Fin 2048) : S36864x2048.Idx) = z
  have z0 : (z 0).val = t.val / 7 * 512 + (y 0).val := by rw [← hq]; rfl
  have z1 : (z 1).val = (y 1).val := by rw [← hq]; rfl
  have e := emb_of_4 (adm m hO) t y z z0 z1
  have e' := outAt_at m hO c t ht y z z0 z1
  rw [e', e]

theorem arr_of (a : (pcfg0 (F := Ideal)).Adm) (c : Dev nD) (dat : Dat τ (Elt Ideal) Unit ℕ (UR sig nD τ) ℕ (cfg0 a) c) (G : FVec Ideal S36864x2048 .f32)
    (out : Fin grid0.N → Vec Ideal S512x2048 .f32) (hafter : ∀ t, dat.after 4 t = out t)
    (h : ∀ (t : Fin grid0.N) (y : S512x2048.Idx), out t y = G ((((cfg0 a).win 4).blk t).view.emb y)) : dat.arrAt 4 (cfg0 a).N = G := by
  refine dat.arrAt_eq_of_emb 4 _ (fun t hf y => ?_) (cover_4 a)
  refine Eq.trans ?_ (h t y)
  rw [hafter]
  rfl

/-- The result array after the launch. -/
theorem arr_eq (hO : Ok m) (c : Dev nD) : (dats m hO 0 c).arrAt 4 (cfgM m hO).N = result m c :=
  arr_of (adm m hO) c (dats m hO 0 c) (result m c) (outAt m hO c) (after_4 m hO c) (out_place m hO c)
end Cert.Moe

end
-- ==== Proof.RefValue.lean ====
module

public import proofs.«01_k».proof.Proof.Value
public import proofs.«01_k».proof.Proof.Gen.ReferenceIdeal.Run
public import Idealize.ShloMosaic.Lib.Routing.Words

/-! The reference's result over the extended reals: each row's gates pick its tile's expert, or none. -/

@[expose] public section

set_option maxRecDepth 16384

noncomputable section

namespace Cert.Moe.Ref

open Cert.ReferenceIdeal Cert.ReferenceIdeal.Gen Cert.ReferenceIdeal.Value
open Idealize.ShloMosaic Idealize.ShloMosaic.TcCoe Idealize.ShloMosaic.Tactic
open Idealize.SL Idealize.SL.Sem

variable (Y : Valuation τ sig (Elt Ideal))

/-- The row counts, rounded up to tiles and summed. -/
def groupEnds : IVec S8 32 := groupEnd (addi (Y (Proc.devRef .tc main_arg1)) (broadcastInDim S8 ![] bcast_S_S8 (constantI S_ 32 511#32)))

theorem ends_eq : res_main_v3 Y = groupEnds Y := rfl

/-- The tile of a row. -/
theorem tile_at (i : S36864.Idx) : res_main_v5 Y i = BitVec.ofNat 32 ((i 0).val / 512) := by
  have hi : (i 0).val < 36864 := (i 0).isLt
  exact Routing.pyDiv_ap (hb := bcast_S_S36864) (res_main_v4 Y) (constantI S_ 32 512#32) i rfl rfl (by omega) (by omega) (by omega)

/-- The gate of expert `e` in a row of tile `w`: one for the tile's expert while the tile is in use, zero otherwise. -/
def gate (E : IVec S8 32) (w : BitVec 32) (e : ℕ) : EReal := if within E w = 1#1 ∧ (passed E w).toNat = e then 1 else 0

theorem gate_word (E : IVec S8 32) (w : BitVec 32) {n : ℕ} (hn : n < 2 ^ 32) :
    (FloatOps.uitofp (F := Ideal) .f32 (IntOp.cmpi .eq (passed E w) (BitVec.ofNat 32 n)) : EReal) * FloatOps.uitofp (F := Ideal) .f32 (within E w) = gate E w n := by
  have one : (FloatOps.uitofp (F := Ideal) .f32 1#1 : EReal) = 1 := by
    show (((1#1 : BitVec 1).toNat : ℝ) : EReal) = 1
    simp
  have zero : (FloatOps.uitofp (F := Ideal) .f32 0#1 : EReal) = 0 := by
    show (((0#1 : BitVec 1).toNat : ℝ) : EReal) = 0
    simp
  unfold gate
  by_cases hp : passed E w = BitVec.ofNat 32 n
  · have hq : (passed E w).toNat = n := by rw [hp, BitVec.toNat_ofNat, Nat.mod_eq_of_lt hn]
    have e : IntOp.cmpi .eq (passed E w) (BitVec.ofNat 32 n) = 1#1 := by rw [hp]; simp [IntOp.cmpi]
    rw [e, one, one_mul]
    rcases (show within E w = 0#1 ∨ within E w = 1#1 by generalize within E w = b; revert b; decide) with h | h
    · rw [h, zero, if_neg (by rintro ⟨h', -⟩; exact absurd h' (by decide))]
    · rw [h, one, if_pos ⟨rfl, hq⟩]
  · have hq : (passed E w).toNat ≠ n := fun h => hp (BitVec.eq_of_toNat_eq (by rw [h, BitVec.toNat_ofNat, Nat.mod_eq_of_lt hn]))
    have e : IntOp.cmpi .eq (passed E w) (BitVec.ofNat 32 n) = 0#1 := cmpi_eq_of_ne hp
    rw [e, zero, zero_mul, if_neg (fun h => hq h.2)]

theorem gate_at (i : S36864x8.Idx) : res_main_v21 Y i = gate (groupEnds Y) (BitVec.ofNat 32 ((i 0).val / 512)) (i 1).val := by
  generalize hR : gate (groupEnds Y) (BitVec.ofNat 32 ((i 0).val / 512)) (i 1).val = R
  unfold res_main_v21
  clean_types
  pointwise
  rw [ends_eq, tile_at, ← hR]
  exact gate_word _ _ (lt_trans (i 1).isLt (by decide))

/-- The reference's result. -/
def result : FVec Ideal S36864x2048 .f32 := fun i =>
  ∑ e : Fin 8, gate (groupEnds Y) (BitVec.ofNat 32 ((i 0).val / 512)) e.val
    * expertOut (Y (Proc.devRef .tc main_arg0)) (Y (Proc.devRef .tc main_arg2)) (Y (Proc.devRef .tc main_arg3)) (Y (Proc.devRef .tc main_arg4)) (i 0) e (i 1)

/-- A row's product with expert `e`'s first weight. -/
def gateDot (X : FVec Ideal S36864x2048 .f32) (G : FVec Ideal S8x2048x7168 .f32) (e : Fin 8) (r : Fin 36864) (h : Fin 7168) : EReal :=
  ∑ k : Fin 2048, X (ix2 r k) * G (ix3 e k h)

theorem dot_0 (r : Fin 36864) (h : Fin 7168) : res_main_v25 Y (ix2 r h) = gateDot (Y (Proc.devRef .tc main_arg0)) (Y (Proc.devRef .tc main_arg2)) 0 r h := by
  unfold res_main_v25 gateDot; clean_types; pointwise
theorem dot_1 (r : Fin 36864) (h : Fin 7168) : res_main_v40 Y (ix2 r h) = gateDot (Y (Proc.devRef .tc main_arg0)) (Y (Proc.devRef .tc main_arg2)) 1 r h := by
  unfold res_main_v40 gateDot; clean_types; pointwise
theorem dot_2 (r : Fin 36864) (h : Fin 7168) : res_main_v55 Y (ix2 r h) = gateDot (Y (Proc.devRef .tc main_arg0)) (Y (Proc.devRef .tc main_arg2)) 2 r h := by
  unfold res_main_v55 gateDot; clean_types; pointwise
theorem dot_3 (r : Fin 36864) (h : Fin 7168) : res_main_v70 Y (ix2 r h) = gateDot (Y (Proc.devRef .tc main_arg0)) (Y (Proc.devRef .tc main_arg2)) 3 r h := by
  unfold res_main_v70 gateDot; clean_types; pointwise
theorem dot_4 (r : Fin 36864) (h : Fin 7168) : res_main_v85 Y (ix2 r h) = gateDot (Y (Proc.devRef .tc main_arg0)) (Y (Proc.devRef .tc main_arg2)) 4 r h := by
  unfold res_main_v85 gateDot; clean_types; pointwise
theorem dot_5 (r : Fin 36864) (h : Fin 7168) : res_main_v100 Y (ix2 r h) = gateDot (Y (Proc.devRef .tc main_arg0)) (Y (Proc.devRef .tc main_arg2)) 5 r h := by
  unfold res_main_v100 gateDot; clean_types; pointwise
theorem dot_6 (r : Fin 36864) (h : Fin 7168) : res_main_v115 Y (ix2 r h) = gateDot (Y (Proc.devRef .tc main_arg0)) (Y (Proc.devRef .tc main_arg2)) 6 r h := by
  unfold res_main_v115 gateDot; clean_types; pointwise
theorem dot_7 (r : Fin 36864) (h : Fin 7168) : res_main_v130 Y (ix2 r h) = gateDot (Y (Proc.devRef .tc main_arg0)) (Y (Proc.devRef .tc main_arg2)) 7 r h := by
  unfold res_main_v130 gateDot; clean_types; pointwise

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v142) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  generalize StableHlo.launchContents m c = Y
  refine funext fun (i : S36864x2048.Idx) => ?_
  obtain ⟨r, j, rfl⟩ : ∃ (r : Fin 36864) (j : Fin 2048), i = ix2 r j := ⟨i 0, i 1, funext fun a => by fin_cases a <;> rfl⟩
  generalize hR : result Y (ix2 r j) = R
  clean_types
  unfold res_main_v97
  pointwise
  simp only [dot_0, dot_1, dot_2, dot_3, dot_4, dot_5, dot_6, dot_7]
  rw [← hR]
  unfold result
  rw [Fin.sum_univ_eight]
  rw [gate_at, gate_at, gate_at, gate_at, gate_at, gate_at, gate_at, gate_at]
  rfl

/-- The gates pick one expert's output in a tile in use, and nothing in another. -/
theorem gated_sum (E : IVec S8 32) (w : BitVec 32) (f : Fin 8 → EReal) :
    ∑ e : Fin 8, gate E w e.val * f e = if h : within E w = 1#1 then f ⟨(passed E w).toNat, passed_lt E w h⟩ else 0 := by
  by_cases h : within E w = 1#1
  · rw [dif_pos h, Finset.sum_eq_single (⟨(passed E w).toNat, passed_lt E w h⟩ : Fin 8)]
    · unfold gate; rw [if_pos ⟨h, rfl⟩, one_mul]
    · intro e _ he
      unfold gate
      rw [if_neg (fun h' => he (Fin.ext h'.2.symm)), zero_mul]
    · intro h'; exact absurd (Finset.mem_univ _) h'
  · rw [dif_neg h]
    refine Finset.sum_eq_zero fun e _ => ?_
    unfold gate
    rw [if_neg (fun h' => h h'.1), zero_mul]

end Cert.Moe.Ref

namespace Cert.Moe

open Idealize.ShloMosaic Idealize.ShloMosaic.TcCoe

/-- The kernel's result is the reference's, from equal arguments. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    Ref.result (StableHlo.launchContents m' c) = result m c := by
  obtain rfl : c = 0 := Subsingleton.elim _ _
  have hE : Ref.groupEnds (StableHlo.launchContents m' (0 : Dev KernelIdeal.nD)) = ends m 0 :=
    congrArg (fun x : IVec KernelIdeal.S8 32 => groupEnd (addi x (broadcastInDim KernelIdeal.S8 ![] KernelIdeal.Gen.bcast_S_S8 (constantI KernelIdeal.S_ 32 511#32)))) h1
  have e0 : StableHlo.launchContents m' (0 : Dev KernelIdeal.nD) (Proc.devRef .tc ReferenceIdeal.main_arg0) = _ := h0
  have e2 : StableHlo.launchContents m' (0 : Dev KernelIdeal.nD) (Proc.devRef .tc ReferenceIdeal.main_arg2) = _ := h2
  have e3 : StableHlo.launchContents m' (0 : Dev KernelIdeal.nD) (Proc.devRef .tc ReferenceIdeal.main_arg3) = _ := h3
  have e4 : StableHlo.launchContents m' (0 : Dev KernelIdeal.nD) (Proc.devRef .tc ReferenceIdeal.main_arg4) = _ := h4
  funext i
  have hi : (i 0).val < 36864 := (i 0).isLt
  have hf := flag_iff m (n := (i 0).val / 512) (by omega)
  unfold Ref.result result
  rw [e0, e2, e3, e4, hE, Ref.gated_sum]
  by_cases h : flag m ((i 0).val / 512) = 1#32
  · rw [dif_pos (hf.mp h), dif_pos h]; rfl
  · rw [dif_neg (fun h' => h (hf.mpr h')), dif_neg h]

end Cert.Moe

end
-- ==== Proof.DenseCase.lean ====
module

public import proofs.«01_k».proof.Proof.Gen.DenseIdeal.Value

/-! What one grid point of the dense feed-forward leaves: the running sum in its scratch, and, at a row block's last
point, the normalised rows in both formats. -/

@[expose] public section

set_option maxRecDepth 16384

noncomputable section

namespace Cert.DenseFfn

open Cert.DenseIdeal Cert.DenseIdeal.Gen
open Idealize.ShloMosaic Idealize.ShloMosaic.TcCoe Idealize.ShloMosaic.Tactic
open Idealize.SL Idealize.SL.Sem

variable {F : FTy → Type} [FloatOps F]

theorem start_zero : (![0, 0] : Fin 2 → ℕ) = fun _ => 0 := by
  funext q
  fin_cases q <;> rfl

/-- The first point of a row block starts its sum at zero. -/
theorem scratch_first (c : Dev nD) (i : grid0.Coords) (a0 : Memref sig .tc .vmem S512x2048 .bf16) (h0 : a0.IsWhole) (a1 : Memref sig .tc .vmem S512x2048 .f32) (h1 : a1.IsWhole) (a2 : Memref sig .tc .vmem S2048x512 .bf16) (h2 : a2.IsWhole) (a3 : Memref sig .tc .vmem S2048x512 .bf16) (h3 : a3.IsWhole) (a4 : Memref sig .tc .vmem S512x2048 .bf16) (h4 : a4.IsWhole) (a5 : Memref sig .tc .vmem S1x2048 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole) (e0 : cond0_0 i) (e1 : ¬cond0_1 i) (x : Vec F S512x2048 .bf16) (r : Vec F S512x2048 .f32) (g u : Vec F S2048x512 .bf16) (d : Vec F S512x2048 .bf16) (p q : Vec F S1x2048 .f32) :
    sout0_A_0 c i a0 h0 a1 h1 a2 h2 a3 h3 a4 h4 a5 h5 a6 h6 a7 h7 a8 h8 a9 h9 e0 e1 x r g u d p q = k0_pay2 x g u k0_pay1 d := by
  unfold sout0_A_0
  rw [View.read_writes_eq_canon _ _ _ (scover0_A_0 c i a0 h0 a1 h1 a2 h2 a3 h3 a4 h4 a5 h5 a6 h6 a7 h7 a8 h8 a9 h9 e0 e1 x r g u d p q)]
  unfold kernelRun0_A
  dsimp only
  sl_unfold_words
  rw [View.canon_cons_unit_zero (S := S512x2048) start_zero, View.readCov_unit_zero (S := S512x2048) _ start_zero]
  simp only [View.readAt_eq_ld, h0.read_unread, h1.read_unread, h2.read_unread, h3.read_unread, h4.read_unread, h5.read_unread, h6.read_unread, h9.read_unread,
    View.ld_unit_zero (S := S512x2048) start_zero, View.ld_unit_zero (S := S2048x512) start_zero, View.ld_unit_zero (S := S1x2048) start_zero]

/-- A middle point adds its block of hidden columns. -/
theorem scratch_middle (c : Dev nD) (i : grid0.Coords) (a0 : Memref sig .tc .vmem S512x2048 .bf16) (h0 : a0.IsWhole) (a1 : Memref sig .tc .vmem S512x2048 .f32) (h1 : a1.IsWhole) (a2 : Memref sig .tc .vmem S2048x512 .bf16) (h2 : a2.IsWhole) (a3 : Memref sig .tc .vmem S2048x512 .bf16) (h3 : a3.IsWhole) (a4 : Memref sig .tc .vmem S512x2048 .bf16) (h4 : a4.IsWhole) (a5 : Memref sig .tc .vmem S1x2048 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole) (e0 : ¬cond0_0 i) (e1 : ¬cond0_1 i) (x : Vec F S512x2048 .bf16) (r : Vec F S512x2048 .f32) (g u : Vec F S2048x512 .bf16) (d : Vec F S512x2048 .bf16) (p q : Vec F S1x2048 .f32) (s : Vec F S512x2048 .f32) :
    sout0_B_0 c i a0 h0 a1 h1 a2 h2 a3 h3 a4 h4 a5 h5 a6 h6 a7 h7 a8 h8 a9 h9 e0 e1 x r g u d p q s = k0_pay2 x g u s d := by
  unfold sout0_B_0
  rw [View.read_writes_eq_canon _ _ _ (scover0_B_0 c i a0 h0 a1 h1 a2 h2 a3 h3 a4 h4 a5 h5 a6 h6 a7 h7 a8 h8 a9 h9 e0 e1 x r g u d p q s)]
  unfold kernelRun0_B
  dsimp only
  rw [View.canon_unit_zero (S := S512x2048) start_zero]
  simp only [View.readAt_eq_ld, h0.read_unread, h1.read_unread, h2.read_unread, h3.read_unread, h4.read_unread, h5.read_unread, h6.read_unread, h9.read_unread,
    View.ld_unit_zero (S := S512x2048) start_zero, View.ld_unit_zero (S := S2048x512) start_zero, View.ld_unit_zero (S := S1x2048) start_zero]

/-- The last point's rows, from the finished sum. -/
theorem rows_last (c : Dev nD) (i : grid0.Coords) (a0 : Memref sig .tc .vmem S512x2048 .bf16) (h0 : a0.IsWhole) (a1 : Memref sig .tc .vmem S512x2048 .f32) (h1 : a1.IsWhole) (a2 : Memref sig .tc .vmem S2048x512 .bf16) (h2 : a2.IsWhole) (a3 : Memref sig .tc .vmem S2048x512 .bf16) (h3 : a3.IsWhole) (a4 : Memref sig .tc .vmem S512x2048 .bf16) (h4 : a4.IsWhole) (a5 : Memref sig .tc .vmem S1x2048 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole) (e0 : ¬cond0_0 i) (e1 : cond0_1 i) (x : Vec F S512x2048 .bf16) (r : Vec F S512x2048 .f32) (g u : Vec F S2048x512 .bf16) (d : Vec F S512x2048 .bf16) (p q : Vec F S1x2048 .f32) (s : Vec F S512x2048 .f32) :
    out0_C_7 c i a0 h0 a1 h1 a2 h2 a3 h3 a4 h4 a5 h5 a6 h6 a7 h7 a8 h8 a9 h9 e0 e1 x r g u d p q s = k0_pay3 r (k0_pay2 x g u s d) p q := by
  unfold out0_C_7
  rw [View.read_writes_eq_canon _ _ _ (cover0_C_7 c i a0 h0 a1 h1 a2 h2 a3 h3 a4 h4 a5 h5 a6 h6 a7 h7 a8 h8 a9 h9 e0 e1 x r g u d p q s)]
  unfold kernelRun0_C
  dsimp only
  sl_unfold_words
  rw [View.canon_unit_zero (S := S512x2048) start_zero, View.readCov_unit_zero (S := S512x2048) _ start_zero]
  simp only [View.readAt_eq_ld, h0.read_unread, h1.read_unread, h2.read_unread, h3.read_unread, h4.read_unread, h5.read_unread, h6.read_unread, h9.read_unread,
    View.ld_unit_zero (S := S512x2048) start_zero, View.ld_unit_zero (S := S2048x512) start_zero, View.ld_unit_zero (S := S1x2048) start_zero]

/-- The same rows in the shorter format. -/
theorem short_last (c : Dev nD) (i : grid0.Coords) (a0 : Memref sig .tc .vmem S512x2048 .bf16) (h0 : a0.IsWhole) (a1 : Memref sig .tc .vmem S512x2048 .f32) (h1 : a1.IsWhole) (a2 : Memref sig .tc .vmem S2048x512 .bf16) (h2 : a2.IsWhole) (a3 : Memref sig .tc .vmem S2048x512 .bf16) (h3 : a3.IsWhole) (a4 : Memref sig .tc .vmem S512x2048 .bf16) (h4 : a4.IsWhole) (a5 : Memref sig .tc .vmem S1x2048 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole) (e0 : ¬cond0_0 i) (e1 : cond0_1 i) (x : Vec F S512x2048 .bf16) (r : Vec F S512x2048 .f32) (g u : Vec F S2048x512 .bf16) (d : Vec F S512x2048 .bf16) (p q : Vec F S1x2048 .f32) (s : Vec F S512x2048 .f32) :
    out0_C_8 c i a0 h0 a1 h1 a2 h2 a3 h3 a4 h4 a5 h5 a6 h6 a7 h7 a8 h8 a9 h9 e0 e1 x r g u d p q s = k0_pay4 r (k0_pay2 x g u s d) p q := by
  unfold out0_C_8
  rw [View.read_writes_eq_canon _ _ _ (cover0_C_8 c i a0 h0 a1 h1 a2 h2 a3 h3 a4 h4 a5 h5 a6 h6 a7 h7 a8 h8 a9 h9 e0 e1 x r g u d p q s)]
  unfold kernelRun0_C
  dsimp only
  sl_unfold_words
  rw [View.canon_unit_zero (S := S512x2048) start_zero, View.readCov_unit_zero (S := S512x2048) _ start_zero]
  simp only [View.readAt_eq_ld, h0.read_unread, h1.read_unread, h2.read_unread, h3.read_unread, h4.read_unread, h5.read_unread, h6.read_unread, h9.read_unread,
    View.ld_unit_zero (S := S512x2048) start_zero, View.ld_unit_zero (S := S2048x512) start_zero, View.ld_unit_zero (S := S1x2048) start_zero]

end Cert.DenseFfn

end
-- ==== Proof.DenseValue.lean ====
module

public import proofs.«01_k».proof.Proof.DenseCase
public import Idealize.ShloMosaic.Lib.Pipeline.ValueKit
public import Idealize.ShloMosaic.Lib.Pointwise
public import Idealize.ShloMosaic.Lib.StableHlo.RunRead
public import Idealize.ShloMosaic.Lib.Tactic
public import Idealize.ShloMosaic.Lib.Tactic.CleanTypes

/-! The dense feed-forward's two results over the extended reals: every row is the layer norm of the scaled token plus
the sum over all hidden columns. -/

@[expose] public section

set_option maxRecDepth 16384

noncomputable section

namespace Cert.DenseFfn

open Cert.DenseIdeal Cert.DenseIdeal.Gen
open Idealize.ShloMosaic Idealize.ShloMosaic.TcCoe Idealize.ShloMosaic.Tactic
open Idealize.SL Idealize.SL.Sem

/-- Hidden column `h` for the token in row `r`. -/
def unit (H : FVec Ideal S16384x2048 .f32) (G U : FVec Ideal S2048x5632 .f32) (r : Fin 16384) (h : Fin 5632) : EReal :=
  (∑ k : Fin 2048, H (ix2 r k) * G (ix2 k h)) * Ideal.logistic (∑ k : Fin 2048, H (ix2 r k) * G (ix2 k h)) * ∑ k : Fin 2048, H (ix2 r k) * U (ix2 k h)

/-- The feed-forward of the token in row `r`, at column `j`. -/
def ffn (H : FVec Ideal S16384x2048 .f32) (G U : FVec Ideal S2048x5632 .f32) (D : FVec Ideal S5632x2048 .f32) (r : Fin 16384) (j : Fin 2048) : EReal :=
  ∑ h : Fin 5632, unit H G U r h * D (ix2 h j)

/-- Its summand at hidden column `n`, zero past the last column. -/
def term (H : FVec Ideal S16384x2048 .f32) (G U : FVec Ideal S2048x5632 .f32) (D : FVec Ideal S5632x2048 .f32) (r : Fin 16384) (j : Fin 2048) (n : ℕ) : EReal :=
  if h : n < 5632 then unit H G U r ⟨n, h⟩ * D (ix2 ⟨n, h⟩ j) else 0

theorem sum_term (H : FVec Ideal S16384x2048 .f32) (G U : FVec Ideal S2048x5632 .f32) (D : FVec Ideal S5632x2048 .f32) (r : Fin 16384) (j : Fin 2048) :
    ∑ n ∈ Finset.range 5632, term H G U D r j n = ffn H G U D r j := by
  rw [Finset.sum_range]
  refine Finset.sum_congr rfl fun h _ => ?_
  exact dif_pos h.isLt

/-- The mean of a row. -/
def mean (f : Fin 2048 → EReal) : EReal := Ideal.div (∑ k, f k) (Ideal.ofBits .f32 0x45000000#32)

/-- The layer norm of a row, at column `j`, before its scale and shift. -/
def normed (f : Fin 2048 → EReal) (j : Fin 2048) : EReal :=
  (f j - mean f) * Ideal.rsqrt (mean (fun k => (f k - mean f) * (f k - mean f)) + Ideal.ofBits .f32 0x3727C5AC#32)

/-- The row the layer norm is taken of. -/
def mixed (H : FVec Ideal S16384x2048 .f32) (G U : FVec Ideal S2048x5632 .f32) (D : FVec Ideal S5632x2048 .f32) (r : Fin 16384) (j : Fin 2048) : EReal :=
  Ideal.ofBits .f32 0x3FB504F3#32 * H (ix2 r j) + ffn H G U D r j

/-- The result. -/
def result (H : FVec Ideal S16384x2048 .f32) (G U : FVec Ideal S2048x5632 .f32) (D : FVec Ideal S5632x2048 .f32) (P Q : FVec Ideal S2048 .f32) (i : S16384x2048.Idx) : EReal :=
  normed (mixed H G U D (i 0)) (i 1) * P (ix1 (i 1)) + Q (ix1 (i 1))

theorem norm_at (r s : Vec Ideal S512x2048 .f32) (p q : Vec Ideal S1x2048 .f32) (y : S512x2048.Idx) :
    (k0_pay3 r s p q y : EReal) = normed (fun k => Ideal.ofBits .f32 0x3FB504F3#32 * (r (ix2 (y 0) k) : EReal) + s (ix2 (y 0) k)) (y 1) * p (ix2 0 (y 1)) + q (ix2 0 (y 1)) := by
  obtain ⟨a, b, rfl⟩ : ∃ (a : Fin 512) (b : Fin 2048), y = ix2 a b := ⟨y 0, y 1, funext fun a => by fin_cases a <;> rfl⟩
  unfold normed mean
  pointwise [k0_pay3]

theorem short_at (r s : Vec Ideal S512x2048 .f32) (p q : Vec Ideal S1x2048 .f32) (y : S512x2048.Idx) :
    (k0_pay4 r s p q y : EReal) = k0_pay3 r s p q y := by
  pointwise [k0_pay4]

theorem zero_at (y : S512x2048.Idx) : k0_pay1 (F := Ideal) y = (0 : EReal) := by
  pointwise [k0_pay1]

/-- One block of hidden columns, at an index. -/
theorem step_at (x : Vec Ideal S512x2048 .bf16) (g u : Vec Ideal S2048x512 .bf16) (s : Vec Ideal S512x2048 .f32) (d : Vec Ideal S512x2048 .bf16) (y : S512x2048.Idx) :
    (k0_pay2 x g u s d y : EReal) = (s y : EReal) + ∑ q : Fin 512,
      ((∑ k : Fin 2048, (x (ix2 (y 0) k) : EReal) * g (ix2 k q)) * Ideal.logistic (∑ k : Fin 2048, (x (ix2 (y 0) k) : EReal) * g (ix2 k q))
        * ∑ k : Fin 2048, (x (ix2 (y 0) k) : EReal) * u (ix2 k q)) * d (ix2 q (y 1)) := by
  pointwise [k0_pay2]

variable (m : (ℓ : Loc nD τ sig) → Buf (Elt Ideal) ℓ)

theorem row_of (t : Fin grid0.N) : (grid0.coords t 0).val = t.val / 11 := by
  have ht : t.val < 352 := Nat.lt_of_lt_of_eq t.isLt N_0
  have e : (grid0.coords t 0).val = t.val / 11 % 32 := Pipeline.Grid.coords_val t 0 (by decide) rfl
  omega

theorem col_of (t : Fin grid0.N) : (grid0.coords t 1).val = t.val % 11 := by
  have e : (grid0.coords t 1).val = t.val / 1 % 11 := Pipeline.Grid.coords_val t 1 (by decide) rfl
  omega

theorem row_word (t : Fin grid0.N) : (BitVec.ofNat 32 (grid0.coords t 0).val).toNat = t.val / 11 := by
  have ht : t.val < 352 := Nat.lt_of_lt_of_eq t.isLt N_0
  rw [row_of, BitVec.toNat_ofNat]; omega

theorem col_word (t : Fin grid0.N) : (BitVec.ofNat 32 (grid0.coords t 1).val).toNat = t.val % 11 := by
  have ht : t.val < 352 := Nat.lt_of_lt_of_eq t.isLt N_0
  rw [col_of, BitVec.toNat_ofNat]; omega

theorem place_0 (t : Fin grid0.N) : (cfg0.win 0).index t = ![t.val / 11, 0] := congrArg (fun n : ℕ => (![n, 0] : Fin 2 → ℕ)) (row_word t)
theorem read_0 (c : Dev nD) (t : Fin grid0.N) (y : S512x2048.Idx) (z : S16384x2048.Idx) (h0 : (z 0).val = t.val / 11 * 512 + (y 0).val) (h1 : (z 1).val = (y 1).val) :
    (iblk m c 0 t : Vec Ideal S512x2048 .bf16) y = (V m c main_v0 : S16384x2048.Idx → EReal) z := by
  refine congrArg (V m c main_v0) (funext fun q => Fin.ext ?_)
  refine (Pipeline.Window.rect_emb_val (cfg0.win 0) t y q).trans ?_
  rw [place_0]
  fin_cases q
  · exact h0.symm
  · exact (Nat.zero_add _).trans h1.symm

theorem place_1 (t : Fin grid0.N) : (cfg0.win 1).index t = ![t.val / 11, 0] := congrArg (fun n : ℕ => (![n, 0] : Fin 2 → ℕ)) (row_word t)
theorem read_1 (c : Dev nD) (t : Fin grid0.N) (y : S512x2048.Idx) (z : S16384x2048.Idx) (h0 : (z 0).val = t.val / 11 * 512 + (y 0).val) (h1 : (z 1).val = (y 1).val) :
    (iblk m c 1 t : Vec Ideal S512x2048 .f32) y = (V m c main_arg0 : S16384x2048.Idx → EReal) z := by
  refine congrArg (V m c main_arg0) (funext fun q => Fin.ext ?_)
  refine (Pipeline.Window.rect_emb_val (cfg0.win 1) t y q).trans ?_
  rw [place_1]
  fin_cases q
  · exact h0.symm
  · exact (Nat.zero_add _).trans h1.symm

theorem place_2 (t : Fin grid0.N) : (cfg0.win 2).index t = ![0, t.val % 11] := congrArg (fun n : ℕ => (![0, n] : Fin 2 → ℕ)) (col_word t)
theorem read_2 (c : Dev nD) (t : Fin grid0.N) (y : S2048x512.Idx) (z : S2048x5632.Idx) (h0 : (z 0).val = (y 0).val) (h1 : (z 1).val = t.val % 11 * 512 + (y 1).val) :
    (iblk m c 2 t : Vec Ideal S2048x512 .bf16) y = (V m c main_v1 : S2048x5632.Idx → EReal) z := by
  refine congrArg (V m c main_v1) (funext fun q => Fin.ext ?_)
  refine (Pipeline.Window.rect_emb_val (cfg0.win 2) t y q).trans ?_
  rw [place_2]
  fin_cases q
  · exact (Nat.zero_add _).trans h0.symm
  · exact h1.symm

theorem place_3 (t : Fin grid0.N) : (cfg0.win 3).index t = ![0, t.val % 11] := congrArg (fun n : ℕ => (![0, n] : Fin 2 → ℕ)) (col_word t)
theorem read_3 (c : Dev nD) (t : Fin grid0.N) (y : S2048x512.Idx) (z : S2048x5632.Idx) (h0 : (z 0).val = (y 0).val) (h1 : (z 1).val = t.val % 11 * 512 + (y 1).val) :
    (iblk m c 3 t : Vec Ideal S2048x512 .bf16) y = (V m c main_v2 : S2048x5632.Idx → EReal) z := by
  refine congrArg (V m c main_v2) (funext fun q => Fin.ext ?_)
  refine (Pipeline.Window.rect_emb_val (cfg0.win 3) t y q).trans ?_
  rw [place_3]
  fin_cases q
  · exact (Nat.zero_add _).trans h0.symm
  · exact h1.symm

theorem place_4 (t : Fin grid0.N) : (cfg0.win 4).index t = ![t.val % 11, 0] := congrArg (fun n : ℕ => (![n, 0] : Fin 2 → ℕ)) (col_word t)
theorem read_4 (c : Dev nD) (t : Fin grid0.N) (y : S512x2048.Idx) (z : S5632x2048.Idx) (h0 : (z 0).val = t.val % 11 * 512 + (y 0).val) (h1 : (z 1).val = (y 1).val) :
    (iblk m c 4 t : Vec Ideal S512x2048 .bf16) y = (V m c main_v3 : S5632x2048.Idx → EReal) z := by
  refine congrArg (V m c main_v3) (funext fun q => Fin.ext ?_)
  refine (Pipeline.Window.rect_emb_val (cfg0.win 4) t y q).trans ?_
  rw [place_4]
  fin_cases q
  · exact h0.symm
  · exact (Nat.zero_add _).trans h1.symm

theorem place_5 (t : Fin grid0.N) : (cfg0.win 5).index t = ![0, 0] := rfl
theorem read_5 (c : Dev nD) (t : Fin grid0.N) (y : S1x2048.Idx) :
    (iblk m c 5 t : Vec Ideal S1x2048 .f32) y = (V m c main_v4 : S1x2048.Idx → EReal) y := by
  refine congrArg (V m c main_v4) (funext fun q => Fin.ext ?_)
  refine (Pipeline.Window.rect_emb_val (cfg0.win 5) t y q).trans ?_
  rw [place_5]
  fin_cases q
  · exact Nat.zero_add _
  · exact Nat.zero_add _

theorem place_6 (t : Fin grid0.N) : (cfg0.win 6).index t = ![0, 0] := rfl
theorem read_6 (c : Dev nD) (t : Fin grid0.N) (y : S1x2048.Idx) :
    (iblk m c 6 t : Vec Ideal S1x2048 .f32) y = (V m c main_v5 : S1x2048.Idx → EReal) y := by
  refine congrArg (V m c main_v5) (funext fun q => Fin.ext ?_)
  refine (Pipeline.Window.rect_emb_val (cfg0.win 6) t y q).trans ?_
  rw [place_6]
  fin_cases q
  · exact Nat.zero_add _
  · exact Nat.zero_add _

/-- The arrays the launch receives are the arguments. -/
theorem V_h (c : Dev nD) (z : S16384x2048.Idx) : (V m c main_v0 z : EReal) = m ((c : Thread nD τ).loc main_arg0) z := by
  have e : V m c main_v0 = truncf .bf16 (show FVec Ideal S16384x2048 .f32 from m ((c : Thread nD τ).loc main_arg0)) bitsLt_bf16_f32 := by unfold V; after_reads_simp
  rw [e]; rfl
theorem V_g (c : Dev nD) (z : S2048x5632.Idx) : (V m c main_v1 z : EReal) = m ((c : Thread nD τ).loc main_arg1) z := by
  have e : V m c main_v1 = truncf .bf16 (show FVec Ideal S2048x5632 .f32 from m ((c : Thread nD τ).loc main_arg1)) bitsLt_bf16_f32 := by unfold V; after_reads_simp
  rw [e]; rfl
theorem V_u (c : Dev nD) (z : S2048x5632.Idx) : (V m c main_v2 z : EReal) = m ((c : Thread nD τ).loc main_arg2) z := by
  have e : V m c main_v2 = truncf .bf16 (show FVec Ideal S2048x5632 .f32 from m ((c : Thread nD τ).loc main_arg2)) bitsLt_bf16_f32 := by unfold V; after_reads_simp
  rw [e]; rfl
theorem V_d (c : Dev nD) (z : S5632x2048.Idx) : (V m c main_v3 z : EReal) = m ((c : Thread nD τ).loc main_arg3) z := by
  have e : V m c main_v3 = truncf .bf16 (show FVec Ideal S5632x2048 .f32 from m ((c : Thread nD τ).loc main_arg3)) bitsLt_bf16_f32 := by unfold V; after_reads_simp
  rw [e]; rfl
theorem V_p (c : Dev nD) (j : Fin 2048) : (V m c main_v4 (ix2 0 j) : EReal) = m ((c : Thread nD τ).loc main_arg4) (ix1 j) := by
  have e : V m c main_v4 = shapeCast S1x2048 (m ((c : Thread nD τ).loc main_arg4)) shapeCasts_S2048_S1x2048 := by unfold V; after_reads_simp; rfl
  rw [e]; pointwise
theorem V_q (c : Dev nD) (j : Fin 2048) : (V m c main_v5 (ix2 0 j) : EReal) = m ((c : Thread nD τ).loc main_arg5) (ix1 j) := by
  have e : V m c main_v5 = shapeCast S1x2048 (m ((c : Thread nD τ).loc main_arg5)) shapeCasts_S2048_S1x2048 := by unfold V; after_reads_simp; rfl
  rw [e]; pointwise

/-- The sum over the first `n` hidden columns. -/
def upTo (c : Dev nD) (r : Fin 16384) (j : Fin 2048) (n : ℕ) : EReal :=
  ∑ k ∈ Finset.range n, term (m ((c : Thread nD τ).loc main_arg0)) (m ((c : Thread nD τ).loc main_arg1)) (m ((c : Thread nD τ).loc main_arg2)) (m ((c : Thread nD τ).loc main_arg3)) r j k

/-- A grid point takes the sum to the end of its block of hidden columns. -/
theorem step_sum (c : Dev nD) (t : Fin cfg0.N) (s : Vec Ideal S512x2048 .f32) (y : S512x2048.Idx) (r : Fin 16384) (hr : r.val = t.val / 11 * 512 + (y 0).val)
    (hs : (s y : EReal) = upTo m c r (y 1) (t.val % 11 * 512)) :
    (k0_pay2 (iblk m c 0 t) (iblk m c 2 t) (iblk m c 3 t) s (iblk m c 4 t) y : EReal) = upTo m c r (y 1) ((t.val % 11 + 1) * 512) := by
  refine (step_at _ _ _ _ _ y).trans ?_
  rw [hs, Nat.succ_mul]
  unfold upTo
  rw [Finset.sum_range_add]
  refine congrArg _ ?_
  rw [Finset.sum_range]
  refine Finset.sum_congr rfl fun q _ => ?_
  have hq : q.val < 512 := q.isLt
  have hn : t.val % 11 * 512 + q.val < 5632 := by omega
  have e0 : ∀ k : Fin 2048, ((iblk m c 0 t : Vec Ideal S512x2048 .bf16) (ix2 (y 0) k) : EReal) = m ((c : Thread nD τ).loc main_arg0) (ix2 r k) := fun k =>
    (read_0 m c t (ix2 (y 0) k) (ix2 r k) hr rfl).trans (V_h m c _)
  have e2 : ∀ k : Fin 2048, ((iblk m c 2 t : Vec Ideal S2048x512 .bf16) (ix2 k q) : EReal) = m ((c : Thread nD τ).loc main_arg1) (ix2 k ⟨t.val % 11 * 512 + q.val, hn⟩) := fun k =>
    (read_2 m c t (ix2 k q) (ix2 k ⟨_, hn⟩) rfl rfl).trans (V_g m c _)
  have e3 : ∀ k : Fin 2048, ((iblk m c 3 t : Vec Ideal S2048x512 .bf16) (ix2 k q) : EReal) = m ((c : Thread nD τ).loc main_arg2) (ix2 k ⟨t.val % 11 * 512 + q.val, hn⟩) := fun k =>
    (read_3 m c t (ix2 k q) (ix2 k ⟨_, hn⟩) rfl rfl).trans (V_u m c _)
  have e4 : ((iblk m c 4 t : Vec Ideal S512x2048 .bf16) (ix2 q (y 1)) : EReal) = m ((c : Thread nD τ).loc main_arg3) (ix2 ⟨t.val % 11 * 512 + q.val, hn⟩ (y 1)) :=
    (read_4 m c t (ix2 q (y 1)) (ix2 ⟨_, hn⟩ (y 1)) rfl rfl).trans (V_d m c _)
  refine Eq.trans ?_ (dif_pos hn).symm
  unfold unit
  simp only [e0, e2, e3, e4]

/-- The running sum after a point that is not its row block's last. -/
theorem scratch_sum (c : Dev nD) : ∀ (n : ℕ) (hn : n < cfg0.N) (h : n % 11 ≠ 10) (y : S512x2048.Idx) (r : Fin 16384), r.val = n / 11 * 512 + (y 0).val →
    ((outsAt0 m c n hn).2.2 y : EReal) = upTo m c r (y 1) ((n % 11 + 1) * 512) := by
  have first : ∀ (t : Fin cfg0.N) (h0 : t.val % 11 = 0) (y : S512x2048.Idx) (r : Fin 16384), r.val = t.val / 11 * 512 + (y 0).val →
      ((outsAt0 m c t.val t.isLt).2.2 y : EReal) = upTo m c r (y 1) ((t.val % 11 + 1) * 512) := by
    intro t h0 y r hr
    rw [outsAt0_A m c t h0 (by omega)]
    dsimp only
    rw [scratch_first]
    refine step_sum m c t _ y r hr ?_
    rw [zero_at, h0]
    exact (Finset.sum_range_zero _).symm
  intro n
  induction n with
  | zero => intro hn _ y r hr; exact first ⟨0, hn⟩ rfl y r hr
  | succ n ih =>
    intro hn h y r hr
    by_cases h0 : (n + 1) % 11 = 0
    · exact first ⟨n + 1, hn⟩ h0 y r hr
    · rw [outsAt0_B m c ⟨n + 1, hn⟩ h0 h]
      dsimp only
      rw [scratch_middle]
      refine step_sum m c ⟨n + 1, hn⟩ _ y r hr ?_
      refine (ih (Nat.lt_of_succ_lt hn) (by omega) y r (by omega)).trans ?_
      exact congrArg (fun k => upTo m c r (y 1) (k * 512)) (by show n % 11 + 1 = (n + 1) % 11; omega)

/-- The finished sum. -/
theorem scratch_done (c : Dev nD) (t : Fin cfg0.N) (h : t.val % 11 = 10) (y : S512x2048.Idx) (r : Fin 16384) (hr : r.val = t.val / 11 * 512 + (y 0).val) :
    (k0_pay2 (iblk m c 0 t) (iblk m c 2 t) (iblk m c 3 t) (outsAt0 m c (t.val - 1) (Nat.lt_of_le_of_lt (Nat.sub_le _ _) t.isLt)).2.2 (iblk m c 4 t) y : EReal)
      = ffn (m ((c : Thread nD τ).loc main_arg0)) (m ((c : Thread nD τ).loc main_arg1)) (m ((c : Thread nD τ).loc main_arg2)) (m ((c : Thread nD τ).loc main_arg3)) r (y 1) := by
  refine (step_sum m c t _ y r hr ?_).trans ?_
  · refine (scratch_sum m c _ _ (by omega) y r (by omega)).trans ?_
    exact congrArg (fun k => upTo m c r (y 1) (k * 512)) (by omega)
  · rw [h]; exact sum_term _ _ _ _ r (y 1)

/-- The rows a row block's last point normalises. -/
theorem rows_at (c : Dev nD) (t : Fin cfg0.N) (h : t.val % 11 = 10) (y : S512x2048.Idx) (i : S16384x2048.Idx)
    (h0 : (i 0).val = t.val / 11 * 512 + (y 0).val) (h1 : (i 1).val = (y 1).val) :
    (k0_pay3 (iblk m c 1 t) (k0_pay2 (iblk m c 0 t) (iblk m c 2 t) (iblk m c 3 t) (outsAt0 m c (t.val - 1) (Nat.lt_of_le_of_lt (Nat.sub_le _ _) t.isLt)).2.2 (iblk m c 4 t))
        (iblk m c 5 t) (iblk m c 6 t) y : EReal)
      = result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) i := by
  have e1 : i 1 = y 1 := Fin.ext h1
  refine (norm_at _ _ _ _ y).trans ?_
  unfold result
  rw [e1]
  refine congrArg₂ (· + ·) (congrArg₂ (· * ·) (congrArg (fun f => normed f (y 1)) (funext fun k => ?_)) ((read_5 m c t _).trans (V_p m c _))) ((read_6 m c t _).trans (V_q m c _))
  unfold mixed
  refine congrArg₂ (fun a b => _ * a + b) ?_ ?_
  · exact (read_1 m c t (ix2 (y 0) k) (ix2 (i 0) k) h0 rfl).trans (congrFun (V_main_arg0 m c) _)
  · exact scratch_done m c t h (ix2 (y 0) k) (i 0) h0

theorem point_lt (i : S16384x2048.Idx) : 11 * (1 * ((i 0).val / 512 - 0) + 1 * ((i 1).val / 2048 - 0)) + 10 < cfg0.N := by
  have e0 : (i 0).val < 16384 := (i 0).isLt
  have e1 : (i 1).val < 2048 := (i 1).isLt
  have hN : cfg0.N = 352 := N_0
  omega

/-- The first result. -/
theorem result_7 (c : Dev nD) (i : S16384x2048.Idx) : (Cert.DenseIdeal.Value.G7 m c i : EReal)
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) i := by
  have e0 : (i 0).val < 16384 := (i 0).isLt
  have e1 : (i 1).val < 2048 := (i 1).isLt
  have hp := point_lt i
  have h11 : ¬(11 * (1 * ((i 0).val / 512 - 0) + 1 * ((i 1).val / 2048 - 0)) + 10) % 11 = 0 := by omega
  have h10 : (11 * (1 * ((i 0).val / 512 - 0) + 1 * ((i 1).val / 2048 - 0)) + 10) % 11 = 10 := by omega
  unfold Cert.DenseIdeal.Value.G7
  rw [dif_pos hp, ← Cert.DenseIdeal.Value.outsAt0_sweep m c _ hp, outsAt0_C m c ⟨_, hp⟩ h11 h10]
  dsimp only
  rw [rows_last]
  refine rows_at m c ⟨_, hp⟩ h10 _ i ?_ ?_
  · show (i 0).val = (11 * (1 * ((i 0).val / 512 - 0) + 1 * ((i 1).val / 2048 - 0)) + 10) / 11 * 512 + (i 0).val % 512
    omega
  · show (i 1).val = (i 1).val % 2048
    omega

/-- The second: the first in the shorter format. -/
theorem result_8 (c : Dev nD) (i : S16384x2048.Idx) : (Cert.DenseIdeal.Value.G8 m c i : EReal)
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) i := by
  have e0 : (i 0).val < 16384 := (i 0).isLt
  have e1 : (i 1).val < 2048 := (i 1).isLt
  have hp := point_lt i
  have h11 : ¬(11 * (1 * ((i 0).val / 512 - 0) + 1 * ((i 1).val / 2048 - 0)) + 10) % 11 = 0 := by omega
  have h10 : (11 * (1 * ((i 0).val / 512 - 0) + 1 * ((i 1).val / 2048 - 0)) + 10) % 11 = 10 := by omega
  unfold Cert.DenseIdeal.Value.G8
  rw [dif_pos hp, ← Cert.DenseIdeal.Value.outsAt0_sweep m c _ hp, outsAt0_C m c ⟨_, hp⟩ h11 h10]
  dsimp only
  rw [short_last]
  refine (short_at _ _ _ _ _).trans (rows_at m c ⟨_, hp⟩ h10 _ i ?_ ?_)
  · show (i 0).val = (11 * (1 * ((i 0).val / 512 - 0) + 1 * ((i 1).val / 2048 - 0)) + 10) / 11 * 512 + (i 0).val % 512
    omega
  · show (i 1).val = (i 1).val % 2048
    omega

end Cert.DenseFfn

end
-- ==== Proof.DenseRef.lean ====
module

public import proofs.«01_k».proof.Proof.DenseValue
public import proofs.«01_k».proof.Proof.Gen.DenseRefIdeal.Run

/-! The reference of the dense feed-forward over the extended reals is the same layer norm of the same rows. -/

@[expose] public section

set_option maxRecDepth 16384

noncomputable section

namespace Cert.DenseFfn

open Idealize.ShloMosaic Idealize.ShloMosaic.TcCoe Idealize.ShloMosaic.Tactic
open Idealize.SL Idealize.SL.Sem

section

open Cert.DenseRefIdeal Cert.DenseRefIdeal.Gen Cert.DenseRefIdeal.Value

variable (m : (ℓ : Loc nD τ sig) → Buf (Elt Ideal) ℓ)

/-- The reference's first result. -/
theorem ref_rows (c : Dev nD) (i : S16384x2048.Idx) : (res_main_v31 m c i : EReal)
    = result (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) i := by
  obtain ⟨r, j, rfl⟩ : ∃ (r : Fin 16384) (j : Fin 2048), i = ix2 r j := ⟨i 0, i 1, funext fun a => by fin_cases a <;> rfl⟩
  unfold res_main_v31
  generalize (m ((c.tc : Thread nD τ).loc main_arg0)) = H
  generalize (m ((c.tc : Thread nD τ).loc main_arg1)) = G
  generalize (m ((c.tc : Thread nD τ).loc main_arg2)) = U
  generalize (m ((c.tc : Thread nD τ).loc main_arg3)) = D
  generalize (m ((c.tc : Thread nD τ).loc main_arg4)) = P
  generalize (m ((c.tc : Thread nD τ).loc main_arg5)) = Q
  generalize hR : result H G U D P Q (ix2 r j) = R
  clean_types
  pointwise
  rw [← hR]
  rfl

/-- The second is the first in the shorter format. -/
theorem ref_short (c : Dev nD) : res_main_v32 m c = truncf .bf16 (show FVec Ideal S16384x2048 .f32 from res_main_v31 m c) bitsLt_bf16_f32 := by
  unfold res_main_v32 res_main_v31
  rfl

end

end Cert.DenseFfn

end
-- ==== Proof.GatesValue.lean ====
module

public import proofs.«01_k».proof.Proof.Gen.GatesIdeal.Value
public import proofs.«01_k».proof.Proof.Gen.GatesRefIdeal.Run
public import Idealize.ShloMosaic.Lib.Pipeline.ValueKit
public import Idealize.ShloMosaic.Lib.Pointwise
public import Idealize.ShloMosaic.Lib.StableHlo.RunRead
public import Idealize.ShloMosaic.Lib.Tactic
public import Idealize.ShloMosaic.Lib.Tactic.CleanTypes

/-! The gates over the extended reals: the logistic of the projected columns 4096 to 8191, in the kernel and in the
reference. -/

@[expose] public section

set_option maxRecDepth 16384

noncomputable section

namespace Cert.InGates

open Idealize.ShloMosaic Idealize.ShloMosaic.TcCoe Idealize.ShloMosaic.Tactic
open Idealize.SL Idealize.SL.Sem

section

open Cert.GatesIdeal Cert.GatesIdeal.Gen
open Idealize.ShloMosaic.Pipeline (Dat)

/-- A column of the gates, as a column of the whole projection. -/
def gateCol (j : Fin 4096) : Fin 8192 := ⟨4096 + j.val, by omega⟩

/-- The gate of the token in row `i 0`, at column `i 1`. -/
def result (H : FVec Ideal S16384x2048 .f32) (W : FVec Ideal S2048x8192 .f32) (i : S16384x4096.Idx) : EReal :=
  Ideal.logistic (∑ k : Fin 2048, H (ix2 (i 0) k) * W (ix2 k (gateCol (i 1))))

/-- A quarter of the columns, at an index. -/
theorem quarter_at (x : Vec Ideal S512x2048 .f32) (w : Vec Ideal S2048x1024 .bf16) (y : S512x1024.Idx) :
    (k0_pay2 x w y : EReal) = Ideal.logistic (∑ k : Fin 2048, (x (ix2 (y 0) k) : EReal) * w (ix2 k (y 1))) := by
  pointwise [k0_pay2, k0_pay1]

theorem same_3 (x : Vec Ideal S512x2048 .f32) (w : Vec Ideal S2048x1024 .bf16) : k0_pay3 x w = k0_pay2 x w := rfl
theorem same_4 (x : Vec Ideal S512x2048 .f32) (w : Vec Ideal S2048x1024 .bf16) : k0_pay4 x w = k0_pay2 x w := rfl
theorem same_5 (x : Vec Ideal S512x2048 .f32) (w : Vec Ideal S2048x1024 .bf16) : k0_pay5 x w = k0_pay2 x w := rfl

/-- A quarter of the columns over loaded blocks: `o` is its first column. -/
theorem part_at (x0 : Vec Ideal S512x2048 .f32) (x1 : Vec Ideal S2048x4096 .bf16) (o : ℕ) (inb : ∀ a, (![0, o] : Fin 2 → ℕ) a + S2048x1024.size a ≤ S2048x4096.size a)
    (x : S512x1024.Idx) (y : S512x4096.Idx) (h0 : (y 0).val = (x 0).val) (h1 : (y 1).val = o + (x 1).val) :
    (k0_pay2 (View.ld x0 r0_0) (View.ld x1 (Rect.unit (s := S2048x4096) ![0, o] S2048x1024.size inb)) x : EReal)
      = Ideal.logistic (∑ k : Fin 2048, (x0 (ix2 (y 0) k) : EReal) * x1 (ix2 k (y 1))) := by
  refine (quarter_at _ _ x).trans (congrArg Ideal.logistic (Finset.sum_congr rfl fun k _ => congrArg₂ (fun a b : EReal => a * b) ?_ ?_))
  · refine View.ld_unit_apply_of x0 _ _ _ _ _ fun a => ?_
    fin_cases a
    · exact h0.trans (Nat.zero_add _).symm
    · exact (Nat.zero_add _).symm
  · refine View.ld_unit_apply_of x1 _ _ _ _ _ fun a => ?_
    fin_cases a
    · exact (Nat.zero_add _).symm
    · exact h1

/-- What a grid point leaves in the result's block. -/
theorem block_at (x0 : Vec Ideal S512x2048 .f32) (x1 : Vec Ideal S2048x4096 .bf16) (y : S512x4096.Idx) :
    (out0_2 x0 x1 y : EReal) = Ideal.logistic (∑ k : Fin 2048, (x0 (ix2 (y 0) k) : EReal) * x1 (ix2 k (y 1))) := by
  canon_tiles x h
  · rw [same_5]; exact part_at x0 x1 3072 _ x y h0 h1
  · rw [same_4]; exact part_at x0 x1 2048 _ x y h0 h1
  · rw [same_3]; exact part_at x0 x1 1024 _ x y h0 h1
  · exact part_at x0 x1 0 _ x y h0 (h1.trans (Nat.zero_add _).symm)

variable (m : (ℓ : Loc nD τ sig) → Buf (Elt Ideal) ℓ)

theorem row_word (t : Fin grid0.N) : (BitVec.ofNat 32 (grid0.coords t 0).val).toNat = t.val := by
  have ht : t.val < 32 := Nat.lt_of_lt_of_eq t.isLt N_0
  have e : (grid0.coords t 0).val = t.val / 1 % 32 := Pipeline.Grid.coords_val t 0 (by decide) rfl
  rw [e, BitVec.toNat_ofNat]; omega

theorem place_0 (t : Fin grid0.N) : (cfg0.win 0).index t = ![t.val, 0] := congrArg (fun n : ℕ => (![n, 0] : Fin 2 → ℕ)) (row_word t)
theorem read_0 (c : Dev nD) (t : Fin grid0.N) (y : S512x2048.Idx) (z : S16384x2048.Idx) (h0 : (z 0).val = t.val * 512 + (y 0).val) (h1 : (z 1).val = (y 1).val) :
    (iblk m c 0 t : Vec Ideal S512x2048 .f32) y = (V m c main_arg0 : S16384x2048.Idx → EReal) z := by
  refine congrArg (V m c main_arg0) (funext fun q => Fin.ext ?_)
  refine (Pipeline.Window.rect_emb_val (cfg0.win 0) t y q).trans ?_
  rw [place_0]
  fin_cases q
  · exact h0.symm
  · exact (Nat.zero_add _).trans h1.symm

theorem place_1 (t : Fin grid0.N) : (cfg0.win 1).index t = ![0, 1] := rfl
theorem read_1 (c : Dev nD) (t : Fin grid0.N) (y : S2048x4096.Idx) (z : S2048x8192.Idx) (h0 : (z 0).val = (y 0).val) (h1 : (z 1).val = 4096 + (y 1).val) :
    (iblk m c 1 t : Vec Ideal S2048x4096 .bf16) y = (V m c main_v0 : S2048x8192.Idx → EReal) z := by
  refine congrArg (V m c main_v0) (funext fun q => Fin.ext ?_)
  refine (Pipeline.Window.rect_emb_val (cfg0.win 1) t y q).trans ?_
  rw [place_1]
  fin_cases q
  · exact (Nat.zero_add _).trans h0.symm
  · exact h1.symm

theorem V_w (c : Dev nD) (z : S2048x8192.Idx) : (V m c main_v0 z : EReal) = m ((c : Thread nD τ).loc main_arg1) z := by
  have e : V m c main_v0 = truncf .bf16 (show FVec Ideal S2048x8192 .f32 from m ((c : Thread nD τ).loc main_arg1)) bitsLt_bf16_f32 := by unfold V; after_reads_simp
  rw [e]; rfl

theorem place_2 (t : Fin grid0.N) : (cfg0.win 2).index t = ![t.val, 0] := congrArg (fun n : ℕ => (![n, 0] : Fin 2 → ℕ)) (row_word t)
theorem emb_2 (t : Fin grid0.N) (y : S512x4096.Idx) (z : S16384x4096.Idx) (h0 : (z 0).val = t.val * 512 + (y 0).val) (h1 : (z 1).val = (y 1).val) :
    ((cfg0.win 2).blk t).view.emb y = z := by
  refine funext fun q => Fin.ext ?_
  refine (Pipeline.Window.rect_emb_val (cfg0.win 2) t y q).trans ?_
  rw [place_2]
  fin_cases q
  · exact h0.symm
  · exact (Nat.zero_add _).trans h1.symm

theorem mem_2 (t : Fin grid0.N) (y : S512x4096.Idx) (z : S16384x4096.Idx) (h0 : (z 0).val = t.val * 512 + (y 0).val) (h1 : (z 1).val = (y 1).val) :
    z ∈ ((cfg0.win 2).blk t).view.set := emb_2 t y z h0 h1 ▸ View.emb_mem_set ((cfg0.win 2).blk t).view y

theorem cover_2 (i : S16384x4096.Idx) : ∃ t : Fin cfg0.N, (cfg0.win 2).flush t = true ∧ i ∈ ((cfg0.win 2).blk t).view.set := by
  have hi : (i 0).val < 16384 := (i 0).isLt
  have hN : cfg0.N = 32 := N_0
  refine ⟨⟨(i 0).val / 512, by omega⟩, flush0_2 _, mem_2 _ (ix2 (⟨(i 0).val % 512, by omega⟩ : Fin 512) (i 1 : Fin 4096)) i ?_ rfl⟩
  show (i 0).val = (i 0).val / 512 * 512 + (i 0).val % 512
  omega

theorem out_at (c : Dev nD) (t : Fin grid0.N) (y : S512x4096.Idx) (i : S16384x4096.Idx) (h0 : (i 0).val = t.val * 512 + (y 0).val) (h1 : (i 1).val = (y 1).val) :
    (out0_2 (iblk m c 0 t) (iblk m c 1 t) y : EReal) = result (m ((c : Thread nD τ).loc main_arg0)) (m ((c : Thread nD τ).loc main_arg1)) i := by
  refine (block_at _ _ y).trans (congrArg Ideal.logistic (Finset.sum_congr rfl fun k _ => congrArg₂ (fun a b : EReal => a * b) ?_ ?_))
  · exact (read_0 m c t (ix2 (y 0) k) (ix2 (i 0) k) h0 rfl).trans (congrFun (V_main_arg0 m c) _)
  · exact (read_1 m c t (ix2 k (y 1)) (ix2 k (gateCol (i 1))) rfl (congrArg (4096 + ·) h1)).trans (V_w m c _)

theorem out_place (c : Dev nD) (t : Fin grid0.N) (y : S512x4096.Idx) :
    out0_2 (iblk m c 0 t) (iblk m c 1 t) y
      = (result (m ((c : Thread nD τ).loc main_arg0)) (m ((c : Thread nD τ).loc main_arg1)) : FVec Ideal S16384x4096 .f32) (((cfg0.win 2).blk t).view.emb y) := by
  have ht : t.val < 32 := Nat.lt_of_lt_of_eq t.isLt N_0
  have hy : (y 0).val < 512 := (y 0).isLt
  have hz : t.val * 512 + (y 0).val < 16384 := by omega
  generalize hq : (ix2 (⟨t.val * 512 + (y 0).val, hz⟩ : Fin 16384) (y 1 : Fin 4096) : S16384x4096.Idx) = z
  have z0 : (z 0).val = t.val * 512 + (y 0).val := by rw [← hq]; rfl
  have z1 : (z 1).val = (y 1).val := by rw [← hq]; rfl
  rw [emb_2 t y z z0 z1]
  exact out_at m c t y z z0 z1

theorem arr_of (c : Dev nD) (dat : Dat τ (Elt Ideal) Unit ℕ (UR sig nD τ) ℕ cfg0 c) (G : FVec Ideal S16384x4096 .f32)
    (out : Fin grid0.N → Vec Ideal S512x4096 .f32) (hafter : ∀ t, dat.after 2 t = out t)
    (h : ∀ (t : Fin grid0.N) (y : S512x4096.Idx), out t y = G (((cfg0.win 2).blk t).view.emb y)) : dat.arrAt 2 cfg0.N = G := by
  refine dat.arrAt_eq_of_emb 2 _ (fun t hf y => ?_) cover_2
  refine Eq.trans ?_ (h t y)
  rw [hafter]
  rfl

/-- The kernel's result. -/
theorem arr_eq (c : Dev nD) : (dats m 0 c).arrAt 2 cfg0.N
    = (result (m ((c : Thread nD τ).loc main_arg0)) (m ((c : Thread nD τ).loc main_arg1)) : FVec Ideal S16384x4096 .f32) :=
  arr_of c (dats m 0 c) _ (fun t => out0_2 (iblk m c 0 t) (iblk m c 1 t)) (after0_2 m c) (out_place m c)

end

section

open Cert.GatesRefIdeal Cert.GatesRefIdeal.Gen Cert.GatesRefIdeal.Value

/-- The reference's result. -/
theorem ref_at (H : FVec Ideal S16384x2048 .f32) (W : FVec Ideal S2048x8192 .f32) (i : S16384x4096.Idx) :
    (concatenate S16384x4096 1 [⟨S16384x2048, (Host.divf (broadcastInDim S16384x2048 ![] bcast_S_S16384x2048 (constant (F := Ideal) S_ .f32 0x3F800000#32)) (addf (broadcastInDim S16384x2048 ![] bcast_S_S16384x2048 (constant S_ .f32 0x3F800000#32)) (Host.exp (Host.negf (extractStridedSlice S16384x2048 ![0, 4096] (Host.dotGeneral dot_S16384x2048_S2048x8192_S16384x8192_1_0_0_1_n_n none H W) slices_S16384x8192_S16384x2048_0_4096)))))⟩,
        ⟨S16384x2048, (Host.divf (broadcastInDim S16384x2048 ![] bcast_S_S16384x2048 (constant (F := Ideal) S_ .f32 0x3F800000#32)) (addf (broadcastInDim S16384x2048 ![] bcast_S_S16384x2048 (constant S_ .f32 0x3F800000#32)) (Host.exp (Host.negf (extractStridedSlice S16384x2048 ![0, 6144] (Host.dotGeneral dot_S16384x2048_S2048x8192_S16384x8192_1_0_0_1_n_n none H W) slices_S16384x8192_S16384x2048_0_6144)))))⟩] concatenates_S16384x2048_S16384x2048_S16384x4096_d1 i : EReal)
      = result H W i := by
  obtain ⟨r, j, rfl⟩ : ∃ (r : Fin 16384) (j : Fin 4096), i = ix2 r j := ⟨i 0, i 1, funext fun a => by fin_cases a <;> rfl⟩
  unfold result gateCol
  clean_types
  pointwise
  have hj : j.val < 4096 := j.isLt
  by_cases h : j.val < 2048
  · rw [dif_pos h]; rfl
  · rw [dif_neg h]
    have e : (⟨6144 + (j.val - 2048), by omega⟩ : Fin 8192) = ⟨4096 + j.val, by omega⟩ := Fin.ext (by show 6144 + (j.val - 2048) = 4096 + j.val; omega)
    rw [e]; rfl

end

end Cert.InGates

end
-- ==== Proof.MixValue.lean ====
module

public import proofs.«01_k».proof.Proof.Gen.MixIdeal.Value
public import proofs.«01_k».proof.Proof.Gen.MixRefIdeal.Run
public import Idealize.ShloMosaic.Lib.Pipeline.ValueKit
public import Idealize.ShloMosaic.Lib.Pointwise
public import Idealize.ShloMosaic.Lib.StableHlo.RunRead
public import Idealize.ShloMosaic.Lib.Tactic
public import Idealize.ShloMosaic.Lib.Tactic.CleanTypes

/-! The attention's heads and the mixer's columns over the extended reals: columns 0 to 3071 of the projection as 24
heads, the first eight scaled, and columns 3072 to 4095, in the kernel and in the reference. -/

@[expose] public section

set_option maxRecDepth 16384

noncomputable section

namespace Cert.InMix

open Idealize.ShloMosaic Idealize.ShloMosaic.TcCoe Idealize.ShloMosaic.Tactic
open Idealize.SL Idealize.SL.Sem

section

open Cert.MixIdeal Cert.MixIdeal.Gen
open Idealize.ShloMosaic.Pipeline (Dat)

/-- The attention's scale. -/
def scale : EReal := Ideal.ofBits .f32 0x3E38AA3B#32

/-- Column `l` of head `h`, as a column of the projection's first half. -/
def headCol (h : Fin 24) (l : Fin 128) : Fin 4096 := ⟨128 * h.val + l.val, by omega⟩

/-- A column of the mixer's part, likewise. -/
def tailCol (j : Fin 1024) : Fin 4096 := ⟨3072 + j.val, by omega⟩

/-- A column of the projection's first half, as a column of the whole. -/
def whole (j : Fin 4096) : Fin 8192 := ⟨j.val, by omega⟩

/-- The token in row `r` times a column of the first half. -/
def prod (H : FVec Ideal S16384x2048 .f32) (W : FVec Ideal S2048x8192 .f32) (r : Fin 16384) (j : Fin 4096) : EReal :=
  ∑ k : Fin 2048, H (ix2 r k) * W (ix2 k (whole j))

/-- The same of a grid point's blocks. -/
def dot (x : Vec Ideal S512x2048 .f32) (w : Vec Ideal S2048x4096 .bf16) (r : Fin 512) (j : Fin 4096) : EReal :=
  ∑ k : Fin 2048, (x (ix2 r k) : EReal) * w (ix2 k j)

/-- The heads: the first eight are scaled. -/
def heads (H : FVec Ideal S16384x2048 .f32) (W : FVec Ideal S2048x8192 .f32) (i : S24x16384x128.Idx) : EReal :=
  if (i 0).val < 8 then prod H W (i 1) (headCol (i 0) (i 2)) * scale
  else prod H W (i 1) (headCol (i 0) (i 2))

/-- The mixer's columns. -/
def tail (H : FVec Ideal S16384x2048 .f32) (W : FVec Ideal S2048x8192 .f32) (i : S16384x1024.Idx) : EReal :=
  prod H W (i 0) (tailCol (i 1))

theorem scaled_at (x : Vec Ideal S512x2048 .f32) (w : Vec Ideal S2048x1024 .bf16) (y : S512x1024.Idx) :
    (k0_pay4 x w y : EReal) = (∑ k : Fin 2048, (x (ix2 (y 0) k) : EReal) * w (ix2 k (y 1))) * scale := by
  unfold scale
  pointwise [k0_pay4, k0_pay3]

theorem plain_at (x : Vec Ideal S512x2048 .f32) (w : Vec Ideal S2048x1024 .bf16) (y : S512x1024.Idx) :
    (k0_pay14 (k0_pay3 x) w y : EReal) = ∑ k : Fin 2048, (x (ix2 (y 0) k) : EReal) * w (ix2 k (y 1)) := by
  pointwise [k0_pay14, k0_pay3]

/-- A head is cut from a quarter of the columns, from column `o` on. -/
theorem cut_at (v : FVec Ideal S512x1024 .f32) (o : ℕ) (hs : S512x1024.Slices ![0, o] S512x128) (x : S1x512x128.Idx) (z : S512x1024.Idx)
    (h0 : (z 0).val = (x 1).val) (h1 : (z 1).val = o + (x 2).val) :
    (shapeCast S1x512x128 (truncf .bf16 (extractStridedSlice S512x128 ![0, o] v hs) bitsLt_bf16_f32) shapeCasts_S512x128_S1x512x128 x : EReal) = v z := by
  obtain ⟨a, r, l, rfl⟩ : ∃ (a : Fin 1) (r : Fin 512) (l : Fin 128), x = ix3 a r l := ⟨x 0, x 1, x 2, funext fun q => by fin_cases q <;> rfl⟩
  have e : (extractStridedSlice S512x128 ![0, o] v hs (ix2 r l) : EReal) = v z := extractStridedSlice_apply _ v hs _ _ fun q => by
    fin_cases q
    · exact h0.trans (Nat.zero_add _).symm
    · exact h1
  refine Eq.trans ?_ e
  generalize extractStridedSlice S512x128 ![0, o] v hs = u
  pointwise

/-- The loaded blocks at an index: `o` is the first column of the quarter. -/
theorem dot_at (x0 : Vec Ideal S512x2048 .f32) (x1 : Vec Ideal S2048x4096 .bf16) (o : ℕ) (inb : ∀ a, (![0, o] : Fin 2 → ℕ) a + S2048x1024.size a ≤ S2048x4096.size a)
    (r : Fin 512) (j : Fin 1024) (J : Fin 4096) (h : J.val = o + j.val) :
    (∑ k : Fin 2048, ((View.ld x0 r0_0 : Vec Ideal S512x2048 .f32) (ix2 r k) : EReal) * (View.ld x1 (Rect.unit (s := S2048x4096) ![0, o] S2048x1024.size inb) : Vec Ideal S2048x1024 .bf16) (ix2 k j))
      = dot x0 x1 r J := by
  refine Finset.sum_congr rfl fun k _ => congrArg₂ (fun a b : EReal => a * b) ?_ ?_
  · refine View.ld_unit_apply_of x0 _ _ _ _ _ fun a => ?_
    fin_cases a
    · exact (Nat.zero_add _).symm
    · exact (Nat.zero_add _).symm
  · refine View.ld_unit_apply_of x1 _ _ _ _ _ fun a => ?_
    fin_cases a
    · exact (Nat.zero_add _).symm
    · exact h

/-- The heads' block of a grid point. -/
def block (x0 : Vec Ideal S512x2048 .f32) (x1 : Vec Ideal S2048x4096 .bf16) (y : S24x512x128.Idx) : EReal :=
  if (y 0).val < 8 then dot x0 x1 (y 1) (headCol (y 0) (y 2)) * scale
  else dot x0 x1 (y 1) (headCol (y 0) (y 2))

/-- A scaled head. -/
theorem scaled_head (x0 : Vec Ideal S512x2048 .f32) (x1 : Vec Ideal S2048x4096 .bf16) (o : ℕ) (hs : S512x1024.Slices ![0, o] S512x128) (x : S1x512x128.Idx) (y : S24x512x128.Idx)
    (h1 : (y 1).val = (x 1).val) (h2 : (y 2).val = (x 2).val) (hl : (y 0).val < 8) (ho : o = 128 * (y 0).val) :
    (shapeCast S1x512x128 (truncf .bf16 (extractStridedSlice S512x128 ![0, o] (k0_pay4 (View.ld x0 r0_0) (View.ld x1 r0_1)) hs) bitsLt_bf16_f32) shapeCasts_S512x128_S1x512x128 x : EReal)
      = block x0 x1 y := by
  have hx : (x 2).val < 128 := (x 2).isLt
  have hj : o + (x 2).val < 1024 := by omega
  refine (cut_at _ o hs x (ix2 (y 1 : Fin 512) (⟨o + (x 2).val, hj⟩ : Fin 1024)) h1 rfl).trans ((scaled_at _ _ _).trans (Eq.trans ?_ (if_pos hl).symm))
  refine congrArg (fun a : EReal => a * scale) (dot_at x0 x1 0 _ _ _ _ ?_)
  show 128 * (y 0).val + (y 2).val = 0 + (o + (x 2).val)
  omega

/-- A head that is not scaled. -/
theorem plain_head (x0 : Vec Ideal S512x2048 .f32) (x1 : Vec Ideal S2048x4096 .bf16) (p o : ℕ) (inb : ∀ a, (![0, p] : Fin 2 → ℕ) a + S2048x1024.size a ≤ S2048x4096.size a)
    (hs : S512x1024.Slices ![0, o] S512x128) (x : S1x512x128.Idx) (y : S24x512x128.Idx)
    (h1 : (y 1).val = (x 1).val) (h2 : (y 2).val = (x 2).val) (hl : 8 ≤ (y 0).val) (hu : o ≤ 896) (ho : p + o = 128 * (y 0).val) :
    (shapeCast S1x512x128 (truncf .bf16 (extractStridedSlice S512x128 ![0, o] (k0_pay14 (k0_pay3 (View.ld x0 r0_0)) (View.ld x1 (Rect.unit (s := S2048x4096) ![0, p] S2048x1024.size inb))) hs) bitsLt_bf16_f32)
        shapeCasts_S512x128_S1x512x128 x : EReal) = block x0 x1 y := by
  have hx : (x 2).val < 128 := (x 2).isLt
  have hj : o + (x 2).val < 1024 := by omega
  refine (cut_at _ o hs x (ix2 (y 1 : Fin 512) (⟨o + (x 2).val, hj⟩ : Fin 1024)) h1 rfl).trans ((plain_at _ _ _).trans (Eq.trans ?_ (if_neg (Nat.not_lt.mpr hl)).symm))
  refine dot_at x0 x1 p inb _ _ _ ?_
  show 128 * (y 0).val + (y 2).val = p + (o + (x 2).val)
  omega

/-- What a grid point leaves in the heads' block. -/
theorem block_at (x0 : Vec Ideal S512x2048 .f32) (x1 : Vec Ideal S2048x4096 .bf16) (y : S24x512x128.Idx) : (out0_2 x0 x1 y : EReal) = block x0 x1 y := by
  canon_tiles x h
  · exact plain_head x0 x1 2048 896 inb_S2048x4096_S2048x1024_0_2048 slices_S512x1024_o0_896_S512x128 x y h1 h2 (by omega) (by omega) (by omega)
  · exact plain_head x0 x1 2048 768 inb_S2048x4096_S2048x1024_0_2048 slices_S512x1024_o0_768_S512x128 x y h1 h2 (by omega) (by omega) (by omega)
  · exact plain_head x0 x1 2048 640 inb_S2048x4096_S2048x1024_0_2048 slices_S512x1024_o0_640_S512x128 x y h1 h2 (by omega) (by omega) (by omega)
  · exact plain_head x0 x1 2048 512 inb_S2048x4096_S2048x1024_0_2048 slices_S512x1024_o0_512_S512x128 x y h1 h2 (by omega) (by omega) (by omega)
  · exact plain_head x0 x1 2048 384 inb_S2048x4096_S2048x1024_0_2048 slices_S512x1024_o0_384_S512x128 x y h1 h2 (by omega) (by omega) (by omega)
  · exact plain_head x0 x1 2048 256 inb_S2048x4096_S2048x1024_0_2048 slices_S512x1024_o0_256_S512x128 x y h1 h2 (by omega) (by omega) (by omega)
  · exact plain_head x0 x1 2048 128 inb_S2048x4096_S2048x1024_0_2048 slices_S512x1024_o0_128_S512x128 x y h1 h2 (by omega) (by omega) (by omega)
  · exact plain_head x0 x1 2048 0 inb_S2048x4096_S2048x1024_0_2048 slices_S512x1024_o0_0_S512x128 x y h1 h2 (by omega) (by omega) (by omega)
  · exact plain_head x0 x1 1024 896 inb_S2048x4096_S2048x1024_0_1024 slices_S512x1024_o0_896_S512x128 x y h1 h2 (by omega) (by omega) (by omega)
  · exact plain_head x0 x1 1024 768 inb_S2048x4096_S2048x1024_0_1024 slices_S512x1024_o0_768_S512x128 x y h1 h2 (by omega) (by omega) (by omega)
  · exact plain_head x0 x1 1024 640 inb_S2048x4096_S2048x1024_0_1024 slices_S512x1024_o0_640_S512x128 x y h1 h2 (by omega) (by omega) (by omega)
  · exact plain_head x0 x1 1024 512 inb_S2048x4096_S2048x1024_0_1024 slices_S512x1024_o0_512_S512x128 x y h1 h2 (by omega) (by omega) (by omega)
  · exact plain_head x0 x1 1024 384 inb_S2048x4096_S2048x1024_0_1024 slices_S512x1024_o0_384_S512x128 x y h1 h2 (by omega) (by omega) (by omega)
  · exact plain_head x0 x1 1024 256 inb_S2048x4096_S2048x1024_0_1024 slices_S512x1024_o0_256_S512x128 x y h1 h2 (by omega) (by omega) (by omega)
  · exact plain_head x0 x1 1024 128 inb_S2048x4096_S2048x1024_0_1024 slices_S512x1024_o0_128_S512x128 x y h1 h2 (by omega) (by omega) (by omega)
  · exact plain_head x0 x1 1024 0 inb_S2048x4096_S2048x1024_0_1024 slices_S512x1024_o0_0_S512x128 x y h1 h2 (by omega) (by omega) (by omega)
  · exact scaled_head x0 x1 896 slices_S512x1024_o0_896_S512x128 x y h1 h2 (by omega) (by omega)
  · exact scaled_head x0 x1 768 slices_S512x1024_o0_768_S512x128 x y h1 h2 (by omega) (by omega)
  · exact scaled_head x0 x1 640 slices_S512x1024_o0_640_S512x128 x y h1 h2 (by omega) (by omega)
  · exact scaled_head x0 x1 512 slices_S512x1024_o0_512_S512x128 x y h1 h2 (by omega) (by omega)
  · exact scaled_head x0 x1 384 slices_S512x1024_o0_384_S512x128 x y h1 h2 (by omega) (by omega)
  · exact scaled_head x0 x1 256 slices_S512x1024_o0_256_S512x128 x y h1 h2 (by omega) (by omega)
  · exact scaled_head x0 x1 128 slices_S512x1024_o0_128_S512x128 x y h1 h2 (by omega) (by omega)
  · exact scaled_head x0 x1 0 slices_S512x1024_o0_0_S512x128 x y h1 h2 (by omega) (by omega)

/-- What it leaves in the mixer's block. -/
theorem tail_at (x0 : Vec Ideal S512x2048 .f32) (x1 : Vec Ideal S2048x4096 .bf16) (y : S512x1024.Idx) :
    (out0_3 x0 x1 y : EReal) = dot x0 x1 (y 0) (tailCol (y 1)) := by
  canon_tiles x h
  have e0 : y 0 = x 0 := Fin.ext h0
  refine (plain_at (View.ld x0 r0_0) (View.ld x1 r0_28) x).trans ?_
  rw [e0]
  refine dot_at x0 x1 3072 _ _ _ _ ?_
  show 3072 + (y 1).val = 3072 + (x 1).val
  omega

variable (m : (ℓ : Loc nD τ sig) → Buf (Elt Ideal) ℓ)

theorem row_word (t : Fin grid0.N) : (BitVec.ofNat 32 (grid0.coords t 0).val).toNat = t.val := by
  have ht : t.val < 32 := Nat.lt_of_lt_of_eq t.isLt N_0
  have e : (grid0.coords t 0).val = t.val / 1 % 32 := Pipeline.Grid.coords_val t 0 (by decide) rfl
  rw [e, BitVec.toNat_ofNat]; omega

theorem place_0 (t : Fin grid0.N) : (cfg0.win 0).index t = ![t.val, 0] := congrArg (fun n : ℕ => (![n, 0] : Fin 2 → ℕ)) (row_word t)
theorem read_0 (c : Dev nD) (t : Fin grid0.N) (y : S512x2048.Idx) (z : S16384x2048.Idx) (h0 : (z 0).val = t.val * 512 + (y 0).val) (h1 : (z 1).val = (y 1).val) :
    (iblk m c 0 t : Vec Ideal S512x2048 .f32) y = (V m c main_arg0 : S16384x2048.Idx → EReal) z := by
  refine congrArg (V m c main_arg0) (funext fun q => Fin.ext ?_)
  refine (Pipeline.Window.rect_emb_val (cfg0.win 0) t y q).trans ?_
  rw [place_0]
  fin_cases q
  · exact h0.symm
  · exact (Nat.zero_add _).trans h1.symm

theorem place_1 (t : Fin grid0.N) : (cfg0.win 1).index t = ![0, 0] := rfl
theorem read_1 (c : Dev nD) (t : Fin grid0.N) (y : S2048x4096.Idx) (z : S2048x8192.Idx) (h0 : (z 0).val = (y 0).val) (h1 : (z 1).val = (y 1).val) :
    (iblk m c 1 t : Vec Ideal S2048x4096 .bf16) y = (V m c main_v0 : S2048x8192.Idx → EReal) z := by
  refine congrArg (V m c main_v0) (funext fun q => Fin.ext ?_)
  refine (Pipeline.Window.rect_emb_val (cfg0.win 1) t y q).trans ?_
  rw [place_1]
  fin_cases q
  · exact (Nat.zero_add _).trans h0.symm
  · exact (Nat.zero_add _).trans h1.symm

theorem V_w (c : Dev nD) (z : S2048x8192.Idx) : (V m c main_v0 z : EReal) = m ((c : Thread nD τ).loc main_arg1) z := by
  have e : V m c main_v0 = truncf .bf16 (show FVec Ideal S2048x8192 .f32 from m ((c : Thread nD τ).loc main_arg1)) bitsLt_bf16_f32 := by unfold V; after_reads_simp
  rw [e]; rfl

/-- The rows and columns a grid point multiplies are the arguments'. -/
theorem sum_at (c : Dev nD) (t : Fin grid0.N) (r : Fin 512) (R : Fin 16384) (J : Fin 4096) (hr : R.val = t.val * 512 + r.val) :
    dot (iblk m c 0 t) (iblk m c 1 t) r J = prod (m ((c : Thread nD τ).loc main_arg0)) (m ((c : Thread nD τ).loc main_arg1)) R J := by
  refine Finset.sum_congr rfl fun k _ => congrArg₂ (fun a b : EReal => a * b) ?_ ?_
  · exact (read_0 m c t (ix2 r k) (ix2 R k) hr rfl).trans (congrFun (V_main_arg0 m c) _)
  · exact (read_1 m c t (ix2 k J) (ix2 k (whole J)) rfl rfl).trans (V_w m c _)

theorem place_2 (t : Fin grid0.N) : (cfg0.win 2).index t = ![0, t.val, 0] := congrArg (fun n : ℕ => (![0, n, 0] : Fin 3 → ℕ)) (row_word t)
theorem emb_2 (t : Fin grid0.N) (y : S24x512x128.Idx) (z : S24x16384x128.Idx) (h0 : (z 0).val = (y 0).val) (h1 : (z 1).val = t.val * 512 + (y 1).val) (h2 : (z 2).val = (y 2).val) :
    ((cfg0.win 2).blk t).view.emb y = z := by
  refine funext fun q => Fin.ext ?_
  refine (Pipeline.Window.rect_emb_val (cfg0.win 2) t y q).trans ?_
  rw [place_2]
  fin_cases q
  · exact (Nat.zero_add _).trans h0.symm
  · exact h1.symm
  · exact (Nat.zero_add _).trans h2.symm

theorem mem_2 (t : Fin grid0.N) (y : S24x512x128.Idx) (z : S24x16384x128.Idx) (h0 : (z 0).val = (y 0).val) (h1 : (z 1).val = t.val * 512 + (y 1).val) (h2 : (z 2).val = (y 2).val) :
    z ∈ ((cfg0.win 2).blk t).view.set := emb_2 t y z h0 h1 h2 ▸ View.emb_mem_set ((cfg0.win 2).blk t).view y

theorem cover_2 (i : S24x16384x128.Idx) : ∃ t : Fin cfg0.N, (cfg0.win 2).flush t = true ∧ i ∈ ((cfg0.win 2).blk t).view.set := by
  have hi : (i 1).val < 16384 := (i 1).isLt
  have hN : cfg0.N = 32 := N_0
  refine ⟨⟨(i 1).val / 512, by omega⟩, flush0_2 _, mem_2 _ (ix3 (i 0 : Fin 24) (⟨(i 1).val % 512, by omega⟩ : Fin 512) (i 2 : Fin 128)) i rfl ?_ rfl⟩
  show (i 1).val = (i 1).val / 512 * 512 + (i 1).val % 512
  omega

theorem heads_at (c : Dev nD) (t : Fin grid0.N) (y : S24x512x128.Idx) (i : S24x16384x128.Idx) (h0 : (i 0).val = (y 0).val) (h1 : (i 1).val = t.val * 512 + (y 1).val) (h2 : (i 2).val = (y 2).val) :
    (out0_2 (iblk m c 0 t) (iblk m c 1 t) y : EReal) = heads (m ((c : Thread nD τ).loc main_arg0)) (m ((c : Thread nD τ).loc main_arg1)) i := by
  have e0 : i 0 = y 0 := Fin.ext h0
  have e2 : i 2 = y 2 := Fin.ext h2
  refine (block_at _ _ y).trans ?_
  unfold block heads
  rw [e0, e2, sum_at m c t (y 1) (i 1) _ h1]

theorem heads_place (c : Dev nD) (t : Fin grid0.N) (y : S24x512x128.Idx) :
    out0_2 (iblk m c 0 t) (iblk m c 1 t) y
      = (heads (m ((c : Thread nD τ).loc main_arg0)) (m ((c : Thread nD τ).loc main_arg1)) : FVec Ideal S24x16384x128 .bf16) (((cfg0.win 2).blk t).view.emb y) := by
  have ht : t.val < 32 := Nat.lt_of_lt_of_eq t.isLt N_0
  have hy : (y 1).val < 512 := (y 1).isLt
  have hz : t.val * 512 + (y 1).val < 16384 := by omega
  generalize hq : (ix3 (y 0 : Fin 24) (⟨t.val * 512 + (y 1).val, hz⟩ : Fin 16384) (y 2 : Fin 128) : S24x16384x128.Idx) = z
  have z0 : (z 0).val = (y 0).val := by rw [← hq]; rfl
  have z1 : (z 1).val = t.val * 512 + (y 1).val := by rw [← hq]; rfl
  have z2 : (z 2).val = (y 2).val := by rw [← hq]; rfl
  rw [emb_2 t y z z0 z1 z2]
  exact heads_at m c t y z z0 z1 z2

theorem heads_of (c : Dev nD) (dat : Dat τ (Elt Ideal) Unit ℕ (UR sig nD τ) ℕ cfg0 c) (G : FVec Ideal S24x16384x128 .bf16)
    (out : Fin grid0.N → Vec Ideal S24x512x128 .bf16) (hafter : ∀ t, dat.after 2 t = out t)
    (h : ∀ (t : Fin grid0.N) (y : S24x512x128.Idx), out t y = G (((cfg0.win 2).blk t).view.emb y)) : dat.arrAt 2 cfg0.N = G := by
  refine dat.arrAt_eq_of_emb 2 _ (fun t hf y => ?_) cover_2
  refine Eq.trans ?_ (h t y)
  rw [hafter]
  rfl

/-- The kernel's heads. -/
theorem heads_eq (c : Dev nD) : (dats m 0 c).arrAt 2 cfg0.N
    = (heads (m ((c : Thread nD τ).loc main_arg0)) (m ((c : Thread nD τ).loc main_arg1)) : FVec Ideal S24x16384x128 .bf16) :=
  heads_of c (dats m 0 c) _ (fun t => out0_2 (iblk m c 0 t) (iblk m c 1 t)) (after0_2 m c) (heads_place m c)

theorem place_3 (t : Fin grid0.N) : (cfg0.win 3).index t = ![t.val, 0] := congrArg (fun n : ℕ => (![n, 0] : Fin 2 → ℕ)) (row_word t)
theorem emb_3 (t : Fin grid0.N) (y : S512x1024.Idx) (z : S16384x1024.Idx) (h0 : (z 0).val = t.val * 512 + (y 0).val) (h1 : (z 1).val = (y 1).val) :
    ((cfg0.win 3).blk t).view.emb y = z := by
  refine funext fun q => Fin.ext ?_
  refine (Pipeline.Window.rect_emb_val (cfg0.win 3) t y q).trans ?_
  rw [place_3]
  fin_cases q
  · exact h0.symm
  · exact (Nat.zero_add _).trans h1.symm

theorem mem_3 (t : Fin grid0.N) (y : S512x1024.Idx) (z : S16384x1024.Idx) (h0 : (z 0).val = t.val * 512 + (y 0).val) (h1 : (z 1).val = (y 1).val) :
    z ∈ ((cfg0.win 3).blk t).view.set := emb_3 t y z h0 h1 ▸ View.emb_mem_set ((cfg0.win 3).blk t).view y

theorem cover_3 (i : S16384x1024.Idx) : ∃ t : Fin cfg0.N, (cfg0.win 3).flush t = true ∧ i ∈ ((cfg0.win 3).blk t).view.set := by
  have hi : (i 0).val < 16384 := (i 0).isLt
  have hN : cfg0.N = 32 := N_0
  refine ⟨⟨(i 0).val / 512, by omega⟩, flush0_3 _, mem_3 _ (ix2 (⟨(i 0).val % 512, by omega⟩ : Fin 512) (i 1 : Fin 1024)) i ?_ rfl⟩
  show (i 0).val = (i 0).val / 512 * 512 + (i 0).val % 512
  omega

theorem tails_at (c : Dev nD) (t : Fin grid0.N) (y : S512x1024.Idx) (i : S16384x1024.Idx) (h0 : (i 0).val = t.val * 512 + (y 0).val) (h1 : (i 1).val = (y 1).val) :
    (out0_3 (iblk m c 0 t) (iblk m c 1 t) y : EReal) = tail (m ((c : Thread nD τ).loc main_arg0)) (m ((c : Thread nD τ).loc main_arg1)) i := by
  have e1 : i 1 = y 1 := Fin.ext h1
  refine (tail_at _ _ y).trans ?_
  unfold tail
  rw [e1, sum_at m c t (y 0) (i 0) _ h0]

theorem tails_place (c : Dev nD) (t : Fin grid0.N) (y : S512x1024.Idx) :
    out0_3 (iblk m c 0 t) (iblk m c 1 t) y
      = (tail (m ((c : Thread nD τ).loc main_arg0)) (m ((c : Thread nD τ).loc main_arg1)) : FVec Ideal S16384x1024 .f32) (((cfg0.win 3).blk t).view.emb y) := by
  have ht : t.val < 32 := Nat.lt_of_lt_of_eq t.isLt N_0
  have hy : (y 0).val < 512 := (y 0).isLt
  have hz : t.val * 512 + (y 0).val < 16384 := by omega
  generalize hq : (ix2 (⟨t.val * 512 + (y 0).val, hz⟩ : Fin 16384) (y 1 : Fin 1024) : S16384x1024.Idx) = z
  have z0 : (z 0).val = t.val * 512 + (y 0).val := by rw [← hq]; rfl
  have z1 : (z 1).val = (y 1).val := by rw [← hq]; rfl
  rw [emb_3 t y z z0 z1]
  exact tails_at m c t y z z0 z1

theorem tails_of (c : Dev nD) (dat : Dat τ (Elt Ideal) Unit ℕ (UR sig nD τ) ℕ cfg0 c) (G : FVec Ideal S16384x1024 .f32)
    (out : Fin grid0.N → Vec Ideal S512x1024 .f32) (hafter : ∀ t, dat.after 3 t = out t)
    (h : ∀ (t : Fin grid0.N) (y : S512x1024.Idx), out t y = G (((cfg0.win 3).blk t).view.emb y)) : dat.arrAt 3 cfg0.N = G := by
  refine dat.arrAt_eq_of_emb 3 _ (fun t hf y => ?_) cover_3
  refine Eq.trans ?_ (h t y)
  rw [hafter]
  rfl

/-- The kernel's mixer columns. -/
theorem tails_eq (c : Dev nD) : (dats m 0 c).arrAt 3 cfg0.N
    = (tail (m ((c : Thread nD τ).loc main_arg0)) (m ((c : Thread nD τ).loc main_arg1)) : FVec Ideal S16384x1024 .f32) :=
  tails_of c (dats m 0 c) _ (fun t => out0_3 (iblk m c 0 t) (iblk m c 1 t)) (after0_3 m c) (tails_place m c)

end

section

open Cert.MixRefIdeal Cert.MixRefIdeal.Gen Cert.MixRefIdeal.Value

/-- The reference's mixer columns. -/
theorem ref_tail (H : FVec Ideal S16384x2048 .f32) (W : FVec Ideal S2048x8192 .f32) (i : S16384x1024.Idx) :
    (extractStridedSlice S16384x1024 ![0, 3072] (Host.dotGeneral dot_S16384x2048_S2048x8192_S16384x8192_1_0_0_1_n_n none H W) slices_S16384x8192_S16384x1024_0_3072 i : EReal) = tail H W i := by
  obtain ⟨r, j, rfl⟩ : ∃ (r : Fin 16384) (j : Fin 1024), i = ix2 r j := ⟨i 0, i 1, funext fun a => by fin_cases a <;> rfl⟩
  generalize hR : tail H W (ix2 r j) = R
  clean_types
  pointwise
  rw [← hR]
  rfl

/-- The reference's heads. -/
theorem ref_heads (H : FVec Ideal S16384x2048 .f32) (W : FVec Ideal S2048x8192 .f32) (i : S24x16384x128.Idx) :
    (truncf .bf16 (transpose S24x16384x128 [1, 0, 2] (shapeCast S16384x24x128 ((concatenate S16384x3072 1
        [⟨S16384x1024, mulf (extractStridedSlice S16384x1024 ![0, 0] (Host.dotGeneral dot_S16384x2048_S2048x8192_S16384x8192_1_0_0_1_n_n none H W) slices_S16384x8192_S16384x1024_0_0) (broadcastInDim S16384x1024 ![] bcast_S_S16384x1024 (constant (F := Ideal) S_ .f32 0x3E38AA3B#32))⟩,
          ⟨S16384x1024, extractStridedSlice S16384x1024 ![0, 1024] (Host.dotGeneral dot_S16384x2048_S2048x8192_S16384x8192_1_0_0_1_n_n none H W) slices_S16384x8192_S16384x1024_0_1024⟩,
          ⟨S16384x1024, extractStridedSlice S16384x1024 ![0, 2048] (Host.dotGeneral dot_S16384x2048_S2048x8192_S16384x8192_1_0_0_1_n_n none H W) slices_S16384x8192_S16384x1024_0_2048⟩]
        concatenates_S16384x1024_S16384x1024_S16384x1024_S16384x3072_d1 : FVec Ideal S16384x3072 .f32)) shapeCasts_S16384x3072_S16384x24x128) transposes_S16384x24x128_S24x16384x128_1_0_2) bitsLt_bf16_f32 i : EReal)
      = heads H W i := by
  obtain ⟨h, r, l, rfl⟩ : ∃ (h : Fin 24) (r : Fin 16384) (l : Fin 128), i = ix3 h r l := ⟨i 0, i 1, i 2, funext fun a => by fin_cases a <;> rfl⟩
  unfold heads prod scale whole headCol
  clean_types
  pointwise
  have hh : h.val < 24 := h.isLt
  have hl : l.val < 128 := l.isLt
  have e : ∀ (n : ℕ) (hn : n < 8192), n = 128 * h.val + l.val → (⟨n, hn⟩ : Fin 8192) = ⟨128 * h.val + l.val, by omega⟩ := fun n hn en => Fin.ext en
  by_cases h8 : h.val < 8
  · rw [dif_pos (show h.val * 128 + l.val < 1024 by omega), if_pos h8, e _ _ (by omega)]
  · rw [dif_neg (show ¬h.val * 128 + l.val < 1024 by omega), if_neg h8]
    by_cases h16 : h.val < 16
    · rw [dif_pos (show h.val * 128 + l.val - 1024 < 1024 by omega), e _ _ (by omega)]
    · rw [dif_neg (show ¬h.val * 128 + l.val - 1024 < 1024 by omega), e _ _ (by omega)]

end

end Cert.InMix

end
-- ==== Proof.TailCase.lean ====
module

public import proofs.«01_k».proof.Proof.DenseCase
public import proofs.«01_k».proof.Proof.Gen.TailIdeal.Value
public import Idealize.ShloMosaic.Lib.Pipeline.ValueKit
public import Idealize.ShloMosaic.Lib.Tactic

/-! What one grid point of the mixer's tail leaves, in its two result blocks, as a function of its input blocks: the
scratch it keeps the partial window sums in is filled anew at every point. -/

@[expose] public section

set_option maxRecDepth 16384

noncomputable section

namespace Cert.MixerTail

open Cert.TailIdeal Cert.TailIdeal.Gen
open Cert.DenseFfn (start_zero)
open Idealize.ShloMosaic Idealize.ShloMosaic.TcCoe Idealize.ShloMosaic.Tactic
open Idealize.SL Idealize.SL.Sem

variable {F : FTy → Type} [FloatOps F]

/-- The scratch with zeros, the rows before the block and the block. -/
def first (i : grid0.Coords) (x1 : Vec F S256x1024 .f32) (x2 : Vec F S16x1024 .f32) : List (View.Piece (Elt F) S4x280x1024 .f32) :=
  [⟨Rect.unit (s := S4x280x1024) ![0, 24, 0] S1x256x1024.size inb_S4x280x1024_S1x256x1024_0_24_0, k0_pay5 x1⟩,
   ⟨Rect.unit (s := S4x280x1024) ![0, 8, 0] S1x16x1024.size inb_S4x280x1024_S1x16x1024_0_8_0, k0_pay4 i x2⟩,
   ⟨Rect.unit (s := S4x280x1024) ![0, 0, 0] S4x8x1024.size inb_S4x280x1024_S4x8x1024_0_0_0, k0_pay3⟩]

/-- Then the sums of two rows, -/
def second (i : grid0.Coords) (x1 : Vec F S256x1024 .f32) (x2 : Vec F S16x1024 .f32) : List (View.Piece (Elt F) S4x280x1024 .f32) :=
  ⟨Rect.unit (s := S4x280x1024) ![1, 8, 256] S1x272x768.size inb_S4x280x1024_S1x272x768_1_8_256, k0_pay9 (View.ld (View.canon (first i x1 x2)) (Rect.unit (s := S4x280x1024) ![0, 8, 256] S1x272x768.size inb_S4x280x1024_S1x272x768_0_8_256)) (View.ld (View.canon (first i x1 x2)) (Rect.unit (s := S4x280x1024) ![0, 7, 256] S1x272x768.size inb_S4x280x1024_S1x272x768_0_7_256))⟩ :: first i x1 x2

/-- of four, -/
def third (i : grid0.Coords) (x1 : Vec F S256x1024 .f32) (x2 : Vec F S16x1024 .f32) : List (View.Piece (Elt F) S4x280x1024 .f32) :=
  ⟨Rect.unit (s := S4x280x1024) ![2, 8, 512] S1x272x512.size inb_S4x280x1024_S1x272x512_2_8_512, k0_pay10 (View.ld (View.canon (second i x1 x2)) (Rect.unit (s := S4x280x1024) ![1, 8, 512] S1x272x512.size inb_S4x280x1024_S1x272x512_1_8_512)) (View.ld (View.canon (second i x1 x2)) (Rect.unit (s := S4x280x1024) ![1, 6, 512] S1x272x512.size inb_S4x280x1024_S1x272x512_1_6_512))⟩ :: second i x1 x2

/-- and of eight. -/
def fourth (i : grid0.Coords) (x1 : Vec F S256x1024 .f32) (x2 : Vec F S16x1024 .f32) : List (View.Piece (Elt F) S4x280x1024 .f32) :=
  ⟨Rect.unit (s := S4x280x1024) ![3, 8, 768] S1x272x256.size inb_S4x280x1024_S1x272x256_3_8_768, k0_pay11 (View.ld (View.canon (third i x1 x2)) (Rect.unit (s := S4x280x1024) ![2, 8, 768] S1x272x256.size inb_S4x280x1024_S1x272x256_2_8_768)) (View.ld (View.canon (third i x1 x2)) (Rect.unit (s := S4x280x1024) ![2, 4, 768] S1x272x256.size inb_S4x280x1024_S1x272x256_2_4_768))⟩ :: third i x1 x2

/-- The block's rows of heads, side by side. -/
def joined (x0 : Vec F S8x256x128 .bf16) : FVec F S256x1024 .bf16 :=
  k0_pay7 (View.ld x0 (Rect.unit (s := S8x256x128) ![0, 0, 0] S1x256x128.size inb_S8x256x128_S1x256x128_0_0_0)) (View.ld x0 (Rect.unit (s := S8x256x128) ![1, 0, 0] S1x256x128.size inb_S8x256x128_S1x256x128_1_0_0)) (View.ld x0 (Rect.unit (s := S8x256x128) ![2, 0, 0] S1x256x128.size inb_S8x256x128_S1x256x128_2_0_0)) (View.ld x0 (Rect.unit (s := S8x256x128) ![3, 0, 0] S1x256x128.size inb_S8x256x128_S1x256x128_3_0_0)) (View.ld x0 (Rect.unit (s := S8x256x128) ![4, 0, 0] S1x256x128.size inb_S8x256x128_S1x256x128_4_0_0)) (View.ld x0 (Rect.unit (s := S8x256x128) ![5, 0, 0] S1x256x128.size inb_S8x256x128_S1x256x128_5_0_0)) (View.ld x0 (Rect.unit (s := S8x256x128) ![6, 0, 0] S1x256x128.size inb_S8x256x128_S1x256x128_6_0_0)) (View.ld x0 (Rect.unit (s := S8x256x128) ![7, 0, 0] S1x256x128.size inb_S8x256x128_S1x256x128_7_0_0))

/-- The four pooled groups. -/
def group0 (i : grid0.Coords) (x1 : Vec F S256x1024 .f32) (x2 : Vec F S16x1024 .f32) (x6 : Vec F S4x256x256 .bf16) (x7 : Vec F S1x1024 .f32) : FVec F S256x256 .bf16 :=
  k0_pay15 (k0_pay12 (View.ld (View.canon (fourth i x1 x2)) (Rect.unit (s := S4x280x1024) ![0, 24, 0] S1x256x256.size inb_S4x280x1024_S1x256x256_0_24_0))) (k0_pay13 (View.ld (View.canon (fourth i x1 x2)) (Rect.unit (s := S4x280x1024) ![0, 24, 0] S1x256x256.size inb_S4x280x1024_S1x256x256_0_24_0)) (View.ld (View.canon (fourth i x1 x2)) (Rect.unit (s := S4x280x1024) ![0, 23, 0] S1x256x256.size inb_S4x280x1024_S1x256x256_0_23_0))) (k0_pay14 (k0_pay6 i)) (View.ld x6 (Rect.unit (s := S4x256x256) ![0, 0, 0] S1x256x256.size inb_S4x256x256_S1x256x256_0_0_0)) (View.ld x7 (Rect.unit (s := S1x1024) ![0, 0] S1x256.size inb_S1x1024_S1x256_0_0))
def group1 (i : grid0.Coords) (x1 : Vec F S256x1024 .f32) (x2 : Vec F S16x1024 .f32) (x6 : Vec F S4x256x256 .bf16) (x7 : Vec F S1x1024 .f32) : FVec F S256x256 .bf16 :=
  k0_pay18 (k0_pay17 (k0_pay6 i) (View.ld (View.canon (fourth i x1 x2)) (Rect.unit (s := S4x280x1024) ![0, 24, 256] S1x256x256.size inb_S4x280x1024_S1x256x256_0_24_256)) (View.ld (View.canon (fourth i x1 x2)) (Rect.unit (s := S4x280x1024) ![1, 24, 256] S1x256x256.size inb_S4x280x1024_S1x256x256_1_24_256)) (View.ld (View.canon (fourth i x1 x2)) (Rect.unit (s := S4x280x1024) ![1, 22, 256] S1x256x256.size inb_S4x280x1024_S1x256x256_1_22_256)) (View.ld x6 (Rect.unit (s := S4x256x256) ![1, 0, 0] S1x256x256.size inb_S4x256x256_S1x256x256_1_0_0))) (View.ld x7 (Rect.unit (s := S1x1024) ![0, 256] S1x256.size inb_S1x1024_S1x256_0_256))
def group2 (i : grid0.Coords) (x1 : Vec F S256x1024 .f32) (x2 : Vec F S16x1024 .f32) (x6 : Vec F S4x256x256 .bf16) (x7 : Vec F S1x1024 .f32) : FVec F S256x256 .bf16 :=
  k0_pay20 (k0_pay6 i) (View.ld (View.canon (fourth i x1 x2)) (Rect.unit (s := S4x280x1024) ![0, 24, 512] S1x256x256.size inb_S4x280x1024_S1x256x256_0_24_512)) (View.ld (View.canon (fourth i x1 x2)) (Rect.unit (s := S4x280x1024) ![2, 24, 512] S1x256x256.size inb_S4x280x1024_S1x256x256_2_24_512)) (View.ld (View.canon (fourth i x1 x2)) (Rect.unit (s := S4x280x1024) ![2, 20, 512] S1x256x256.size inb_S4x280x1024_S1x256x256_2_20_512)) (View.ld x6 (Rect.unit (s := S4x256x256) ![2, 0, 0] S1x256x256.size inb_S4x256x256_S1x256x256_2_0_0)) (View.ld x7 (Rect.unit (s := S1x1024) ![0, 512] S1x256.size inb_S1x1024_S1x256_0_512))

/-- The gated sum of the two branches. -/
def gated (i : grid0.Coords) (x0 : Vec F S8x256x128 .bf16) (x1 : Vec F S256x1024 .f32) (x2 : Vec F S16x1024 .f32) (x3 x4 : Vec F S256x2048 .f32) (x6 : Vec F S4x256x256 .bf16) (x7 : Vec F S1x1024 .f32) (x8 x9 : Vec F S1024x2048 .bf16) : FVec F S256x2048 .bf16 :=
  k0_pay22 (k0_pay6 i) (k0_pay8 (View.ld x0 (Rect.unit (s := S8x256x128) ![0, 0, 0] S1x256x128.size inb_S8x256x128_S1x256x128_0_0_0)) (View.ld x0 (Rect.unit (s := S8x256x128) ![1, 0, 0] S1x256x128.size inb_S8x256x128_S1x256x128_1_0_0)) (View.ld x0 (Rect.unit (s := S8x256x128) ![2, 0, 0] S1x256x128.size inb_S8x256x128_S1x256x128_2_0_0)) (View.ld x0 (Rect.unit (s := S8x256x128) ![3, 0, 0] S1x256x128.size inb_S8x256x128_S1x256x128_3_0_0)) (View.ld x0 (Rect.unit (s := S8x256x128) ![4, 0, 0] S1x256x128.size inb_S8x256x128_S1x256x128_4_0_0)) (View.ld x0 (Rect.unit (s := S8x256x128) ![5, 0, 0] S1x256x128.size inb_S8x256x128_S1x256x128_5_0_0)) (View.ld x0 (Rect.unit (s := S8x256x128) ![6, 0, 0] S1x256x128.size inb_S8x256x128_S1x256x128_6_0_0)) (View.ld x0 (Rect.unit (s := S8x256x128) ![7, 0, 0] S1x256x128.size inb_S8x256x128_S1x256x128_7_0_0)) (View.ld x8 (Rect.unit (s := S1024x2048) ![0, 0] S1024x512.size inb_S1024x2048_S1024x512_0_0)))
    (group0 i x1 x2 x6 x7) (k0_pay16 (joined x0) (View.ld x8 (Rect.unit (s := S1024x2048) ![0, 512] S1024x512.size inb_S1024x2048_S1024x512_0_512)))
    (group1 i x1 x2 x6 x7) (k0_pay19 (joined x0) (View.ld x8 (Rect.unit (s := S1024x2048) ![0, 1024] S1024x512.size inb_S1024x2048_S1024x512_0_1024)))
    (group2 i x1 x2 x6 x7) (k0_pay21 (joined x0) (View.ld x8 (Rect.unit (s := S1024x2048) ![0, 1536] S1024x512.size inb_S1024x2048_S1024x512_0_1536)))
    (View.ld (View.canon (fourth i x1 x2)) (Rect.unit (s := S4x280x1024) ![0, 24, 768] S1x256x256.size inb_S4x280x1024_S1x256x256_0_24_768)) (View.ld (View.canon (fourth i x1 x2)) (Rect.unit (s := S4x280x1024) ![3, 24, 768] S1x256x256.size inb_S4x280x1024_S1x256x256_3_24_768)) (View.ld (View.canon (fourth i x1 x2)) (Rect.unit (s := S4x280x1024) ![3, 16, 768] S1x256x256.size inb_S4x280x1024_S1x256x256_3_16_768)) (View.ld x6 (Rect.unit (s := S4x256x256) ![3, 0, 0] S1x256x256.size inb_S4x256x256_S1x256x256_3_0_0)) (View.ld x7 (Rect.unit (s := S1x1024) ![0, 768] S1x256.size inb_S1x1024_S1x256_0_768)) x9 x3 x4

/-- The normalised rows, scaled: the first half of the block, -/
def upper (v : FVec F S256x2048 .bf16) (x5 : Vec F S256x2048 .f32) (x10 : Vec F S2048x2048 .bf16) (x11 : Vec F S1x2048 .f32) : FVec F S128x2048 .f32 :=
  k0_pay26 v (View.ld x5 (Rect.unit (s := S256x2048) ![0, 0] S128x2048.size inb_S256x2048_S128x2048_0_0)) x10 x11

/-- and the second. -/
def lower (v : FVec F S256x2048 .bf16) (x5 : Vec F S256x2048 .f32) (x10 : Vec F S2048x2048 .bf16) (x11 : Vec F S1x2048 .f32) : FVec F S128x2048 .f32 :=
  k0_pay30 v (k0_pay23 v (View.ld x10 (Rect.unit (s := S2048x2048) ![0, 0] S2048x512.size inb_S2048x2048_S2048x512_0_0))) (k0_pay24 v (View.ld x10 (Rect.unit (s := S2048x2048) ![0, 512] S2048x512.size inb_S2048x2048_S2048x512_0_512))) (k0_pay25 v (View.ld x10 (Rect.unit (s := S2048x2048) ![0, 1024] S2048x512.size inb_S2048x2048_S2048x512_0_1024))) (View.ld x10 (Rect.unit (s := S2048x2048) ![0, 1536] S2048x512.size inb_S2048x2048_S2048x512_0_1536)) (View.ld x5 (Rect.unit (s := S256x2048) ![128, 0] S128x2048.size inb_S256x2048_S128x2048_128_0)) x11

/-- The first result's block. -/
theorem out_13 (c : Dev nD) (i : grid0.Coords) (a1 : Memref sig .tc .vmem S8x256x128 .bf16) (h1 : a1.IsWhole) (a2 : Memref sig .tc .vmem S256x1024 .f32) (h2 : a2.IsWhole) (a3 : Memref sig .tc .vmem S16x1024 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S4x256x256 .bf16) (h7 : a7.IsWhole) (a8 : Memref sig .tc .vmem S1x1024 .f32) (h8 : a8.IsWhole) (a9 : Memref sig .tc .vmem S1024x2048 .bf16) (h9 : a9.IsWhole) (a10 : Memref sig .tc .vmem S1024x2048 .bf16) (h10 : a10.IsWhole) (a11 : Memref sig .tc .vmem S2048x2048 .bf16) (h11 : a11.IsWhole) (a12 : Memref sig .tc .vmem S1x2048 .f32) (h12 : a12.IsWhole) (a13 : Memref sig .tc .vmem S1x2048 .f32) (h13 : a13.IsWhole) (a14 : Memref sig .tc .vmem S256x2048 .f32) (h14 : a14.IsWhole) (a15 : Memref sig .tc .vmem S256x2048 .bf16) (h15 : a15.IsWhole) (a16 : Memref sig .tc .vmem S4x280x1024 .f32) (h16 : a16.IsWhole)
    (x0 : Vec F S8x256x128 .bf16) (x1 : Vec F S256x1024 .f32) (x2 : Vec F S16x1024 .f32) (x3 x4 x5 : Vec F S256x2048 .f32) (x6 : Vec F S4x256x256 .bf16) (x7 : Vec F S1x1024 .f32) (x8 x9 : Vec F S1024x2048 .bf16) (x10 : Vec F S2048x2048 .bf16) (x11 x12 : Vec F S1x2048 .f32) :
    out0_A_13 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12
      = View.canon [⟨Rect.unit (s := S256x2048) ![128, 0] S128x2048.size inb_S256x2048_S128x2048_128_0, k0_pay1 (k0_pay29 x12) (lower (gated i x0 x1 x2 x3 x4 x6 x7 x8 x9) x5 x10 x11)⟩,
          ⟨Rect.unit (s := S256x2048) ![0, 0] S128x2048.size inb_S256x2048_S128x2048_0_0, k0_pay27 (upper (gated i x0 x1 x2 x3 x4 x6 x7 x8 x9) x5 x10 x11) x12⟩] := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12)]
  unfold kernelRun0_A
  dsimp only
  sl_unfold_words
  simp only [View.readAt_eq_ld, View.readCov_eq_canon', h1.read_unread, h2.read_unread, h3.read_unread, h4.read_unread, h5.read_unread, h6.read_unread, h7.read_unread, h8.read_unread, h9.read_unread, h10.read_unread, h11.read_unread, h12.read_unread, h13.read_unread,
    View.ld_unit_zero (S := S16x1024) start_zero, View.ld_unit_zero (S := S256x1024) start_zero, View.ld_unit_zero (S := S1024x2048) start_zero, View.ld_unit_zero (S := S256x2048) start_zero, View.ld_unit_zero (S := S2048x2048) start_zero, View.ld_unit_zero (S := S1x2048) start_zero]
  rfl

/-- The second's, in the shorter format. -/
theorem out_14 (c : Dev nD) (i : grid0.Coords) (a1 : Memref sig .tc .vmem S8x256x128 .bf16) (h1 : a1.IsWhole) (a2 : Memref sig .tc .vmem S256x1024 .f32) (h2 : a2.IsWhole) (a3 : Memref sig .tc .vmem S16x1024 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S4x256x256 .bf16) (h7 : a7.IsWhole) (a8 : Memref sig .tc .vmem S1x1024 .f32) (h8 : a8.IsWhole) (a9 : Memref sig .tc .vmem S1024x2048 .bf16) (h9 : a9.IsWhole) (a10 : Memref sig .tc .vmem S1024x2048 .bf16) (h10 : a10.IsWhole) (a11 : Memref sig .tc .vmem S2048x2048 .bf16) (h11 : a11.IsWhole) (a12 : Memref sig .tc .vmem S1x2048 .f32) (h12 : a12.IsWhole) (a13 : Memref sig .tc .vmem S1x2048 .f32) (h13 : a13.IsWhole) (a14 : Memref sig .tc .vmem S256x2048 .f32) (h14 : a14.IsWhole) (a15 : Memref sig .tc .vmem S256x2048 .bf16) (h15 : a15.IsWhole) (a16 : Memref sig .tc .vmem S4x280x1024 .f32) (h16 : a16.IsWhole)
    (x0 : Vec F S8x256x128 .bf16) (x1 : Vec F S256x1024 .f32) (x2 : Vec F S16x1024 .f32) (x3 x4 x5 : Vec F S256x2048 .f32) (x6 : Vec F S4x256x256 .bf16) (x7 : Vec F S1x1024 .f32) (x8 x9 : Vec F S1024x2048 .bf16) (x10 : Vec F S2048x2048 .bf16) (x11 x12 : Vec F S1x2048 .f32) :
    out0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12
      = View.canon [⟨Rect.unit (s := S256x2048) ![128, 0] S128x2048.size inb_S256x2048_S128x2048_128_0, k0_pay2 (k0_pay29 x12) (lower (gated i x0 x1 x2 x3 x4 x6 x7 x8 x9) x5 x10 x11)⟩,
          ⟨Rect.unit (s := S256x2048) ![0, 0] S128x2048.size inb_S256x2048_S128x2048_0_0, k0_pay28 (upper (gated i x0 x1 x2 x3 x4 x6 x7 x8 x9) x5 x10 x11) x12⟩] := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12)]
  unfold kernelRun0_A
  dsimp only
  sl_unfold_words
  simp only [View.readAt_eq_ld, View.readCov_eq_canon', h1.read_unread, h2.read_unread, h3.read_unread, h4.read_unread, h5.read_unread, h6.read_unread, h7.read_unread, h8.read_unread, h9.read_unread, h10.read_unread, h11.read_unread, h12.read_unread, h13.read_unread,
    View.ld_unit_zero (S := S16x1024) start_zero, View.ld_unit_zero (S := S256x1024) start_zero, View.ld_unit_zero (S := S1024x2048) start_zero, View.ld_unit_zero (S := S256x2048) start_zero, View.ld_unit_zero (S := S2048x2048) start_zero, View.ld_unit_zero (S := S1x2048) start_zero]
  rfl

end Cert.MixerTail

end
-- ==== Proof.TailValue.lean ====
module

public import proofs.«01_k».proof.Proof.DenseValue
public import proofs.«01_k».proof.Proof.TailCase

/-! The mixer's tail over the extended reals: windowed means of each sequence's rows, pooled by group, gated with the
attention's branch, projected and normalised. -/

@[expose] public section

set_option maxRecDepth 16384

noncomputable section

namespace Cert.MixerTail

open Cert.TailIdeal Cert.TailIdeal.Gen
open Cert.DenseFfn (mean normed)
open Idealize.ShloMosaic Idealize.ShloMosaic.TcCoe Idealize.ShloMosaic.Tactic
open Idealize.SL Idealize.SL.Sem

/-- The row `k` tokens back, zero before the sequence's start. -/
def back (U : FVec Ideal S16384x1024 .f32) (r : Fin 16384) (k : ℕ) (j : Fin 1024) : EReal :=
  if k ≤ r.val % 8192 then U (ix2 ⟨r.val - k, Nat.lt_of_le_of_lt (Nat.sub_le _ _) r.isLt⟩ j) else 0

/-- The sum of the last `w` rows. -/
def window (U : FVec Ideal S16384x1024 .f32) (w : ℕ) (r : Fin 16384) (j : Fin 1024) : EReal :=
  ∑ k ∈ Finset.range w, back U r k j

/-- How many rows of the sequence the window holds. -/
def count (w : BitVec 32) (r : Fin 16384) : EReal :=
  FloatOps.sitofp (F := Ideal) .f32 (IntOp.minsi (IntOp.addi (BitVec.ofNat 32 (r.val % 8192)) 1#32) w)

/-- Column `a` of group `g`. -/
def groupCol (g : Fin 4) (a : Fin 256) : Fin 1024 := ⟨256 * g.val + a.val, by omega⟩

/-- A pooled column of group `g`. -/
def pooled (U : FVec Ideal S16384x1024 .f32) (PW : FVec Ideal S4x256x256 .f32) (PS : FVec Ideal S1024 .f32) (g : Fin 4) (r : Fin 16384) (b : Fin 256) : EReal :=
  (∑ a : Fin 256, (Ideal.div (window U (2 ^ (g.val + 1)) r (groupCol g a)) (count (BitVec.ofNat 32 (2 ^ (g.val + 1))) r) - U (ix2 r (groupCol g a))) * PW (ix3 g a b))
    * PS (ix1 (groupCol g b))

/-- A pooled column. -/
def pool (U : FVec Ideal S16384x1024 .f32) (PW : FVec Ideal S4x256x256 .f32) (PS : FVec Ideal S1024 .f32) (r : Fin 16384) (k : Fin 1024) : EReal :=
  pooled U PW PS ⟨k.val / 256, by omega⟩ r ⟨k.val % 256, Nat.mod_lt _ (by decide)⟩

/-- A column of the heads, side by side. -/
def head (A : FVec Ideal S8x16384x128 .f32) (r : Fin 16384) (k : Fin 1024) : EReal :=
  A (ix3 ⟨k.val / 128, by omega⟩ r ⟨k.val % 128, Nat.mod_lt _ (by decide)⟩)

/-- The attention's branch and the pooled one, gated. -/
def merged (A : FVec Ideal S8x16384x128 .f32) (U : FVec Ideal S16384x1024 .f32) (G : FVec Ideal S16384x4096 .f32) (PW : FVec Ideal S4x256x256 .f32) (PS : FVec Ideal S1024 .f32)
    (WA WB : FVec Ideal S1024x2048 .f32) (r : Fin 16384) (q : Fin 2048) : EReal :=
  G (ix2 r ⟨q.val, by omega⟩) * (∑ k : Fin 1024, head A r k * WA (ix2 k q)) + G (ix2 r ⟨2048 + q.val, by omega⟩) * ∑ k : Fin 1024, pool U PW PS r k * WB (ix2 k q)

/-- The row the layer norm is taken of. -/
def mixed (A : FVec Ideal S8x16384x128 .f32) (U : FVec Ideal S16384x1024 .f32) (G : FVec Ideal S16384x4096 .f32) (X : FVec Ideal S16384x2048 .f32) (PW : FVec Ideal S4x256x256 .f32) (PS : FVec Ideal S1024 .f32)
    (WA WB : FVec Ideal S1024x2048 .f32) (WO : FVec Ideal S2048x2048 .f32) (r : Fin 16384) (j : Fin 2048) : EReal :=
  Ideal.ofBits .f32 0x3FB504F3#32 * X (ix2 r j) + ∑ q : Fin 2048, merged A U G PW PS WA WB r q * WO (ix2 q j)

/-- The result. -/
def result (A : FVec Ideal S8x16384x128 .f32) (U : FVec Ideal S16384x1024 .f32) (G : FVec Ideal S16384x4096 .f32) (X : FVec Ideal S16384x2048 .f32) (PW : FVec Ideal S4x256x256 .f32) (PS : FVec Ideal S1024 .f32)
    (WA WB : FVec Ideal S1024x2048 .f32) (WO : FVec Ideal S2048x2048 .f32) (P Q : FVec Ideal S2048 .f32) (i : S16384x2048.Idx) : EReal :=
  normed (mixed A U G X PW PS WA WB WO (i 0)) (i 1) * P (ix1 (i 1)) + Q (ix1 (i 1))

/-! The scratch, at an index. -/

theorem hit {S : Shape} {off size : Fin S.rank → ℕ} {inb : ∀ a, off a + size a ≤ S.size a} (w : (Rect.unit off size inb).shape.Idx → Elt Ideal .f32)
    (L : List (View.Piece (Elt Ideal) S .f32)) (x : (Rect.unit off size inb).shape.Idx) (y : S.Idx) (h : ∀ a, (y a : ℕ) = off a + x a) :
    View.canon (⟨Rect.unit off size inb, w⟩ :: L) y = w x := by
  have e : (Rect.unit off size inb).emb x = y := funext fun a => Fin.ext ((Rect.idx_unit_val off size inb x a).trans (h a).symm)
  rw [← e]
  exact View.canon_cons_emb _ w L x

theorem miss {S : Shape} {off size : Fin S.rank → ℕ} {inb : ∀ a, off a + size a ≤ S.size a} (w : (Rect.unit off size inb).shape.Idx → Elt Ideal .f32)
    (L : List (View.Piece (Elt Ideal) S .f32)) (y : S.Idx) (a : Fin S.rank) (h : (y a : ℕ) < off a ∨ off a + size a ≤ y a) :
    View.canon (⟨Rect.unit off size inb, w⟩ :: L) y = View.canon L y := by
  refine View.canon_cons_of_not_mem _ L fun hm => ?_
  have := (Rect.mem_set_unit (inb := inb)).mp hm a
  omega

/-- A tile is its sequence's first when its number is divisible by 32. -/
theorem tile_word : ∀ n : Fin 64,
    Scalar.cmpi .eq (Scalar.select (Scalar.andi (Scalar.xori (Scalar.cmpi .slt (Scalar.remsi (BitVec.ofNat 32 n.val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 n.val) (Scalar.select (Scalar.cmpi .eq 32#32 0#32) 1#32 32#32)) 0#32)) (Scalar.addi (Scalar.remsi (BitVec.ofNat 32 n.val) (Scalar.select (Scalar.cmpi .eq 32#32 0#32) 1#32 32#32)) (Scalar.select (Scalar.cmpi .eq 32#32 0#32) 1#32 32#32)) (Scalar.remsi (BitVec.ofNat 32 n.val) (Scalar.select (Scalar.cmpi .eq 32#32 0#32) 1#32 32#32))) 0#32
      = if n.val % 32 = 0 then 1#1 else 0#1 := by
  decide

theorem time_word : ∀ n : Fin 64,
    Scalar.muli (Scalar.select (Scalar.andi (Scalar.xori (Scalar.cmpi .slt (Scalar.remsi (BitVec.ofNat 32 n.val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 n.val) (Scalar.select (Scalar.cmpi .eq 32#32 0#32) 1#32 32#32)) 0#32)) (Scalar.addi (Scalar.remsi (BitVec.ofNat 32 n.val) (Scalar.select (Scalar.cmpi .eq 32#32 0#32) 1#32 32#32)) (Scalar.select (Scalar.cmpi .eq 32#32 0#32) 1#32 32#32)) (Scalar.remsi (BitVec.ofNat 32 n.val) (Scalar.select (Scalar.cmpi .eq 32#32 0#32) 1#32 32#32))) 256#32
      = BitVec.ofNat 32 (n.val % 32 * 256) := by
  decide

/-- The rows before the block, zero at a sequence's start. -/
theorem before_at (i : grid0.Coords) (v : Vec Ideal S16x1024 .f32) (b : Fin 16) (j : Fin 1024) :
    (k0_pay4 (F := Ideal) i v (ix3 0 b j) : EReal) = if (i 0).val % 32 = 0 then 0 else (v (ix2 b j) : EReal) := by
  have e := tile_word (i 0)
  generalize hR : (if (i 0).val % 32 = 0 then (0 : EReal) else (v (ix2 b j) : EReal)) = R
  pointwise [k0_pay4]
  rw [e, ← hR]
  split <;> rfl

theorem block_row (v : Vec Ideal S256x1024 .f32) (a : Fin 256) (j : Fin 1024) : (k0_pay5 (F := Ideal) v (ix3 0 a j) : EReal) = v (ix2 a j) := by
  pointwise [k0_pay5]

theorem two_at (v w : Vec Ideal S1x272x768 .f32) (a : Fin 272) (j : Fin 768) : (k0_pay9 (F := Ideal) v w (ix3 0 a j) : EReal) = v (ix3 0 a j) + w (ix3 0 a j) := by
  pointwise [k0_pay9]
theorem four_at (v w : Vec Ideal S1x272x512 .f32) (a : Fin 272) (j : Fin 512) : (k0_pay10 (F := Ideal) v w (ix3 0 a j) : EReal) = v (ix3 0 a j) + w (ix3 0 a j) := by
  pointwise [k0_pay10]
theorem eight_at (v w : Vec Ideal S1x272x256 .f32) (a : Fin 272) (j : Fin 256) : (k0_pay11 (F := Ideal) v w (ix3 0 a j) : EReal) = v (ix3 0 a j) + w (ix3 0 a j) := by
  pointwise [k0_pay11]

theorem time_at (i : grid0.Coords) (a : Fin 256) : k0_pay6 i (ix2 a 0) = BitVec.ofNat 32 ((i 0).val % 32 * 256 + a.val) := by
  have e := time_word (i 0)
  have h : k0_pay6 i (ix2 a 0) = IntOp.addi (BitVec.ofNat 32 ((i 0).val % 32 * 256)) (BitVec.ofNat 32 a.val) := by
    rw [← e]
    pointwise [k0_pay6]
  rw [h]
  exact (BitVec.ofNat_add _ _).symm

/-- The blocks a tile is given: its own rows, and the sixteen before it except at a sequence's start. -/
def Loaded (i : grid0.Coords) (x1 : Vec Ideal S256x1024 .f32) (x2 : Vec Ideal S16x1024 .f32) (U : FVec Ideal S16384x1024 .f32) : Prop :=
  (∀ (a : Fin 256) (j : Fin 1024) (r : Fin 16384), r.val = 256 * (i 0).val + a.val → (x1 (ix2 a j) : EReal) = U (ix2 r j))
    ∧ ((i 0).val % 32 ≠ 0 → ∀ (b : Fin 16) (j : Fin 1024) (r : Fin 16384), r.val + 16 = 256 * (i 0).val + b.val → (x2 (ix2 b j) : EReal) = U (ix2 r j))

theorem first_block (i : grid0.Coords) (x1 : Vec Ideal S256x1024 .f32) (x2 : Vec Ideal S16x1024 .f32) (ρ : Fin 280) (a : Fin 256) (h : ρ.val = 24 + a.val) (j : Fin 1024) :
    (View.canon (first i x1 x2) (ix3 0 ρ j) : EReal) = x1 (ix2 a j) := by
  unfold first
  refine Eq.trans (hit _ _ (ix3 (0 : Fin 1) a j : S1x256x1024.Idx) _ fun q => ?_) ?_
  rotate_left
  · exact block_row x1 a j
  fin_cases q
  · rfl
  · exact h
  · exact (Nat.zero_add _).symm

theorem first_before (i : grid0.Coords) (x1 : Vec Ideal S256x1024 .f32) (x2 : Vec Ideal S16x1024 .f32) (ρ : Fin 280) (b : Fin 16) (h : ρ.val = 8 + b.val) (j : Fin 1024) :
    (View.canon (first i x1 x2) (ix3 0 ρ j) : EReal) = if (i 0).val % 32 = 0 then 0 else (x2 (ix2 b j) : EReal) := by
  unfold first
  refine Eq.trans (miss _ _ _ (1 : Fin 3) (Or.inl (show ρ.val < 24 by omega))) ?_
  refine Eq.trans (hit _ _ (ix3 (0 : Fin 1) b j : S1x16x1024.Idx) _ fun q => ?_) ?_
  rotate_left
  · exact before_at i x2 b j
  fin_cases q
  · rfl
  · exact h
  · exact (Nat.zero_add _).symm

/-- The row `k` tokens back of the one in row `a` of the tile. -/
theorem first_at (i : grid0.Coords) (x1 : Vec Ideal S256x1024 .f32) (x2 : Vec Ideal S16x1024 .f32) (U : FVec Ideal S16384x1024 .f32) (hl : Loaded i x1 x2 U) (a : Fin 256) (r : Fin 16384)
    (hr : r.val = 256 * (i 0).val + a.val) (j : Fin 1024) (k : ℕ) (hk : k < 16) (ρ : Fin 280) (hρ : ρ.val + k = 24 + a.val) :
    (View.canon (first i x1 x2) (ix3 0 ρ j) : EReal) = back U r k j := by
  have hm : r.val % 8192 = (i 0).val % 32 * 256 + a.val := by omega
  unfold back
  by_cases h : k ≤ a.val
  · have ha : a.val - k < 256 := by omega
    rw [first_block i x1 x2 ρ ⟨a.val - k, ha⟩ (by show ρ.val = 24 + (a.val - k); omega) j, if_pos (by omega)]
    exact hl.1 _ _ _ (by show r.val - k = 256 * (i 0).val + (a.val - k); omega)
  · have hb : 16 + a.val - k < 16 := by omega
    rw [first_before i x1 x2 ρ ⟨16 + a.val - k, hb⟩ (by show ρ.val = 8 + (16 + a.val - k); omega) j]
    by_cases h0 : (i 0).val % 32 = 0
    · rw [if_pos h0, if_neg (by omega)]
    · rw [if_neg h0, if_pos (by omega)]
      exact hl.2 h0 _ _ _ (by show r.val - k + 16 = 256 * (i 0).val + (16 + a.val - k); omega)

/-- The sum of `w` rows, the nearest `k` tokens back. -/
def span (U : FVec Ideal S16384x1024 .f32) (r : Fin 16384) (j : Fin 1024) (k w : ℕ) : EReal := ∑ q ∈ Finset.range w, back U r (k + q) j

theorem span_add (U : FVec Ideal S16384x1024 .f32) (r : Fin 16384) (j : Fin 1024) (k w v : ℕ) : span U r j k w + span U r j (k + w) v = span U r j k (w + v) := by
  unfold span
  rw [Finset.sum_range_add]
  simp only [Nat.add_assoc]

theorem span_one (U : FVec Ideal S16384x1024 .f32) (r : Fin 16384) (j : Fin 1024) (k : ℕ) : span U r j k 1 = back U r k j :=
  Finset.sum_range_one _

theorem span_window (U : FVec Ideal S16384x1024 .f32) (r : Fin 16384) (j : Fin 1024) (w : ℕ) : span U r j 0 w = window U w r j := by
  unfold span window
  simp only [Nat.zero_add]

theorem second_old (i : grid0.Coords) (x1 : Vec Ideal S256x1024 .f32) (x2 : Vec Ideal S16x1024 .f32) (p : Fin 4) (hp : p.val < 1) (ρ : Fin 280) (j : Fin 1024) :
    View.canon (second i x1 x2) (ix3 p ρ j) = View.canon (first i x1 x2) (ix3 p ρ j) :=
  miss _ _ _ (0 : Fin 3) (Or.inl hp)
theorem second_new (i : grid0.Coords) (x1 : Vec Ideal S256x1024 .f32) (x2 : Vec Ideal S16x1024 .f32) (ρ σ : Fin 280) (hρ : 8 ≤ ρ.val) (hσ : σ.val + 1 = ρ.val) (j : Fin 1024) (hj : 256 ≤ j.val) :
    (View.canon (second i x1 x2) (ix3 1 ρ j) : EReal) = (View.canon (first i x1 x2) (ix3 0 ρ j) : EReal) + (View.canon (first i x1 x2) (ix3 0 σ j) : EReal) := by
  have hr : ρ.val - 8 < 272 := by omega
  have hc : j.val - 256 < 768 := by omega
  unfold second
  refine Eq.trans (hit _ _ (ix3 (0 : Fin 1) (⟨ρ.val - 8, hr⟩ : Fin 272) (⟨j.val - 256, hc⟩ : Fin 768) : S1x272x768.Idx) _ fun a => ?_) ?_
  rotate_left
  · refine (two_at _ _ _ _).trans (congrArg₂ (fun a b : EReal => a + b) ?_ ?_)
    · refine View.ld_unit_apply_of _ _ _ _ _ _ fun a => ?_
      fin_cases a
      · rfl
      · show ρ.val = 8 + (ρ.val - 8); omega
      · show j.val = 256 + (j.val - 256); omega
    · refine View.ld_unit_apply_of _ _ _ _ _ _ fun a => ?_
      fin_cases a
      · rfl
      · show σ.val = 7 + (ρ.val - 8); omega
      · show j.val = 256 + (j.val - 256); omega
  fin_cases a
  · rfl
  · show ρ.val = 8 + (ρ.val - 8); omega
  · show j.val = 256 + (j.val - 256); omega

theorem third_old (i : grid0.Coords) (x1 : Vec Ideal S256x1024 .f32) (x2 : Vec Ideal S16x1024 .f32) (p : Fin 4) (hp : p.val < 2) (ρ : Fin 280) (j : Fin 1024) :
    View.canon (third i x1 x2) (ix3 p ρ j) = View.canon (second i x1 x2) (ix3 p ρ j) :=
  miss _ _ _ (0 : Fin 3) (Or.inl hp)
theorem third_new (i : grid0.Coords) (x1 : Vec Ideal S256x1024 .f32) (x2 : Vec Ideal S16x1024 .f32) (ρ σ : Fin 280) (hρ : 8 ≤ ρ.val) (hσ : σ.val + 2 = ρ.val) (j : Fin 1024) (hj : 512 ≤ j.val) :
    (View.canon (third i x1 x2) (ix3 2 ρ j) : EReal) = (View.canon (second i x1 x2) (ix3 1 ρ j) : EReal) + (View.canon (second i x1 x2) (ix3 1 σ j) : EReal) := by
  have hr : ρ.val - 8 < 272 := by omega
  have hc : j.val - 512 < 512 := by omega
  unfold third
  refine Eq.trans (hit _ _ (ix3 (0 : Fin 1) (⟨ρ.val - 8, hr⟩ : Fin 272) (⟨j.val - 512, hc⟩ : Fin 512) : S1x272x512.Idx) _ fun a => ?_) ?_
  rotate_left
  · refine (four_at _ _ _ _).trans (congrArg₂ (fun a b : EReal => a + b) ?_ ?_)
    · refine View.ld_unit_apply_of _ _ _ _ _ _ fun a => ?_
      fin_cases a
      · rfl
      · show ρ.val = 8 + (ρ.val - 8); omega
      · show j.val = 512 + (j.val - 512); omega
    · refine View.ld_unit_apply_of _ _ _ _ _ _ fun a => ?_
      fin_cases a
      · rfl
      · show σ.val = 6 + (ρ.val - 8); omega
      · show j.val = 512 + (j.val - 512); omega
  fin_cases a
  · rfl
  · show ρ.val = 8 + (ρ.val - 8); omega
  · show j.val = 512 + (j.val - 512); omega

theorem fourth_old (i : grid0.Coords) (x1 : Vec Ideal S256x1024 .f32) (x2 : Vec Ideal S16x1024 .f32) (p : Fin 4) (hp : p.val < 3) (ρ : Fin 280) (j : Fin 1024) :
    View.canon (fourth i x1 x2) (ix3 p ρ j) = View.canon (third i x1 x2) (ix3 p ρ j) :=
  miss _ _ _ (0 : Fin 3) (Or.inl hp)
theorem fourth_new (i : grid0.Coords) (x1 : Vec Ideal S256x1024 .f32) (x2 : Vec Ideal S16x1024 .f32) (ρ σ : Fin 280) (hρ : 8 ≤ ρ.val) (hσ : σ.val + 4 = ρ.val) (j : Fin 1024) (hj : 768 ≤ j.val) :
    (View.canon (fourth i x1 x2) (ix3 3 ρ j) : EReal) = (View.canon (third i x1 x2) (ix3 2 ρ j) : EReal) + (View.canon (third i x1 x2) (ix3 2 σ j) : EReal) := by
  have hr : ρ.val - 8 < 272 := by omega
  have hc : j.val - 768 < 256 := by omega
  unfold fourth
  refine Eq.trans (hit _ _ (ix3 (0 : Fin 1) (⟨ρ.val - 8, hr⟩ : Fin 272) (⟨j.val - 768, hc⟩ : Fin 256) : S1x272x256.Idx) _ fun a => ?_) ?_
  rotate_left
  · refine (eight_at _ _ _ _).trans (congrArg₂ (fun a b : EReal => a + b) ?_ ?_)
    · refine View.ld_unit_apply_of _ _ _ _ _ _ fun a => ?_
      fin_cases a
      · rfl
      · show ρ.val = 8 + (ρ.val - 8); omega
      · show j.val = 768 + (j.val - 768); omega
    · refine View.ld_unit_apply_of _ _ _ _ _ _ fun a => ?_
      fin_cases a
      · rfl
      · show σ.val = 4 + (ρ.val - 8); omega
      · show j.val = 768 + (j.val - 768); omega
  fin_cases a
  · rfl
  · show ρ.val = 8 + (ρ.val - 8); omega
  · show j.val = 768 + (j.val - 768); omega

theorem first_sum (i : grid0.Coords) (x1 : Vec Ideal S256x1024 .f32) (x2 : Vec Ideal S16x1024 .f32) (U : FVec Ideal S16384x1024 .f32) (hl : Loaded i x1 x2 U) (a : Fin 256) (r : Fin 16384)
    (hr : r.val = 256 * (i 0).val + a.val) (j : Fin 1024) (k : ℕ) (hk : k < 16) (ρ : Fin 280) (hρ : ρ.val + k = 24 + a.val) :
    (View.canon (first i x1 x2) (ix3 0 ρ j) : EReal) = span U r j k 1 :=
  (first_at i x1 x2 U hl a r hr j k hk ρ hρ).trans (span_one U r j k).symm

theorem second_sum (i : grid0.Coords) (x1 : Vec Ideal S256x1024 .f32) (x2 : Vec Ideal S16x1024 .f32) (U : FVec Ideal S16384x1024 .f32) (hl : Loaded i x1 x2 U) (a : Fin 256) (r : Fin 16384)
    (hr : r.val = 256 * (i 0).val + a.val) (j : Fin 1024) (hj : 256 ≤ j.val) (k : ℕ) (hk : k + 2 ≤ 16) (ρ : Fin 280) (hρ : ρ.val + k = 24 + a.val) :
    (View.canon (second i x1 x2) (ix3 1 ρ j) : EReal) = span U r j k 2 := by
  have hs : ρ.val - 1 < 280 := by omega
  rw [second_new i x1 x2 ρ ⟨ρ.val - 1, hs⟩ (by omega) (by show ρ.val - 1 + 1 = ρ.val; omega) j hj, first_sum i x1 x2 U hl a r hr j k (by omega) ρ hρ,
    first_sum i x1 x2 U hl a r hr j (k + 1) (by omega) ⟨ρ.val - 1, hs⟩ (by show ρ.val - 1 + (k + 1) = 24 + a.val; omega)]
  exact span_add U r j k 1 1

theorem third_sum (i : grid0.Coords) (x1 : Vec Ideal S256x1024 .f32) (x2 : Vec Ideal S16x1024 .f32) (U : FVec Ideal S16384x1024 .f32) (hl : Loaded i x1 x2 U) (a : Fin 256) (r : Fin 16384)
    (hr : r.val = 256 * (i 0).val + a.val) (j : Fin 1024) (hj : 512 ≤ j.val) (k : ℕ) (hk : k + 4 ≤ 16) (ρ : Fin 280) (hρ : ρ.val + k = 24 + a.val) :
    (View.canon (third i x1 x2) (ix3 2 ρ j) : EReal) = span U r j k 4 := by
  have hs : ρ.val - 2 < 280 := by omega
  rw [third_new i x1 x2 ρ ⟨ρ.val - 2, hs⟩ (by omega) (by show ρ.val - 2 + 2 = ρ.val; omega) j hj, second_sum i x1 x2 U hl a r hr j (by omega) k (by omega) ρ hρ,
    second_sum i x1 x2 U hl a r hr j (by omega) (k + 2) (by omega) ⟨ρ.val - 2, hs⟩ (by show ρ.val - 2 + (k + 2) = 24 + a.val; omega)]
  exact span_add U r j k 2 2

theorem fourth_sum (i : grid0.Coords) (x1 : Vec Ideal S256x1024 .f32) (x2 : Vec Ideal S16x1024 .f32) (U : FVec Ideal S16384x1024 .f32) (hl : Loaded i x1 x2 U) (a : Fin 256) (r : Fin 16384)
    (hr : r.val = 256 * (i 0).val + a.val) (j : Fin 1024) (hj : 768 ≤ j.val) (k : ℕ) (hk : k + 8 ≤ 16) (ρ : Fin 280) (hρ : ρ.val + k = 24 + a.val) :
    (View.canon (fourth i x1 x2) (ix3 3 ρ j) : EReal) = span U r j k 8 := by
  have hs : ρ.val - 4 < 280 := by omega
  rw [fourth_new i x1 x2 ρ ⟨ρ.val - 4, hs⟩ (by omega) (by show ρ.val - 4 + 4 = ρ.val; omega) j hj, third_sum i x1 x2 U hl a r hr j (by omega) k (by omega) ρ hρ,
    third_sum i x1 x2 U hl a r hr j (by omega) (k + 4) (by omega) ⟨ρ.val - 4, hs⟩ (by show ρ.val - 4 + (k + 4) = 24 + a.val; omega)]
  exact span_add U r j k 4 4

/-! The payloads, at an index. -/

/-- Column `j` of chunk `n`. -/
def chunkCol (n : Fin 4) (j : Fin 512) : Fin 2048 := ⟨512 * n.val + j.val, by omega⟩

theorem pool_group (U : FVec Ideal S16384x1024 .f32) (PW : FVec Ideal S4x256x256 .f32) (PS : FVec Ideal S1024 .f32) (r : Fin 16384) (g : Fin 4) (b : Fin 256) :
    pool U PW PS r (groupCol g b) = pooled U PW PS g r b := by
  have e0 : (⟨(groupCol g b).val / 256, by omega⟩ : Fin 4) = g := Fin.ext (by show (256 * g.val + b.val) / 256 = g.val; omega)
  have e1 : (⟨(groupCol g b).val % 256, Nat.mod_lt _ (by decide)⟩ : Fin 256) = b := Fin.ext (by show (256 * g.val + b.val) % 256 = b.val; omega)
  unfold pool
  rw [e0, e1]

/-- Four pieces side by side. -/
theorem cat_four {n : ℕ} (f0 f1 f2 f3 : Fin n → EReal) (k : ℕ) (hk : k < 4 * n) (R : EReal) (h0 : ∀ h : k < n, f0 ⟨k, h⟩ = R) (h1 : n ≤ k → ∀ h : k - n < n, f1 ⟨k - n, h⟩ = R)
    (h2 : 2 * n ≤ k → ∀ h : k - n - n < n, f2 ⟨k - n - n, h⟩ = R) (h3 : 3 * n ≤ k → ∀ h : k - n - n - n < n, f3 ⟨k - n - n - n, h⟩ = R) :
    (if h : k < n then f0 ⟨k, h⟩ else if h : k - n < n then f1 ⟨k - n, h⟩ else if h : k - n - n < n then f2 ⟨k - n - n, h⟩ else f3 ⟨k - n - n - n, by omega⟩) = R := by
  split
  · exact h0 _
  · split
    · exact h1 (by omega) _
    · split
      · exact h2 (by omega) _
      · exact h3 (by omega) _

/-- A pooled column, of the rows loaded. -/
def poolSum (t : IVec S256x1 32) (w : BitVec 32) (u v1 v2 : Vec Ideal S1x256x256 .f32) (pw : Vec Ideal S1x256x256 .bf16) (ps : Vec Ideal S1x256 .f32) (a b : Fin 256) : EReal :=
  (∑ x : Fin 256, (Ideal.div ((v1 (ix3 0 a x) : EReal) + v2 (ix3 0 a x)) (FloatOps.sitofp (F := Ideal) .f32 (IntOp.minsi (IntOp.addi (t (ix2 a 0)) 1#32) w)) - u (ix3 0 a x)) * pw (ix3 0 x b)) * ps (ix2 0 b)

theorem poolSum_at (i : grid0.Coords) (u v1 v2 : Vec Ideal S1x256x256 .f32) (pw : Vec Ideal S1x256x256 .bf16) (ps : Vec Ideal S1x256 .f32) (a b : Fin 256)
    (U : FVec Ideal S16384x1024 .f32) (PW : FVec Ideal S4x256x256 .f32) (PS : FVec Ideal S1024 .f32) (r : Fin 16384) (hr : r.val = 256 * (i 0).val + a.val) (g : Fin 4) (w : ℕ) (hw : w = 2 ^ (g.val + 1))
    (hu : ∀ x : Fin 256, (u (ix3 0 a x) : EReal) = U (ix2 r (groupCol g x))) (hv : ∀ x : Fin 256, (v1 (ix3 0 a x) : EReal) + v2 (ix3 0 a x) = window U w r (groupCol g x))
    (hp : ∀ x : Fin 256, (pw (ix3 0 x b) : EReal) = PW (ix3 g x b)) (hs : (ps (ix2 0 b) : EReal) = PS (ix1 (groupCol g b))) :
    poolSum (k0_pay6 i) (BitVec.ofNat 32 w) u v1 v2 pw ps a b = pooled U PW PS g r b := by
  have ht : (i 0).val % 32 * 256 + a.val = r.val % 8192 := by omega
  subst hw
  unfold poolSum pooled count
  rw [time_at i a, ht, hs]
  simp only [hu, hv, hp]

theorem pay_0 (t : IVec S256x1 32) (u v1 v2 : Vec Ideal S1x256x256 .f32) (pw : Vec Ideal S1x256x256 .bf16) (ps : Vec Ideal S1x256 .f32) (a b : Fin 256) :
    (k0_pay15 (k0_pay12 u) (k0_pay13 v1 v2) (k0_pay14 (F := Ideal) t) pw ps (ix2 a b) : EReal) = poolSum t 2#32 u v1 v2 pw ps a b := by
  unfold poolSum
  pointwise [k0_pay15, k0_pay12, k0_pay13, k0_pay14]
theorem pay_1 (t : IVec S256x1 32) (u v1 v2 : Vec Ideal S1x256x256 .f32) (pw : Vec Ideal S1x256x256 .bf16) (ps : Vec Ideal S1x256 .f32) (a b : Fin 256) :
    (k0_pay18 (k0_pay17 (F := Ideal) t u v1 v2 pw) ps (ix2 a b) : EReal) = poolSum t 4#32 u v1 v2 pw ps a b := by
  unfold poolSum
  pointwise [k0_pay18, k0_pay17]
theorem pay_2 (t : IVec S256x1 32) (u v1 v2 : Vec Ideal S1x256x256 .f32) (pw : Vec Ideal S1x256x256 .bf16) (ps : Vec Ideal S1x256 .f32) (a b : Fin 256) :
    (k0_pay20 (F := Ideal) t u v1 v2 pw ps (ix2 a b) : EReal) = poolSum t 8#32 u v1 v2 pw ps a b := by
  unfold poolSum
  pointwise [k0_pay20]

/-- The gated sum, from the pieces it joins. -/
theorem gate_at (t : IVec S256x1 32) (c0 : FVec Ideal S256x512 .f32) (g0 : FVec Ideal S256x256 .bf16) (c1 : FVec Ideal S256x512 .f32) (g1 : FVec Ideal S256x256 .bf16) (c2 : FVec Ideal S256x512 .f32) (g2 : FVec Ideal S256x256 .bf16)
    (c3 : FVec Ideal S256x512 .f32) (u v1 v2 : Vec Ideal S1x256x256 .f32) (pw : Vec Ideal S1x256x256 .bf16) (ps : Vec Ideal S1x256 .f32) (wb : Vec Ideal S1024x2048 .bf16) (ga gp : Vec Ideal S256x2048 .f32)
    (a : Fin 256) (q : Fin 2048) (D : Fin 2048 → EReal) (P : Fin 1024 → EReal)
    (d0 : ∀ j, (c0 (ix2 a j) : EReal) = D (chunkCol 0 j)) (d1 : ∀ j, (c1 (ix2 a j) : EReal) = D (chunkCol 1 j)) (d2 : ∀ j, (c2 (ix2 a j) : EReal) = D (chunkCol 2 j)) (d3 : ∀ j, (c3 (ix2 a j) : EReal) = D (chunkCol 3 j))
    (p0 : ∀ b, (g0 (ix2 a b) : EReal) = P (groupCol 0 b)) (p1 : ∀ b, (g1 (ix2 a b) : EReal) = P (groupCol 1 b)) (p2 : ∀ b, (g2 (ix2 a b) : EReal) = P (groupCol 2 b))
    (p3 : ∀ b, poolSum t 16#32 u v1 v2 pw ps a b = P (groupCol 3 b)) :
    (k0_pay22 (F := Ideal) t c0 g0 c1 g1 c2 g2 c3 u v1 v2 pw ps wb ga gp (ix2 a q) : EReal) = ga (ix2 a q) * D q + gp (ix2 a q) * ∑ x : Fin 1024, P x * wb (ix2 x q) := by
  unfold poolSum at p3
  generalize hR : ((ga (ix2 a q) : EReal) * D q + gp (ix2 a q) * ∑ x : Fin 1024, P x * wb (ix2 x q)) = R
  pointwise [k0_pay22]
  rw [← hR]
  refine congrArg₂ (fun a b : EReal => a + b) (congrArg (fun b : EReal => _ * b) ?_) (congrArg (fun b : EReal => _ * b) (Finset.sum_congr rfl fun x _ => congrArg (fun b : EReal => b * _) ?_))
  · refine cat_four (fun j => c0 (ix2 a j)) (fun j => c1 (ix2 a j)) (fun j => c2 (ix2 a j)) (fun j => c3 (ix2 a j)) q.val (by omega) (D q) (fun h => ?_) (fun e h => ?_) (fun e h => ?_) (fun e h => ?_)
    · exact (d0 _).trans (congrArg D (Fin.ext (by show 512 * 0 + q.val = q.val; omega)))
    · exact (d1 _).trans (congrArg D (Fin.ext (by show 512 * 1 + (q.val - 512) = q.val; omega)))
    · exact (d2 _).trans (congrArg D (Fin.ext (by show 512 * 2 + (q.val - 512 - 512) = q.val; omega)))
    · exact (d3 _).trans (congrArg D (Fin.ext (by show 512 * 3 + (q.val - 512 - 512 - 512) = q.val; omega)))
  · refine cat_four (fun j => g0 (ix2 a j)) (fun j => g1 (ix2 a j)) (fun j => g2 (ix2 a j)) (fun b => (∑ x : Fin 256, (Ideal.div ((v1 (ix3 0 a x) : EReal) + v2 (ix3 0 a x)) (FloatOps.sitofp (F := Ideal) .f32 (IntOp.minsi (IntOp.addi (t (ix2 a 0)) 1#32) 16#32)) - u (ix3 0 a x)) * pw (ix3 0 x b)) * ps (ix2 0 b)) x.val (by omega) (P x) (fun h => ?_) (fun e h => ?_) (fun e h => ?_) (fun e h => ?_)
    · exact (p0 _).trans (congrArg P (Fin.ext (by show 256 * 0 + x.val = x.val; omega)))
    · exact (p1 _).trans (congrArg P (Fin.ext (by show 256 * 1 + (x.val - 256) = x.val; omega)))
    · exact (p2 _).trans (congrArg P (Fin.ext (by show 256 * 2 + (x.val - 256 - 256) = x.val; omega)))
    · exact (p3 _).trans (congrArg P (Fin.ext (by show 256 * 3 + (x.val - 256 - 256 - 256) = x.val; omega)))

theorem chunk_at (v : FVec Ideal S256x1024 .bf16) (w : Vec Ideal S1024x512 .bf16) (a : Fin 256) (j : Fin 512) :
    (k0_pay16 (F := Ideal) v w (ix2 a j) : EReal) = ∑ k : Fin 1024, (v (ix2 a k) : EReal) * w (ix2 k j) := by
  pointwise [k0_pay16]

theorem half_at (v : FVec Ideal S256x2048 .bf16) (w : Vec Ideal S2048x512 .bf16) (a : Fin 128) (j : Fin 512) :
    (k0_pay23 (F := Ideal) v w (ix2 a j) : EReal) = ∑ k : Fin 2048, (v (ix2 (⟨128 + a.val, by omega⟩ : Fin 256) k) : EReal) * w (ix2 k j) := by
  pointwise [k0_pay23]

/-- The normalised rows of the first half, -/
theorem top_at (v : FVec Ideal S256x2048 .bf16) (x : Vec Ideal S128x2048 .f32) (w : Vec Ideal S2048x2048 .bf16) (p : Vec Ideal S1x2048 .f32) (a : Fin 128) (b : Fin 2048) :
    (k0_pay26 (F := Ideal) v x w p (ix2 a b) : EReal)
      = normed (fun k => Ideal.ofBits .f32 0x3FB504F3#32 * (x (ix2 a k) : EReal) + ∑ q : Fin 2048, (v (ix2 (⟨a.val, by omega⟩ : Fin 256) q) : EReal) * w (ix2 q k)) b * p (ix2 0 b) := by
  unfold normed mean
  pointwise [k0_pay26]

/-- and of the second. -/
theorem bottom_at (v : FVec Ideal S256x2048 .bf16) (c0 c1 c2 : FVec Ideal S128x512 .f32) (w : Vec Ideal S2048x512 .bf16) (x : Vec Ideal S128x2048 .f32) (p : Vec Ideal S1x2048 .f32) (a : Fin 128) (b : Fin 2048) (D : Fin 2048 → EReal)
    (d0 : ∀ j, (c0 (ix2 a j) : EReal) = D (chunkCol 0 j)) (d1 : ∀ j, (c1 (ix2 a j) : EReal) = D (chunkCol 1 j)) (d2 : ∀ j, (c2 (ix2 a j) : EReal) = D (chunkCol 2 j))
    (d3 : ∀ j, (∑ q : Fin 2048, (v (ix2 (⟨128 + a.val, by omega⟩ : Fin 256) q) : EReal) * w (ix2 q j)) = D (chunkCol 3 j)) :
    (k0_pay30 (F := Ideal) v c0 c1 c2 w x p (ix2 a b) : EReal) = normed (fun k => Ideal.ofBits .f32 0x3FB504F3#32 * (x (ix2 a k) : EReal) + D k) b * p (ix2 0 b) := by
  have cat : ∀ k : Fin 2048, (if h : k.val < 512 then (c0 (ix2 a ⟨k.val, h⟩) : EReal) else if h : k.val - 512 < 512 then (c1 (ix2 a ⟨k.val - 512, h⟩) : EReal)
      else if h : k.val - 512 - 512 < 512 then (c2 (ix2 a ⟨k.val - 512 - 512, h⟩) : EReal)
      else ∑ q : Fin 2048, (v (ix2 (⟨128 + a.val, by omega⟩ : Fin 256) q) : EReal) * w (ix2 q (⟨k.val - 512 - 512 - 512, by omega⟩ : Fin 512))) = D k := fun k => by
    refine cat_four (fun j => c0 (ix2 a j)) (fun j => c1 (ix2 a j)) (fun j => c2 (ix2 a j)) (fun j => ∑ q : Fin 2048, (v (ix2 (⟨128 + a.val, by omega⟩ : Fin 256) q) : EReal) * w (ix2 q j)) k.val (by omega) (D k) (fun h => ?_) (fun e h => ?_) (fun e h => ?_) (fun e h => ?_)
    · exact (d0 _).trans (congrArg D (Fin.ext (by show 512 * 0 + k.val = k.val; omega)))
    · exact (d1 _).trans (congrArg D (Fin.ext (by show 512 * 1 + (k.val - 512) = k.val; omega)))
    · exact (d2 _).trans (congrArg D (Fin.ext (by show 512 * 2 + (k.val - 512 - 512) = k.val; omega)))
    · exact (d3 _).trans (congrArg D (Fin.ext (by show 512 * 3 + (k.val - 512 - 512 - 512) = k.val; omega)))
  generalize hR : normed (fun k => Ideal.ofBits .f32 0x3FB504F3#32 * (x (ix2 a k) : EReal) + D k) b * (p (ix2 0 b) : EReal) = R
  pointwise [k0_pay30]
  rw [← hR]
  simp only [cat]
  rfl

theorem shift_top (v : FVec Ideal S128x2048 .f32) (q : Vec Ideal S1x2048 .f32) (a : Fin 128) (b : Fin 2048) : (k0_pay27 v q (ix2 a b) : EReal) = v (ix2 a b) + q (ix2 0 b) := by
  pointwise [k0_pay27]
theorem short_top (v : FVec Ideal S128x2048 .f32) (q : Vec Ideal S1x2048 .f32) (a : Fin 128) (b : Fin 2048) : (k0_pay28 v q (ix2 a b) : EReal) = v (ix2 a b) + q (ix2 0 b) := by
  pointwise [k0_pay28, k0_pay27]
theorem shift_bottom (v : FVec Ideal S128x2048 .f32) (q : Vec Ideal S1x2048 .f32) (a : Fin 128) (b : Fin 2048) : (k0_pay1 (k0_pay29 q) v (ix2 a b) : EReal) = v (ix2 a b) + q (ix2 0 b) := by
  pointwise [k0_pay1, k0_pay29]
theorem short_bottom (v : FVec Ideal S128x2048 .f32) (q : Vec Ideal S1x2048 .f32) (a : Fin 128) (b : Fin 2048) : (k0_pay2 (k0_pay29 q) v (ix2 a b) : EReal) = v (ix2 a b) + q (ix2 0 b) := by
  pointwise [k0_pay2, k0_pay1, k0_pay29]

end Cert.MixerTail

end
-- ==== Proof.TailRows.lean ====
module

public import proofs.«01_k».proof.Proof.TailValue

/-! A grid point's blocks of the mixer's tail, from the rows loaded. -/

@[expose] public section

set_option maxRecDepth 16384

noncomputable section

namespace Cert.MixerTail

open Cert.TailIdeal Cert.TailIdeal.Gen
open Cert.DenseFfn (mean normed)
open Idealize.ShloMosaic Idealize.ShloMosaic.TcCoe Idealize.ShloMosaic.Tactic
open Idealize.SL Idealize.SL.Sem

/-! The loads, at an index. -/

theorem scratch_ld (X : Vec Ideal S4x280x1024 .f32) (p q o : ℕ) (inb : ∀ a, (![p, q, o] : Fin 3 → ℕ) a + S1x256x256.size a ≤ S4x280x1024.size a) (a x : Fin 256) (P : Fin 4) (ρ : Fin 280) (J : Fin 1024)
    (hP : P.val = p) (hρ : ρ.val = q + a.val) (hJ : J.val = o + x.val) :
    ((View.ld X (Rect.unit (s := S4x280x1024) ![p, q, o] S1x256x256.size inb) : Vec Ideal S1x256x256 .f32) (ix3 0 a x) : EReal) = X (ix3 P ρ J) := by
  refine View.ld_unit_apply_of X _ _ _ _ _ fun d => ?_
  fin_cases d
  · exact hP.trans (Nat.add_zero _).symm
  · exact hρ
  · exact hJ

theorem weight_ld (X : Vec Ideal S4x256x256 .bf16) (p : ℕ) (inb : ∀ a, (![p, 0, 0] : Fin 3 → ℕ) a + S1x256x256.size a ≤ S4x256x256.size a) (x b : Fin 256) (g : Fin 4) (hg : g.val = p) :
    ((View.ld X (Rect.unit (s := S4x256x256) ![p, 0, 0] S1x256x256.size inb) : Vec Ideal S1x256x256 .bf16) (ix3 0 x b) : EReal) = X (ix3 g x b) := by
  refine View.ld_unit_apply_of X _ _ _ _ _ fun d => ?_
  fin_cases d
  · exact hg.trans (Nat.add_zero _).symm
  · exact (Nat.zero_add _).symm
  · exact (Nat.zero_add _).symm

theorem scale_ld (X : Vec Ideal S1x1024 .f32) (o : ℕ) (inb : ∀ a, (![0, o] : Fin 2 → ℕ) a + S1x256.size a ≤ S1x1024.size a) (b : Fin 256) (J : Fin 1024) (hJ : J.val = o + b.val) :
    ((View.ld X (Rect.unit (s := S1x1024) ![0, o] S1x256.size inb) : Vec Ideal S1x256 .f32) (ix2 0 b) : EReal) = X (ix2 0 J) := by
  refine View.ld_unit_apply_of X _ _ _ _ _ fun d => ?_
  fin_cases d
  · exact (Nat.zero_add _).symm
  · exact hJ

theorem branch_ld (X : Vec Ideal S1024x2048 .bf16) (o : ℕ) (inb : ∀ a, (![0, o] : Fin 2 → ℕ) a + S1024x512.size a ≤ S1024x2048.size a) (k : Fin 1024) (j : Fin 512) (J : Fin 2048) (hJ : J.val = o + j.val) :
    ((View.ld X (Rect.unit (s := S1024x2048) ![0, o] S1024x512.size inb) : Vec Ideal S1024x512 .bf16) (ix2 k j) : EReal) = X (ix2 k J) := by
  refine View.ld_unit_apply_of X _ _ _ _ _ fun d => ?_
  fin_cases d
  · exact (Nat.zero_add _).symm
  · exact hJ

theorem out_ld (X : Vec Ideal S2048x2048 .bf16) (o : ℕ) (inb : ∀ a, (![0, o] : Fin 2 → ℕ) a + S2048x512.size a ≤ S2048x2048.size a) (k : Fin 2048) (j : Fin 512) (J : Fin 2048) (hJ : J.val = o + j.val) :
    ((View.ld X (Rect.unit (s := S2048x2048) ![0, o] S2048x512.size inb) : Vec Ideal S2048x512 .bf16) (ix2 k j) : EReal) = X (ix2 k J) := by
  refine View.ld_unit_apply_of X _ _ _ _ _ fun d => ?_
  fin_cases d
  · exact (Nat.zero_add _).symm
  · exact hJ

theorem rows_ld (X : Vec Ideal S256x2048 .f32) (o : ℕ) (inb : ∀ a, (![o, 0] : Fin 2 → ℕ) a + S128x2048.size a ≤ S256x2048.size a) (a : Fin 128) (k : Fin 2048) (A : Fin 256) (hA : A.val = o + a.val) :
    ((View.ld X (Rect.unit (s := S256x2048) ![o, 0] S128x2048.size inb) : Vec Ideal S128x2048 .f32) (ix2 a k) : EReal) = X (ix2 A k) := by
  refine View.ld_unit_apply_of X _ _ _ _ _ fun d => ?_
  fin_cases d
  · exact hA
  · exact (Nat.zero_add _).symm

/-! The scratch's rows, once filled. -/

section

variable (i : grid0.Coords) (x1 : Vec Ideal S256x1024 .f32) (x2 : Vec Ideal S16x1024 .f32) (U : FVec Ideal S16384x1024 .f32) (hl : Loaded i x1 x2 U) (a : Fin 256) (r : Fin 16384) (hr : r.val = 256 * (i 0).val + a.val) (j : Fin 1024)
include hl hr

theorem plane_0 (k : ℕ) (hk : k < 16) (ρ : Fin 280) (hρ : ρ.val + k = 24 + a.val) : (View.canon (fourth i x1 x2) (ix3 (0 : Fin 4) ρ j) : EReal) = span U r j k 1 :=
  (fourth_old i x1 x2 0 (by decide) ρ j).trans ((third_old i x1 x2 0 (by decide) ρ j).trans ((second_old i x1 x2 0 (by decide) ρ j).trans (first_sum i x1 x2 U hl a r hr j k hk ρ hρ)))

theorem plane_1 (hj : 256 ≤ j.val) (k : ℕ) (hk : k + 2 ≤ 16) (ρ : Fin 280) (hρ : ρ.val + k = 24 + a.val) : (View.canon (fourth i x1 x2) (ix3 (1 : Fin 4) ρ j) : EReal) = span U r j k 2 :=
  (fourth_old i x1 x2 1 (by decide) ρ j).trans ((third_old i x1 x2 1 (by decide) ρ j).trans (second_sum i x1 x2 U hl a r hr j hj k hk ρ hρ))

theorem plane_2 (hj : 512 ≤ j.val) (k : ℕ) (hk : k + 4 ≤ 16) (ρ : Fin 280) (hρ : ρ.val + k = 24 + a.val) : (View.canon (fourth i x1 x2) (ix3 (2 : Fin 4) ρ j) : EReal) = span U r j k 4 :=
  (fourth_old i x1 x2 2 (by decide) ρ j).trans (third_sum i x1 x2 U hl a r hr j hj k hk ρ hρ)

/-- The block's own row. -/
theorem own_row (ρ : Fin 280) (hρ : ρ.val = 24 + a.val) : (View.canon (fourth i x1 x2) (ix3 (0 : Fin 4) ρ j) : EReal) = U (ix2 r j) := by
  rw [plane_0 i x1 x2 U hl a r hr j 0 (by decide) ρ hρ, span_one]
  unfold back
  rw [if_pos (Nat.zero_le _)]
  rfl

end

section

variable (i : grid0.Coords) (x1 : Vec Ideal S256x1024 .f32) (x2 : Vec Ideal S16x1024 .f32) (x6 : Vec Ideal S4x256x256 .bf16) (x7 : Vec Ideal S1x1024 .f32)
  (U : FVec Ideal S16384x1024 .f32) (PW : FVec Ideal S4x256x256 .f32) (PS : FVec Ideal S1024 .f32) (hl : Loaded i x1 x2 U) (h6 : ∀ z : S4x256x256.Idx, (x6 z : EReal) = PW z) (h7 : ∀ k : Fin 1024, (x7 (ix2 0 k) : EReal) = PS (ix1 k))
  (a : Fin 256) (r : Fin 16384) (hr : r.val = 256 * (i 0).val + a.val)
include hl h6 h7 hr

/-- A group's pooled columns: its rows and its window's, in two loads of the scratch. -/
theorem sum_of (b : Fin 256) (g : Fin 4) (w o n q : ℕ) (hw : w = 2 ^ (g.val + 1)) (ho : o = 256 * g.val) (hn : n = g.val) (hq : q ≤ 24)
    (i0 : ∀ a, (![0, 24, o] : Fin 3 → ℕ) a + S1x256x256.size a ≤ S4x280x1024.size a) (i1 : ∀ a, (![n, 24, o] : Fin 3 → ℕ) a + S1x256x256.size a ≤ S4x280x1024.size a) (i2 : ∀ a, (![n, q, o] : Fin 3 → ℕ) a + S1x256x256.size a ≤ S4x280x1024.size a)
    (i3 : ∀ a, (![n, 0, 0] : Fin 3 → ℕ) a + S1x256x256.size a ≤ S4x256x256.size a) (i4 : ∀ a, (![0, o] : Fin 2 → ℕ) a + S1x256.size a ≤ S1x1024.size a)
    (hs : ∀ x : Fin 256, (View.canon (fourth i x1 x2) (ix3 g (⟨24 + a.val, by omega⟩ : Fin 280) (groupCol g x)) : EReal) + View.canon (fourth i x1 x2) (ix3 g (⟨q + a.val, by omega⟩ : Fin 280) (groupCol g x)) = window U w r (groupCol g x)) :
    poolSum (k0_pay6 i) (BitVec.ofNat 32 w) (View.ld (View.canon (fourth i x1 x2)) (Rect.unit (s := S4x280x1024) ![0, 24, o] S1x256x256.size i0)) (View.ld (View.canon (fourth i x1 x2)) (Rect.unit (s := S4x280x1024) ![n, 24, o] S1x256x256.size i1))
      (View.ld (View.canon (fourth i x1 x2)) (Rect.unit (s := S4x280x1024) ![n, q, o] S1x256x256.size i2)) (View.ld x6 (Rect.unit (s := S4x256x256) ![n, 0, 0] S1x256x256.size i3)) (View.ld x7 (Rect.unit (s := S1x1024) ![0, o] S1x256.size i4)) a b
      = pooled U PW PS g r b := by
  have hc : ∀ x : Fin 256, (groupCol g x).val = o + x.val := fun x => by rw [ho]; rfl
  refine poolSum_at i _ _ _ _ _ a b U PW PS r hr g w hw (fun x => ?_) (fun x => ?_) (fun x => ?_) ?_
  · refine (scratch_ld _ 0 24 o i0 a x 0 ⟨24 + a.val, by omega⟩ (groupCol g x) rfl rfl (hc x)).trans ?_
    exact own_row i x1 x2 U hl a r hr _ _ rfl
  · refine Eq.trans (congrArg₂ (fun a b : EReal => a + b) (scratch_ld _ n 24 o i1 a x g ⟨24 + a.val, by omega⟩ (groupCol g x) hn.symm rfl (hc x)) (scratch_ld _ n q o i2 a x g ⟨q + a.val, by omega⟩ (groupCol g x) hn.symm rfl (hc x))) (hs x)
  · exact (weight_ld x6 n i3 x b g hn.symm).trans (h6 _)
  · exact (scale_ld x7 o i4 b (groupCol g b) (hc b)).trans (h7 _)

theorem group0_at (b : Fin 256) : (group0 i x1 x2 x6 x7 (ix2 a b) : EReal) = pooled U PW PS 0 r b := by
  unfold group0
  refine (pay_0 (k0_pay6 i) _ _ _ _ _ a b).trans ?_
  refine sum_of i x1 x2 x6 x7 U PW PS hl h6 h7 a r hr b 0 2 0 0 23 rfl rfl rfl (by decide) _ _ _ _ _ fun x => ?_
  rw [plane_0 i x1 x2 U hl a r hr _ 0 (by decide) _ rfl, plane_0 i x1 x2 U hl a r hr _ 1 (by decide) _ (by show 23 + a.val + 1 = 24 + a.val; omega)]
  exact (span_add U r _ 0 1 1).trans (span_window U r _ 2)

theorem group1_at (b : Fin 256) : (group1 i x1 x2 x6 x7 (ix2 a b) : EReal) = pooled U PW PS 1 r b := by
  unfold group1
  refine (pay_1 (k0_pay6 i) _ _ _ _ _ a b).trans ?_
  refine sum_of i x1 x2 x6 x7 U PW PS hl h6 h7 a r hr b 1 4 256 1 22 rfl rfl rfl (by decide) _ _ _ _ _ fun x => ?_
  have hj : 256 ≤ (groupCol 1 x).val := by show 256 ≤ 256 * 1 + x.val; omega
  rw [plane_1 i x1 x2 U hl a r hr _ hj 0 (by decide) _ rfl, plane_1 i x1 x2 U hl a r hr _ hj 2 (by decide) _ (by show 22 + a.val + 2 = 24 + a.val; omega)]
  exact (span_add U r _ 0 2 2).trans (span_window U r _ 4)

theorem group2_at (b : Fin 256) : (group2 i x1 x2 x6 x7 (ix2 a b) : EReal) = pooled U PW PS 2 r b := by
  unfold group2
  refine (pay_2 (k0_pay6 i) _ _ _ _ _ a b).trans ?_
  refine sum_of i x1 x2 x6 x7 U PW PS hl h6 h7 a r hr b 2 8 512 2 20 rfl rfl rfl (by decide) _ _ _ _ _ fun x => ?_
  have hj : 512 ≤ (groupCol 2 x).val := by show 512 ≤ 256 * 2 + x.val; omega
  rw [plane_2 i x1 x2 U hl a r hr _ hj 0 (by decide) _ rfl, plane_2 i x1 x2 U hl a r hr _ hj 4 (by decide) _ (by show 20 + a.val + 4 = 24 + a.val; omega)]
  exact (span_add U r _ 0 4 4).trans (span_window U r _ 8)

theorem group3_at (b : Fin 256) :
    poolSum (k0_pay6 i) 16#32 (View.ld (View.canon (fourth i x1 x2)) (Rect.unit (s := S4x280x1024) ![0, 24, 768] S1x256x256.size inb_S4x280x1024_S1x256x256_0_24_768)) (View.ld (View.canon (fourth i x1 x2)) (Rect.unit (s := S4x280x1024) ![3, 24, 768] S1x256x256.size inb_S4x280x1024_S1x256x256_3_24_768))
      (View.ld (View.canon (fourth i x1 x2)) (Rect.unit (s := S4x280x1024) ![3, 16, 768] S1x256x256.size inb_S4x280x1024_S1x256x256_3_16_768)) (View.ld x6 (Rect.unit (s := S4x256x256) ![3, 0, 0] S1x256x256.size inb_S4x256x256_S1x256x256_3_0_0)) (View.ld x7 (Rect.unit (s := S1x1024) ![0, 768] S1x256.size inb_S1x1024_S1x256_0_768)) a b
      = pooled U PW PS 3 r b := by
  refine sum_of i x1 x2 x6 x7 U PW PS hl h6 h7 a r hr b 3 16 768 3 16 rfl rfl rfl (by decide) _ _ _ _ _ fun x => ?_
  have hj : 768 ≤ (groupCol 3 x).val := by show 768 ≤ 256 * 3 + x.val; omega
  rw [fourth_sum i x1 x2 U hl a r hr _ hj 0 (by decide) _ rfl, fourth_sum i x1 x2 U hl a r hr _ hj 8 (by decide) _ (by show 16 + a.val + 8 = 24 + a.val; omega)]
  exact (span_add U r _ 0 8 8).trans (span_window U r _ 16)

end

/-- A column of the block's heads. -/
theorem joined_at (x0 : Vec Ideal S8x256x128 .bf16) (a : Fin 256) (k : Fin 1024) :
    (joined x0 (ix2 a k) : EReal) = x0 (ix3 (⟨k.val / 128, by omega⟩ : Fin 8) a (⟨k.val % 128, Nat.mod_lt _ (by decide)⟩ : Fin 128)) := by
  generalize hR : (x0 (ix3 (⟨k.val / 128, by omega⟩ : Fin 8) a (⟨k.val % 128, Nat.mod_lt _ (by decide)⟩ : Fin 128)) : EReal) = R
  unfold joined
  pointwise [k0_pay7]
  rw [← hR]
  have hk : k.val < 1024 := k.isLt
  split_ifs
  all_goals exact congrArg₂ (fun (h : Fin 8) (l : Fin 128) => (x0 (ix3 h a l) : EReal)) (Fin.ext (by simp <;> omega)) (Fin.ext (by simp <;> omega))

/-- The gated sum of a grid point. -/
theorem gated_at (i : grid0.Coords) (x0 : Vec Ideal S8x256x128 .bf16) (x1 : Vec Ideal S256x1024 .f32) (x2 : Vec Ideal S16x1024 .f32) (x3 x4 : Vec Ideal S256x2048 .f32) (x6 : Vec Ideal S4x256x256 .bf16) (x7 : Vec Ideal S1x1024 .f32) (x8 x9 : Vec Ideal S1024x2048 .bf16)
    (U : FVec Ideal S16384x1024 .f32) (PW : FVec Ideal S4x256x256 .f32) (PS : FVec Ideal S1024 .f32) (hl : Loaded i x1 x2 U) (h6 : ∀ z : S4x256x256.Idx, (x6 z : EReal) = PW z) (h7 : ∀ k : Fin 1024, (x7 (ix2 0 k) : EReal) = PS (ix1 k))
    (a : Fin 256) (r : Fin 16384) (hr : r.val = 256 * (i 0).val + a.val) (q : Fin 2048) :
    (gated i x0 x1 x2 x3 x4 x6 x7 x8 x9 (ix2 a q) : EReal)
      = x3 (ix2 a q) * (∑ k : Fin 1024, (joined x0 (ix2 a k) : EReal) * x8 (ix2 k q)) + x4 (ix2 a q) * ∑ k : Fin 1024, pool U PW PS r k * x9 (ix2 k q) := by
  unfold gated
  refine gate_at (k0_pay6 i) _ _ _ _ _ _ _ _ _ _ _ _ _ _ _ a q (fun q => ∑ k : Fin 1024, (joined x0 (ix2 a k) : EReal) * x8 (ix2 k q)) (fun x => pool U PW PS r x) (fun j => ?_) (fun j => ?_) (fun j => ?_) (fun j => ?_) (fun b => ?_) (fun b => ?_) (fun b => ?_) (fun b => ?_)
  · refine Eq.trans (chunk_at (joined x0) _ a j) (Finset.sum_congr rfl fun k _ => congrArg (fun b : EReal => _ * b) ?_)
    exact branch_ld x8 0 _ k j _ rfl
  · refine Eq.trans (chunk_at (joined x0) _ a j) (Finset.sum_congr rfl fun k _ => congrArg (fun b : EReal => _ * b) ?_)
    exact branch_ld x8 512 _ k j _ rfl
  · refine Eq.trans (chunk_at (joined x0) _ a j) (Finset.sum_congr rfl fun k _ => congrArg (fun b : EReal => _ * b) ?_)
    exact branch_ld x8 1024 _ k j _ rfl
  · refine Eq.trans (chunk_at (joined x0) _ a j) (Finset.sum_congr rfl fun k _ => congrArg (fun b : EReal => _ * b) ?_)
    exact branch_ld x8 1536 _ k j _ rfl
  · exact (group0_at i x1 x2 x6 x7 U PW PS hl h6 h7 a r hr b).trans (pool_group U PW PS r 0 b).symm
  · exact (group1_at i x1 x2 x6 x7 U PW PS hl h6 h7 a r hr b).trans (pool_group U PW PS r 1 b).symm
  · exact (group2_at i x1 x2 x6 x7 U PW PS hl h6 h7 a r hr b).trans (pool_group U PW PS r 2 b).symm
  · exact (group3_at i x1 x2 x6 x7 U PW PS hl h6 h7 a r hr b).trans (pool_group U PW PS r 3 b).symm

/-- A grid point's row before the layer norm's last scale and shift. -/
def rowOf (v : FVec Ideal S256x2048 .bf16) (x5 : Vec Ideal S256x2048 .f32) (x10 : Vec Ideal S2048x2048 .bf16) (A : Fin 256) (k : Fin 2048) : EReal :=
  Ideal.ofBits .f32 0x3FB504F3#32 * (x5 (ix2 A k) : EReal) + ∑ q : Fin 2048, (v (ix2 A q) : EReal) * x10 (ix2 q k)

theorem upper_at (v : FVec Ideal S256x2048 .bf16) (x5 : Vec Ideal S256x2048 .f32) (x10 : Vec Ideal S2048x2048 .bf16) (x11 : Vec Ideal S1x2048 .f32) (a : Fin 128) (b : Fin 2048) (A : Fin 256) (hA : A.val = a.val) :
    (upper v x5 x10 x11 (ix2 a b) : EReal) = normed (rowOf v x5 x10 A) b * x11 (ix2 0 b) := by
  have eA : (⟨a.val, by omega⟩ : Fin 256) = A := Fin.ext hA.symm
  unfold upper
  refine (top_at v _ x10 x11 a b).trans ?_
  refine congrArg (fun f => normed f b * (x11 (ix2 0 b) : EReal)) (funext fun k => ?_)
  unfold rowOf
  rw [eA, rows_ld x5 0 _ a k A (hA.trans (Nat.zero_add _).symm)]

theorem lower_at (v : FVec Ideal S256x2048 .bf16) (x5 : Vec Ideal S256x2048 .f32) (x10 : Vec Ideal S2048x2048 .bf16) (x11 : Vec Ideal S1x2048 .f32) (a : Fin 128) (b : Fin 2048) (A : Fin 256) (hA : A.val = 128 + a.val) :
    (lower v x5 x10 x11 (ix2 a b) : EReal) = normed (rowOf v x5 x10 A) b * x11 (ix2 0 b) := by
  have eA : (⟨128 + a.val, by omega⟩ : Fin 256) = A := Fin.ext hA.symm
  unfold lower
  refine (bottom_at v _ _ _ _ _ x11 a b (fun k => ∑ q : Fin 2048, (v (ix2 A q) : EReal) * x10 (ix2 q k)) (fun j => ?_) (fun j => ?_) (fun j => ?_) (fun j => ?_)).trans ?_
  · refine Eq.trans (half_at v _ a j) (Finset.sum_congr rfl fun k _ => congrArg₂ (fun a b : EReal => a * b) (by rw [eA]) ?_)
    exact out_ld x10 0 _ k j _ rfl
  · refine Eq.trans (half_at v _ a j) (Finset.sum_congr rfl fun k _ => congrArg₂ (fun a b : EReal => a * b) (by rw [eA]) ?_)
    exact out_ld x10 512 _ k j _ rfl
  · refine Eq.trans (half_at v _ a j) (Finset.sum_congr rfl fun k _ => congrArg₂ (fun a b : EReal => a * b) (by rw [eA]) ?_)
    exact out_ld x10 1024 _ k j _ rfl
  · refine Finset.sum_congr rfl fun k _ => congrArg₂ (fun a b : EReal => a * b) (by rw [eA]) ?_
    exact out_ld x10 1536 _ k j _ rfl
  · refine congrArg (fun f => normed f b * (x11 (ix2 0 b) : EReal)) (funext fun k => ?_)
    unfold rowOf
    rw [rows_ld x5 128 _ a k A hA]

/-- The first result's block, -/
theorem block_13 (v : FVec Ideal S256x2048 .bf16) (x5 : Vec Ideal S256x2048 .f32) (x10 : Vec Ideal S2048x2048 .bf16) (x11 x12 : Vec Ideal S1x2048 .f32) (y : S256x2048.Idx) :
    (View.canon ([⟨Rect.unit (s := S256x2048) ![128, 0] S128x2048.size inb_S256x2048_S128x2048_128_0, k0_pay1 (k0_pay29 x12) (lower v x5 x10 x11)⟩,
          ⟨Rect.unit (s := S256x2048) ![0, 0] S128x2048.size inb_S256x2048_S128x2048_0_0, k0_pay27 (upper v x5 x10 x11) x12⟩] : List (View.Piece (Elt Ideal) S256x2048 .f32)) y : EReal)
      = normed (rowOf v x5 x10 (y 0)) (y 1) * x11 (ix2 0 (y 1)) + x12 (ix2 0 (y 1)) := by
  canon_tiles x h
  · obtain ⟨a, b, rfl⟩ : ∃ (a : Fin 128) (b : Fin 2048), x = ix2 a b := ⟨x 0, x 1, funext fun q => by fin_cases q <;> rfl⟩
    have e1 : y 1 = b := Fin.ext h1
    rw [e1]
    exact (shift_bottom _ x12 a b).trans (congrArg (fun c : EReal => c + _) (lower_at v x5 x10 x11 a b (y 0) h0))
  · obtain ⟨a, b, rfl⟩ : ∃ (a : Fin 128) (b : Fin 2048), x = ix2 a b := ⟨x 0, x 1, funext fun q => by fin_cases q <;> rfl⟩
    have e1 : y 1 = b := Fin.ext h1
    rw [e1]
    exact (shift_top _ x12 a b).trans (congrArg (fun c : EReal => c + _) (upper_at v x5 x10 x11 a b (y 0) h0))

/-- and the second's. -/
theorem block_14 (v : FVec Ideal S256x2048 .bf16) (x5 : Vec Ideal S256x2048 .f32) (x10 : Vec Ideal S2048x2048 .bf16) (x11 x12 : Vec Ideal S1x2048 .f32) (y : S256x2048.Idx) :
    (View.canon ([⟨Rect.unit (s := S256x2048) ![128, 0] S128x2048.size inb_S256x2048_S128x2048_128_0, k0_pay2 (k0_pay29 x12) (lower v x5 x10 x11)⟩,
          ⟨Rect.unit (s := S256x2048) ![0, 0] S128x2048.size inb_S256x2048_S128x2048_0_0, k0_pay28 (upper v x5 x10 x11) x12⟩] : List (View.Piece (Elt Ideal) S256x2048 .bf16)) y : EReal)
      = normed (rowOf v x5 x10 (y 0)) (y 1) * x11 (ix2 0 (y 1)) + x12 (ix2 0 (y 1)) := by
  canon_tiles x h
  · obtain ⟨a, b, rfl⟩ : ∃ (a : Fin 128) (b : Fin 2048), x = ix2 a b := ⟨x 0, x 1, funext fun q => by fin_cases q <;> rfl⟩
    have e1 : y 1 = b := Fin.ext h1
    rw [e1]
    exact (short_bottom _ x12 a b).trans (congrArg (fun c : EReal => c + _) (lower_at v x5 x10 x11 a b (y 0) h0))
  · obtain ⟨a, b, rfl⟩ : ∃ (a : Fin 128) (b : Fin 2048), x = ix2 a b := ⟨x 0, x 1, funext fun q => by fin_cases q <;> rfl⟩
    have e1 : y 1 = b := Fin.ext h1
    rw [e1]
    exact (short_top _ x12 a b).trans (congrArg (fun c : EReal => c + _) (upper_at v x5 x10 x11 a b (y 0) h0))

end Cert.MixerTail

end
-- ==== Proof.TailArrays.lean ====
module

public import proofs.«01_k».proof.Proof.TailRows

/-! The arrays of the mixer's tail: each grid point's blocks are the arguments' rows, and its results theirs. -/

@[expose] public section

set_option maxRecDepth 16384

noncomputable section

namespace Cert.MixerTail

open Cert.TailIdeal Cert.TailIdeal.Gen
open Cert.DenseFfn (mean normed)
open Idealize.ShloMosaic Idealize.ShloMosaic.TcCoe Idealize.ShloMosaic.Tactic
open Idealize.SL Idealize.SL.Sem
open Idealize.ShloMosaic.Pipeline (Dat)

/-- A grid point's row, from what its blocks hold. -/
theorem point_at (i : grid0.Coords) (x0 : Vec Ideal S8x256x128 .bf16) (x1 : Vec Ideal S256x1024 .f32) (x2 : Vec Ideal S16x1024 .f32) (x3 x4 x5 : Vec Ideal S256x2048 .f32) (x6 : Vec Ideal S4x256x256 .bf16) (x7 : Vec Ideal S1x1024 .f32) (x8 x9 : Vec Ideal S1024x2048 .bf16) (x10 : Vec Ideal S2048x2048 .bf16) (x11 x12 : Vec Ideal S1x2048 .f32)
    (A : FVec Ideal S8x16384x128 .f32) (U : FVec Ideal S16384x1024 .f32) (G : FVec Ideal S16384x4096 .f32) (X : FVec Ideal S16384x2048 .f32) (PW : FVec Ideal S4x256x256 .f32) (PS : FVec Ideal S1024 .f32)
    (WA WB : FVec Ideal S1024x2048 .f32) (WO : FVec Ideal S2048x2048 .f32) (P Q : FVec Ideal S2048 .f32)
    (a : Fin 256) (r : Fin 16384) (hr : r.val = 256 * (i 0).val + a.val) (j : Fin 2048)
    (h0 : ∀ (h : Fin 8) (l : Fin 128), (x0 (ix3 h a l) : EReal) = A (ix3 h r l)) (hl : Loaded i x1 x2 U)
    (h3 : ∀ q : Fin 2048, (x3 (ix2 a q) : EReal) = G (ix2 r ⟨q.val, by omega⟩)) (h4 : ∀ q : Fin 2048, (x4 (ix2 a q) : EReal) = G (ix2 r ⟨2048 + q.val, by omega⟩))
    (h5 : ∀ q : Fin 2048, (x5 (ix2 a q) : EReal) = X (ix2 r q)) (h6 : ∀ z : S4x256x256.Idx, (x6 z : EReal) = PW z) (h7 : ∀ k : Fin 1024, (x7 (ix2 0 k) : EReal) = PS (ix1 k))
    (h8 : ∀ z : S1024x2048.Idx, (x8 z : EReal) = WA z) (h9 : ∀ z : S1024x2048.Idx, (x9 z : EReal) = WB z) (h10 : ∀ z : S2048x2048.Idx, (x10 z : EReal) = WO z)
    (h11 : (x11 (ix2 0 j) : EReal) = P (ix1 j)) (h12 : (x12 (ix2 0 j) : EReal) = Q (ix1 j)) :
    normed (rowOf (gated i x0 x1 x2 x3 x4 x6 x7 x8 x9) x5 x10 a) j * (x11 (ix2 0 j) : EReal) + x12 (ix2 0 j) = result A U G X PW PS WA WB WO P Q (ix2 r j) := by
  have e : rowOf (gated i x0 x1 x2 x3 x4 x6 x7 x8 x9) x5 x10 a = mixed A U G X PW PS WA WB WO r := funext fun k => by
    unfold rowOf mixed
    refine congrArg₂ (fun a b : EReal => _ * a + b) (h5 k) (Finset.sum_congr rfl fun q _ => congrArg₂ (fun a b : EReal => a * b) ?_ (h10 _))
    refine (gated_at i x0 x1 x2 x3 x4 x6 x7 x8 x9 U PW PS hl h6 h7 a r hr q).trans ?_
    unfold merged head
    simp only [joined_at, h0, h3, h4, h8, h9]
  rw [e, h11, h12]
  rfl

variable (m : (ℓ : Loc nD τ sig) → Buf (Elt Ideal) ℓ)

theorem point_of (t : Fin grid0.N) : (grid0.coords t 0).val = t.val := by
  have ht : t.val < 64 := Nat.lt_of_lt_of_eq t.isLt N_0
  have e : (grid0.coords t 0).val = t.val / 1 % 64 := Pipeline.Grid.coords_val t 0 (by decide) rfl
  rw [e]; omega

theorem row_word (t : Fin grid0.N) : (BitVec.ofNat 32 (grid0.coords t 0).val).toNat = t.val := by
  have ht : t.val < 64 := Nat.lt_of_lt_of_eq t.isLt N_0
  rw [point_of, BitVec.toNat_ofNat]; omega

theorem before_word : ∀ n : Fin 64, (Scalar.maxsi (Scalar.subi (Scalar.muli (BitVec.ofNat 32 n.val) 16#32) 1#32) 0#32).toNat = 16 * n.val - 1 := by
  decide

theorem halo_word (t : Fin grid0.N) : (Scalar.maxsi (Scalar.subi (Scalar.muli (BitVec.ofNat 32 (grid0.coords t 0).val) 16#32) 1#32) 0#32).toNat = 16 * t.val - 1 := by
  rw [before_word (grid0.coords t 0), point_of]

theorem place_0 (t : Fin grid0.N) : (cfg0.win 0).index t = ![0, t.val, 0] := congrArg (fun n : ℕ => (![0, n, 0] : Fin 3 → ℕ)) (row_word t)
theorem read_0 (c : Dev nD) (t : Fin grid0.N) (y : S8x256x128.Idx) (z : S8x16384x128.Idx) (h0 : (z 0).val = (y 0).val) (h1 : (z 1).val = t.val * 256 + (y 1).val) (h2 : (z 2).val = (y 2).val) :
    (iblk m c 0 t : Vec Ideal S8x256x128 .bf16) y = (V m c main_v0 : S8x16384x128.Idx → EReal) z := by
  refine congrArg (V m c main_v0) (funext fun q => Fin.ext ?_)
  refine (Pipeline.Window.rect_emb_val (cfg0.win 0) t y q).trans ?_
  rw [place_0]
  fin_cases q
  · exact (Nat.zero_add _).trans h0.symm
  · exact h1.symm
  · exact (Nat.zero_add _).trans h2.symm

theorem place_1 (t : Fin grid0.N) : (cfg0.win 1).index t = ![t.val, 0] := congrArg (fun n : ℕ => (![n, 0] : Fin 2 → ℕ)) (row_word t)
theorem read_1 (c : Dev nD) (t : Fin grid0.N) (y : S256x1024.Idx) (z : S16384x1024.Idx) (h0 : (z 0).val = t.val * 256 + (y 0).val) (h1 : (z 1).val = (y 1).val) :
    (iblk m c 1 t : Vec Ideal S256x1024 .f32) y = (V m c main_arg1 : S16384x1024.Idx → EReal) z := by
  refine congrArg (V m c main_arg1) (funext fun q => Fin.ext ?_)
  refine (Pipeline.Window.rect_emb_val (cfg0.win 1) t y q).trans ?_
  rw [place_1]
  fin_cases q
  · exact h0.symm
  · exact (Nat.zero_add _).trans h1.symm

theorem place_2 (t : Fin grid0.N) : (cfg0.win 2).index t = ![16 * t.val - 1, 0] := congrArg (fun n : ℕ => (![n, 0] : Fin 2 → ℕ)) (halo_word t)
theorem read_2 (c : Dev nD) (t : Fin grid0.N) (y : S16x1024.Idx) (z : S16384x1024.Idx) (h0 : (z 0).val = (16 * t.val - 1) * 16 + (y 0).val) (h1 : (z 1).val = (y 1).val) :
    (iblk m c 2 t : Vec Ideal S16x1024 .f32) y = (V m c main_arg1 : S16384x1024.Idx → EReal) z := by
  refine congrArg (V m c main_arg1) (funext fun q => Fin.ext ?_)
  refine (Pipeline.Window.rect_emb_val (cfg0.win 2) t y q).trans ?_
  rw [place_2]
  fin_cases q
  · exact h0.symm
  · exact (Nat.zero_add _).trans h1.symm

theorem place_3 (t : Fin grid0.N) : (cfg0.win 3).index t = ![t.val, 0] := congrArg (fun n : ℕ => (![n, 0] : Fin 2 → ℕ)) (row_word t)
theorem read_3 (c : Dev nD) (t : Fin grid0.N) (y : S256x2048.Idx) (z : S16384x4096.Idx) (h0 : (z 0).val = t.val * 256 + (y 0).val) (h1 : (z 1).val = (y 1).val) :
    (iblk m c 3 t : Vec Ideal S256x2048 .f32) y = (V m c main_arg2 : S16384x4096.Idx → EReal) z := by
  refine congrArg (V m c main_arg2) (funext fun q => Fin.ext ?_)
  refine (Pipeline.Window.rect_emb_val (cfg0.win 3) t y q).trans ?_
  rw [place_3]
  fin_cases q
  · exact h0.symm
  · exact (Nat.zero_add _).trans h1.symm

theorem place_4 (t : Fin grid0.N) : (cfg0.win 4).index t = ![t.val, 1] := congrArg (fun n : ℕ => (![n, 1] : Fin 2 → ℕ)) (row_word t)
theorem read_4 (c : Dev nD) (t : Fin grid0.N) (y : S256x2048.Idx) (z : S16384x4096.Idx) (h0 : (z 0).val = t.val * 256 + (y 0).val) (h1 : (z 1).val = 1 * 2048 + (y 1).val) :
    (iblk m c 4 t : Vec Ideal S256x2048 .f32) y = (V m c main_arg2 : S16384x4096.Idx → EReal) z := by
  refine congrArg (V m c main_arg2) (funext fun q => Fin.ext ?_)
  refine (Pipeline.Window.rect_emb_val (cfg0.win 4) t y q).trans ?_
  rw [place_4]
  fin_cases q
  · exact h0.symm
  · exact h1.symm

theorem place_5 (t : Fin grid0.N) : (cfg0.win 5).index t = ![t.val, 0] := congrArg (fun n : ℕ => (![n, 0] : Fin 2 → ℕ)) (row_word t)
theorem read_5 (c : Dev nD) (t : Fin grid0.N) (y : S256x2048.Idx) (z : S16384x2048.Idx) (h0 : (z 0).val = t.val * 256 + (y 0).val) (h1 : (z 1).val = (y 1).val) :
    (iblk m c 5 t : Vec Ideal S256x2048 .f32) y = (V m c main_arg3 : S16384x2048.Idx → EReal) z := by
  refine congrArg (V m c main_arg3) (funext fun q => Fin.ext ?_)
  refine (Pipeline.Window.rect_emb_val (cfg0.win 5) t y q).trans ?_
  rw [place_5]
  fin_cases q
  · exact h0.symm
  · exact (Nat.zero_add _).trans h1.symm

theorem place_6 (t : Fin grid0.N) : (cfg0.win 6).index t = ![0, 0, 0] := rfl
theorem read_6 (c : Dev nD) (t : Fin grid0.N) (y : S4x256x256.Idx) : (iblk m c 6 t : Vec Ideal S4x256x256 .bf16) y = (V m c main_v1 : S4x256x256.Idx → EReal) y := by
  refine congrArg (V m c main_v1) (funext fun q => Fin.ext ?_)
  refine (Pipeline.Window.rect_emb_val (cfg0.win 6) t y q).trans ?_
  rw [place_6]
  fin_cases q <;> exact Nat.zero_add _

theorem place_7 (t : Fin grid0.N) : (cfg0.win 7).index t = ![0, 0] := rfl
theorem read_7 (c : Dev nD) (t : Fin grid0.N) (y : S1x1024.Idx) : (iblk m c 7 t : Vec Ideal S1x1024 .f32) y = (V m c main_v5 : S1x1024.Idx → EReal) y := by
  refine congrArg (V m c main_v5) (funext fun q => Fin.ext ?_)
  refine (Pipeline.Window.rect_emb_val (cfg0.win 7) t y q).trans ?_
  rw [place_7]
  fin_cases q <;> exact Nat.zero_add _

theorem place_8 (t : Fin grid0.N) : (cfg0.win 8).index t = ![0, 0] := rfl
theorem read_8 (c : Dev nD) (t : Fin grid0.N) (y : S1024x2048.Idx) : (iblk m c 8 t : Vec Ideal S1024x2048 .bf16) y = (V m c main_v2 : S1024x2048.Idx → EReal) y := by
  refine congrArg (V m c main_v2) (funext fun q => Fin.ext ?_)
  refine (Pipeline.Window.rect_emb_val (cfg0.win 8) t y q).trans ?_
  rw [place_8]
  fin_cases q <;> exact Nat.zero_add _

theorem place_9 (t : Fin grid0.N) : (cfg0.win 9).index t = ![0, 0] := rfl
theorem read_9 (c : Dev nD) (t : Fin grid0.N) (y : S1024x2048.Idx) : (iblk m c 9 t : Vec Ideal S1024x2048 .bf16) y = (V m c main_v3 : S1024x2048.Idx → EReal) y := by
  refine congrArg (V m c main_v3) (funext fun q => Fin.ext ?_)
  refine (Pipeline.Window.rect_emb_val (cfg0.win 9) t y q).trans ?_
  rw [place_9]
  fin_cases q <;> exact Nat.zero_add _

theorem place_10 (t : Fin grid0.N) : (cfg0.win 10).index t = ![0, 0] := rfl
theorem read_10 (c : Dev nD) (t : Fin grid0.N) (y : S2048x2048.Idx) : (iblk m c 10 t : Vec Ideal S2048x2048 .bf16) y = (V m c main_v4 : S2048x2048.Idx → EReal) y := by
  refine congrArg (V m c main_v4) (funext fun q => Fin.ext ?_)
  refine (Pipeline.Window.rect_emb_val (cfg0.win 10) t y q).trans ?_
  rw [place_10]
  fin_cases q <;> exact Nat.zero_add _

theorem place_11 (t : Fin grid0.N) : (cfg0.win 11).index t = ![0, 0] := rfl
theorem read_11 (c : Dev nD) (t : Fin grid0.N) (y : S1x2048.Idx) : (iblk m c 11 t : Vec Ideal S1x2048 .f32) y = (V m c main_v6 : S1x2048.Idx → EReal) y := by
  refine congrArg (V m c main_v6) (funext fun q => Fin.ext ?_)
  refine (Pipeline.Window.rect_emb_val (cfg0.win 11) t y q).trans ?_
  rw [place_11]
  fin_cases q <;> exact Nat.zero_add _

theorem place_12 (t : Fin grid0.N) : (cfg0.win 12).index t = ![0, 0] := rfl
theorem read_12 (c : Dev nD) (t : Fin grid0.N) (y : S1x2048.Idx) : (iblk m c 12 t : Vec Ideal S1x2048 .f32) y = (V m c main_v7 : S1x2048.Idx → EReal) y := by
  refine congrArg (V m c main_v7) (funext fun q => Fin.ext ?_)
  refine (Pipeline.Window.rect_emb_val (cfg0.win 12) t y q).trans ?_
  rw [place_12]
  fin_cases q <;> exact Nat.zero_add _

/-- The arrays the launch receives are the arguments. -/
theorem V_heads (c : Dev nD) (z : S8x16384x128.Idx) : (V m c main_v0 z : EReal) = m ((c : Thread nD τ).loc main_arg0) z := by
  have e : V m c main_v0 = truncf .bf16 (show FVec Ideal S8x16384x128 .f32 from m ((c : Thread nD τ).loc main_arg0)) bitsLt_bf16_f32 := by unfold V; after_reads_simp
  rw [e]; rfl
theorem V_pw (c : Dev nD) (z : S4x256x256.Idx) : (V m c main_v1 z : EReal) = m ((c : Thread nD τ).loc main_arg4) z := by
  have e : V m c main_v1 = truncf .bf16 (show FVec Ideal S4x256x256 .f32 from m ((c : Thread nD τ).loc main_arg4)) bitsLt_bf16_f32 := by unfold V; after_reads_simp
  rw [e]; rfl
theorem V_wa (c : Dev nD) (z : S1024x2048.Idx) : (V m c main_v2 z : EReal) = m ((c : Thread nD τ).loc main_arg6) z := by
  have e : V m c main_v2 = truncf .bf16 (show FVec Ideal S1024x2048 .f32 from m ((c : Thread nD τ).loc main_arg6)) bitsLt_bf16_f32 := by unfold V; after_reads_simp
  rw [e]; rfl
theorem V_wb (c : Dev nD) (z : S1024x2048.Idx) : (V m c main_v3 z : EReal) = m ((c : Thread nD τ).loc main_arg7) z := by
  have e : V m c main_v3 = truncf .bf16 (show FVec Ideal S1024x2048 .f32 from m ((c : Thread nD τ).loc main_arg7)) bitsLt_bf16_f32 := by unfold V; after_reads_simp
  rw [e]; rfl
theorem V_wo (c : Dev nD) (z : S2048x2048.Idx) : (V m c main_v4 z : EReal) = m ((c : Thread nD τ).loc main_arg8) z := by
  have e : V m c main_v4 = truncf .bf16 (show FVec Ideal S2048x2048 .f32 from m ((c : Thread nD τ).loc main_arg8)) bitsLt_bf16_f32 := by unfold V; after_reads_simp
  rw [e]; rfl
theorem V_ps (c : Dev nD) (j : Fin 1024) : (V m c main_v5 (ix2 0 j) : EReal) = m ((c : Thread nD τ).loc main_arg5) (ix1 j) := by
  have e : V m c main_v5 = shapeCast S1x1024 (m ((c : Thread nD τ).loc main_arg5)) shapeCasts_S1024_S1x1024 := by unfold V; after_reads_simp; rfl
  rw [e]; pointwise
theorem V_p (c : Dev nD) (j : Fin 2048) : (V m c main_v6 (ix2 0 j) : EReal) = m ((c : Thread nD τ).loc main_arg9) (ix1 j) := by
  have e : V m c main_v6 = shapeCast S1x2048 (m ((c : Thread nD τ).loc main_arg9)) shapeCasts_S2048_S1x2048 := by unfold V; after_reads_simp; rfl
  rw [e]; pointwise
theorem V_q (c : Dev nD) (j : Fin 2048) : (V m c main_v7 (ix2 0 j) : EReal) = m ((c : Thread nD τ).loc main_arg10) (ix1 j) := by
  have e : V m c main_v7 = shapeCast S1x2048 (m ((c : Thread nD τ).loc main_arg10)) shapeCasts_S2048_S1x2048 := by unfold V; after_reads_simp; rfl
  rw [e]; pointwise

theorem loaded (c : Dev nD) (t : Fin grid0.N) : Loaded (grid0.coords t) (iblk m c 1 t) (iblk m c 2 t) (m ((c : Thread nD τ).loc main_arg1)) := by
  have e := point_of t
  refine ⟨fun a j r hr => ?_, fun hn b j r hr => ?_⟩
  · exact (read_1 m c t (ix2 a j) (ix2 r j) (by show r.val = t.val * 256 + a.val; omega) rfl).trans (congrFun (V_main_arg1 m c) _)
  · exact (read_2 m c t (ix2 b j) (ix2 r j) (by show r.val = (16 * t.val - 1) * 16 + b.val; omega) rfl).trans (congrFun (V_main_arg1 m c) _)

/-- A grid point's row is the result's. -/
theorem rows_at (c : Dev nD) (t : Fin grid0.N) (y : S256x2048.Idx) (i : S16384x2048.Idx) (h0 : (i 0).val = t.val * 256 + (y 0).val) (h1 : (i 1).val = (y 1).val) :
    normed (rowOf (gated (grid0.coords t) (iblk m c 0 t) (iblk m c 1 t) (iblk m c 2 t) (iblk m c 3 t) (iblk m c 4 t) (iblk m c 6 t) (iblk m c 7 t) (iblk m c 8 t) (iblk m c 9 t)) (iblk m c 5 t) (iblk m c 10 t) (y 0)) (y 1) * ((iblk m c 11 t : Vec Ideal S1x2048 .f32) (ix2 0 (y 1)) : EReal) + (iblk m c 12 t : Vec Ideal S1x2048 .f32) (ix2 0 (y 1))
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i := by
  obtain ⟨r, j, rfl⟩ : ∃ (r : Fin 16384) (j : Fin 2048), i = ix2 r j := ⟨i 0, i 1, funext fun q => by fin_cases q <;> rfl⟩
  have e1 : y 1 = j := Fin.ext h1.symm
  have e := point_of t
  have hr : r.val = t.val * 256 + (y 0).val := h0
  rw [e1]
  refine point_at (grid0.coords t) _ _ _ _ _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) r ?_ j (fun h l => ?_) (loaded m c t) (fun q => ?_) (fun q => ?_) (fun q => ?_) (fun z => ?_) (fun k => ?_) (fun z => ?_) (fun z => ?_) (fun z => ?_) ?_ ?_
  · rw [e]; omega
  · exact (read_0 m c t (ix3 h (y 0) l) (ix3 h r l) rfl hr rfl).trans (V_heads m c _)
  · exact (read_3 m c t (ix2 (y 0) q) (ix2 r ⟨q.val, by omega⟩) hr rfl).trans (congrFun (V_main_arg2 m c) _)
  · exact (read_4 m c t (ix2 (y 0) q) (ix2 r ⟨2048 + q.val, by omega⟩) hr (by show 2048 + q.val = 1 * 2048 + q.val; omega)).trans (congrFun (V_main_arg2 m c) _)
  · exact (read_5 m c t (ix2 (y 0) q) (ix2 r q) hr rfl).trans (congrFun (V_main_arg3 m c) _)
  · exact (read_6 m c t z).trans (V_pw m c z)
  · exact (read_7 m c t (ix2 0 k)).trans (V_ps m c k)
  · exact (read_8 m c t z).trans (V_wa m c z)
  · exact (read_9 m c t z).trans (V_wb m c z)
  · exact (read_10 m c t z).trans (V_wo m c z)
  · exact (read_11 m c t (ix2 0 j)).trans (V_p m c j)
  · exact (read_12 m c t (ix2 0 j)).trans (V_q m c j)

theorem point_13 (c : Dev nD) (t : Fin cfg0.N) (y : S256x2048.Idx) (i : S16384x2048.Idx) (h0 : (i 0).val = t.val * 256 + (y 0).val) (h1 : (i 1).val = (y 1).val) :
    ((outsAt0 m c t).1 y : EReal) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i := by
  unfold outsAt0
  dsimp only
  rw [out_13]
  exact (block_13 _ _ _ _ _ y).trans (rows_at m c t y i h0 h1)

theorem point_14 (c : Dev nD) (t : Fin cfg0.N) (y : S256x2048.Idx) (i : S16384x2048.Idx) (h0 : (i 0).val = t.val * 256 + (y 0).val) (h1 : (i 1).val = (y 1).val) :
    ((outsAt0 m c t).2 y : EReal) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i := by
  unfold outsAt0
  dsimp only
  rw [out_14]
  exact (block_14 _ _ _ _ _ y).trans (rows_at m c t y i h0 h1)

theorem place_13 (t : Fin grid0.N) : (cfg0.win 13).index t = ![t.val, 0] := congrArg (fun n : ℕ => (![n, 0] : Fin 2 → ℕ)) (row_word t)
theorem emb_13 (t : Fin grid0.N) (y : S256x2048.Idx) (z : S16384x2048.Idx) (h0 : (z 0).val = t.val * 256 + (y 0).val) (h1 : (z 1).val = (y 1).val) :
    ((cfg0.win 13).blk t).view.emb y = z := by
  refine funext fun q => Fin.ext ?_
  refine (Pipeline.Window.rect_emb_val (cfg0.win 13) t y q).trans ?_
  rw [place_13]
  fin_cases q
  · exact h0.symm
  · exact (Nat.zero_add _).trans h1.symm

theorem mem_13 (t : Fin grid0.N) (y : S256x2048.Idx) (z : S16384x2048.Idx) (h0 : (z 0).val = t.val * 256 + (y 0).val) (h1 : (z 1).val = (y 1).val) :
    z ∈ ((cfg0.win 13).blk t).view.set := emb_13 t y z h0 h1 ▸ View.emb_mem_set ((cfg0.win 13).blk t).view y

theorem cover_13 (i : S16384x2048.Idx) : ∃ t : Fin cfg0.N, (cfg0.win 13).flush t = true ∧ i ∈ ((cfg0.win 13).blk t).view.set := by
  have hi : (i 0).val < 16384 := (i 0).isLt
  have hN : cfg0.N = 64 := N_0
  refine ⟨⟨(i 0).val / 256, by omega⟩, flush0_13 _, mem_13 _ (ix2 (⟨(i 0).val % 256, by omega⟩ : Fin 256) (i 1 : Fin 2048)) i ?_ rfl⟩
  show (i 0).val = (i 0).val / 256 * 256 + (i 0).val % 256
  omega

theorem place_rows_13 (c : Dev nD) (t : Fin grid0.N) (y : S256x2048.Idx) :
    (outsAt0 m c t).1 y = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : FVec Ideal S16384x2048 .f32) (((cfg0.win 13).blk t).view.emb y) := by
  have ht : t.val < 64 := Nat.lt_of_lt_of_eq t.isLt N_0
  have hy : (y 0).val < 256 := (y 0).isLt
  have hz : t.val * 256 + (y 0).val < 16384 := by omega
  generalize hq : (ix2 (⟨t.val * 256 + (y 0).val, hz⟩ : Fin 16384) (y 1 : Fin 2048) : S16384x2048.Idx) = z
  have z0 : (z 0).val = t.val * 256 + (y 0).val := by rw [← hq]; rfl
  have z1 : (z 1).val = (y 1).val := by rw [← hq]; rfl
  rw [emb_13 t y z z0 z1]
  exact point_13 m c t y z z0 z1

theorem array_of_13 (c : Dev nD) (dat : Dat τ (Elt Ideal) Unit ℕ (UR sig nD τ) ℕ cfg0 c) (G : FVec Ideal S16384x2048 .f32)
    (out : Fin grid0.N → Vec Ideal S256x2048 .f32) (hafter : ∀ t, dat.after 13 t = out t)
    (h : ∀ (t : Fin grid0.N) (y : S256x2048.Idx), out t y = G (((cfg0.win 13).blk t).view.emb y)) : dat.arrAt 13 cfg0.N = G := by
  refine dat.arrAt_eq_of_emb 13 _ (fun t hf y => ?_) cover_13
  refine Eq.trans ?_ (h t y)
  rw [hafter]
  rfl

/-- The kernel's first result. -/
theorem array_13 (c : Dev nD) : (dats m 0 c).arrAt 13 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : FVec Ideal S16384x2048 .f32) :=
  array_of_13 c (dats m 0 c) _ (fun t => (outsAt0 m c t).1) (after0_13 m c) (place_rows_13 m c)

theorem place_14 (t : Fin grid0.N) : (cfg0.win 14).index t = ![t.val, 0] := congrArg (fun n : ℕ => (![n, 0] : Fin 2 → ℕ)) (row_word t)
theorem emb_14 (t : Fin grid0.N) (y : S256x2048.Idx) (z : S16384x2048.Idx) (h0 : (z 0).val = t.val * 256 + (y 0).val) (h1 : (z 1).val = (y 1).val) :
    ((cfg0.win 14).blk t).view.emb y = z := by
  refine funext fun q => Fin.ext ?_
  refine (Pipeline.Window.rect_emb_val (cfg0.win 14) t y q).trans ?_
  rw [place_14]
  fin_cases q
  · exact h0.symm
  · exact (Nat.zero_add _).trans h1.symm

theorem mem_14 (t : Fin grid0.N) (y : S256x2048.Idx) (z : S16384x2048.Idx) (h0 : (z 0).val = t.val * 256 + (y 0).val) (h1 : (z 1).val = (y 1).val) :
    z ∈ ((cfg0.win 14).blk t).view.set := emb_14 t y z h0 h1 ▸ View.emb_mem_set ((cfg0.win 14).blk t).view y

theorem cover_14 (i : S16384x2048.Idx) : ∃ t : Fin cfg0.N, (cfg0.win 14).flush t = true ∧ i ∈ ((cfg0.win 14).blk t).view.set := by
  have hi : (i 0).val < 16384 := (i 0).isLt
  have hN : cfg0.N = 64 := N_0
  refine ⟨⟨(i 0).val / 256, by omega⟩, flush0_14 _, mem_14 _ (ix2 (⟨(i 0).val % 256, by omega⟩ : Fin 256) (i 1 : Fin 2048)) i ?_ rfl⟩
  show (i 0).val = (i 0).val / 256 * 256 + (i 0).val % 256
  omega

theorem place_rows_14 (c : Dev nD) (t : Fin grid0.N) (y : S256x2048.Idx) :
    (outsAt0 m c t).2 y = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : FVec Ideal S16384x2048 .bf16) (((cfg0.win 14).blk t).view.emb y) := by
  have ht : t.val < 64 := Nat.lt_of_lt_of_eq t.isLt N_0
  have hy : (y 0).val < 256 := (y 0).isLt
  have hz : t.val * 256 + (y 0).val < 16384 := by omega
  generalize hq : (ix2 (⟨t.val * 256 + (y 0).val, hz⟩ : Fin 16384) (y 1 : Fin 2048) : S16384x2048.Idx) = z
  have z0 : (z 0).val = t.val * 256 + (y 0).val := by rw [← hq]; rfl
  have z1 : (z 1).val = (y 1).val := by rw [← hq]; rfl
  rw [emb_14 t y z z0 z1]
  exact point_14 m c t y z z0 z1

theorem array_of_14 (c : Dev nD) (dat : Dat τ (Elt Ideal) Unit ℕ (UR sig nD τ) ℕ cfg0 c) (G : FVec Ideal S16384x2048 .bf16)
    (out : Fin grid0.N → Vec Ideal S256x2048 .bf16) (hafter : ∀ t, dat.after 14 t = out t)
    (h : ∀ (t : Fin grid0.N) (y : S256x2048.Idx), out t y = G (((cfg0.win 14).blk t).view.emb y)) : dat.arrAt 14 cfg0.N = G := by
  refine dat.arrAt_eq_of_emb 14 _ (fun t hf y => ?_) cover_14
  refine Eq.trans ?_ (h t y)
  rw [hafter]
  rfl

/-- The kernel's second result. -/
theorem array_14 (c : Dev nD) : (dats m 0 c).arrAt 14 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : FVec Ideal S16384x2048 .bf16) :=
  array_of_14 c (dats m 0 c) _ (fun t => (outsAt0 m c t).2) (after0_14 m c) (place_rows_14 m c)

end Cert.MixerTail

end
-- ==== Proof.TailRef.lean ====
module

public import proofs.«01_k».proof.Proof.TailValue
public import proofs.«01_k».proof.Proof.Gen.TailRefIdeal.Run

/-! The reference of the mixer's tail over the extended reals is the same layer norm of the same rows. -/

@[expose] public section

set_option maxRecDepth 16384

noncomputable section

namespace Cert.MixerTail

open Idealize.ShloMosaic Idealize.ShloMosaic.TcCoe Idealize.ShloMosaic.Tactic
open Idealize.SL Idealize.SL.Sem

theorem fold_sum {n : ℕ} (f : Fin n → EReal) (v : EReal) : (List.finRange n).foldl (fun r k => r + f k) v = v + ∑ k, f k := by
  have e : ∀ (l : List (Fin n)) (v : EReal), l.foldl (fun r k => r + f k) v = v + (l.map f).sum := fun l => by
    induction l with
    | nil => intro v; simp
    | cons a l ih => intro v; rw [List.foldl_cons, ih, List.map_cons, List.sum_cons, add_assoc]
  rw [e, Fin.sum_univ_def]

/-- The row `k` places back of one batch's rows, zero before the first. -/
def rowBack {B S C : ℕ} (x : (⟨3, ![B, S, C]⟩ : Shape).Idx → EReal) (b : Fin B) (t : Fin S) (c : Fin C) (k : ℕ) : EReal :=
  if k ≤ t.val then x (ix3 b ⟨t.val - k, Nat.lt_of_le_of_lt (Nat.sub_le _ _) t.isLt⟩ c) else 0

/-- A sum over windows that end at each row is the sum of the rows back from it. -/
theorem window_sum {B S C : ℕ} (lo : ℕ) (x : FVec Ideal (⟨3, ![B, S, C]⟩ : Shape) .f32) (u : Shape) (init : FVec Ideal u .f32) (hu : 0 < u.numel) (hi : (init (Shape.Idx.first hu) : EReal) = 0)
    (h : (⟨3, ![B, S, C]⟩ : Shape).ReduceWindows (![1, lo + 1, 1] : Fin 3 → ℕ) ![1, 1, 1] ![0, lo, 0] ![0, 0, 0] ⟨3, ![B, S, C]⟩) (b : Fin B) (t : Fin S) (c : Fin C) :
    (Host.reduceWindowAdd (F := Ideal) (s := ⟨3, ![B, S, C]⟩) (t := ⟨3, ![B, S, C]⟩) ![1, lo + 1, 1] ![1, 1, 1] ![0, lo, 0] ![0, 0, 0] x init h hu (ix3 b t c) : EReal) = ∑ k ∈ Finset.range (lo + 1), rowBack x b t c k := by
  unfold Host.reduceWindowAdd
  show Ideal.hostReduceWindowAdd _ _ _ _ h x (init (Shape.Idx.first hu)) (ix3 b t c) = _
  unfold Ideal.hostReduceWindowAdd Host.reduceWindow
  rw [hi]
  refine (fold_sum _ _).trans ((zero_add _).trans ?_)
  refine Eq.trans (Finset.sum_congr rfl fun n _ => ?_) (((⟨3, ![1, lo + 1, 1]⟩ : Shape).rowMajor.symm.sum_comp fun i => rowBack x b t c (lo - (i 1).val)).trans ?_)
  · let i : (⟨3, ![1, lo + 1, 1]⟩ : Shape).Idx := (⟨3, ![1, lo + 1, 1]⟩ : Shape).rowMajor.symm n
    show _ = rowBack x b t c (lo - (i 1).val)
    have i0 : (i 0).val < 1 := (i 0).isLt
    have i1 : (i 1).val < lo + 1 := (i 1).isLt
    have i2 : (i 2).val < 1 := (i 2).isLt
    have hb := b.isLt
    have ht := t.isLt
    have hc := c.isLt
    unfold rowBack
    split
    · next hin =>
      have h1 : lo ≤ t.val * 1 + (i 1).val ∧ t.val * 1 + (i 1).val - lo < S := hin 1
      rw [if_pos (by omega)]
      refine congrArg x (funext fun a => Fin.ext ?_)
      match a with
      | ⟨0, _⟩ => show b.val * 1 + (i 0).val - 0 = b.val; omega
      | ⟨1, _⟩ => show t.val * 1 + (i 1).val - lo = t.val - (lo - (i 1).val); omega
      | ⟨2, _⟩ => show c.val * 1 + (i 2).val - 0 = c.val; omega
    · next hin =>
      rw [if_neg fun hle => hin fun a => ?_]
      match a with
      | ⟨0, _⟩ => show 0 ≤ b.val * 1 + (i 0).val ∧ b.val * 1 + (i 0).val - 0 < B; omega
      | ⟨1, _⟩ => show lo ≤ t.val * 1 + (i 1).val ∧ t.val * 1 + (i 1).val - lo < S; omega
      | ⟨2, _⟩ => show 0 ≤ c.val * 1 + (i 2).val ∧ c.val * 1 + (i 2).val - 0 < C; omega
  · refine Finset.sum_bij' (fun i _ => lo - (i 1).val) (fun k _ => (ix3 (0 : Fin 1) (⟨lo - k, by omega⟩ : Fin (lo + 1)) (0 : Fin 1) : (⟨3, ![1, lo + 1, 1]⟩ : Shape).Idx)) (fun i _ => Finset.mem_range.mpr (by omega)) (fun k _ => Finset.mem_univ _) (fun i _ => ?_) (fun k hk => ?_) (fun i _ => rfl)
    · have i0 : (i 0).val < 1 := (i 0).isLt
      have i1 : (i 1).val < lo + 1 := (i 1).isLt
      have i2 : (i 2).val < 1 := (i 2).isLt
      refine funext fun a => Fin.ext ?_
      match a with
      | ⟨0, _⟩ => show 0 = (i 0).val; omega
      | ⟨1, _⟩ => show lo - (lo - (i 1).val) = (i 1).val; omega
      | ⟨2, _⟩ => show 0 = (i 2).val; omega
    · have := Finset.mem_range.mp hk
      show lo - (lo - k) = k
      omega

section

open Cert.TailRefIdeal Cert.TailRefIdeal.Gen Cert.TailRefIdeal.Value
open Cert.DenseFfn (mean normed)

/-- Row `t` of sequence `b`. -/
def seqRow (b : Fin 2) (t : Fin 8192) : Fin 16384 := ⟨b.val * 8192 + t.val, by omega⟩

theorem project_at (x : FVec Ideal S2x8192x256 .f32) (w : FVec Ideal S256x256 .f32) (b : Fin 2) (t : Fin 8192) (c : Fin 256) :
    (Host.dotGeneral dot_S2x8192x256_S256x256_S2x8192x256_2_0_01_1_n_n none x w (ix3 b t c) : EReal) = ∑ a : Fin 256, (x (ix3 b t a) : EReal) * w (ix2 a c) := by
  pointwise

theorem count_at (w : BitVec 32) (b : Fin 2) (t : Fin 8192) (a : Fin 256) :
    ((broadcastInDim S2x8192x256 ![0, 1, 2] bcast_S1x8192x1_S2x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 w)))))) : FVec Ideal S2x8192x256 .f32) (ix3 b t a) = count w (seqRow b t) := by
  have e : (seqRow b t).val % 8192 = t.val := by show (b.val * 8192 + t.val) % 8192 = t.val; omega
  unfold count
  rw [e]
  generalize hR : FloatOps.sitofp (F := Ideal) .f32 (IntOp.minsi (IntOp.addi (BitVec.ofNat 32 t.val) 1#32) w) = R
  pointwise
  rw [← hR]

/-- A window's sum of one sequence's rows is the window's sum of all rows. -/
theorem rows_back (g : Fin 4) (x : FVec Ideal S2x8192x256 .f32) (U : FVec Ideal S16384x1024 .f32) (hx : ∀ b t a, (x (ix3 b t a) : EReal) = U (ix2 (seqRow b t) (groupCol g a)))
    (b : Fin 2) (t : Fin 8192) (a : Fin 256) (k : ℕ) : rowBack x b t a k = back U (seqRow b t) k (groupCol g a) := by
  have e : (seqRow b t).val % 8192 = t.val := by show (b.val * 8192 + t.val) % 8192 = t.val; omega
  unfold rowBack back
  rw [e]
  split
  · next h =>
    refine (hx _ _ _).trans (congrArg (fun r => (U (ix2 r (groupCol g a)) : EReal)) (Fin.ext ?_))
    show b.val * 8192 + (t.val - k) = b.val * 8192 + t.val - k
    omega
  · rfl

/-- One group of the reference. -/
theorem group_at (g : Fin 4) (lo : ℕ) (w : BitVec 32) (hlo : lo + 1 = 2 ^ (g.val + 1)) (hw : w = BitVec.ofNat 32 (2 ^ (g.val + 1))) (x : FVec Ideal S2x8192x256 .f32) (p : FVec Ideal S256x256 .f32) (init : FVec Ideal S_ .f32)
    (hi : (init (Shape.Idx.first h_S_) : EReal) = 0) (h : S2x8192x256.ReduceWindows (![1, lo + 1, 1] : Fin 3 → ℕ) ![1, 1, 1] ![0, lo, 0] ![0, 0, 0] S2x8192x256)
    (U : FVec Ideal S16384x1024 .f32) (PW : FVec Ideal S4x256x256 .f32) (PS : FVec Ideal S1024 .f32) (hx : ∀ b t a, (x (ix3 b t a) : EReal) = U (ix2 (seqRow b t) (groupCol g a)))
    (hp : ∀ a c, (p (ix2 a c) : EReal) = PW (ix3 g a c)) (b : Fin 2) (t : Fin 8192) (c : Fin 256) :
    (Host.dotGeneral dot_S2x8192x256_S256x256_S2x8192x256_2_0_01_1_n_n none (subf (Host.divf (Host.reduceWindowAdd ![1, lo + 1, 1] ![1, 1, 1] ![0, lo, 0] ![0, 0, 0] x init h h_S_) (broadcastInDim S2x8192x256 ![0, 1, 2] bcast_S1x8192x1_S2x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 w))))))) x) p (ix3 b t c) : EReal) * PS (ix1 (groupCol g c))
      = pooled U PW PS g (seqRow b t) c := by
  refine congrArg (fun z : EReal => z * (PS (ix1 (groupCol g c)) : EReal)) ?_
  refine (project_at _ _ b t c).trans (Finset.sum_congr rfl fun a _ => ?_)
  refine congrArg₂ (fun y z : EReal => y * z) (congrArg₂ (fun y z : EReal => y - z) (congrArg₂ Ideal.div ?_ ?_) (hx b t a)) (hp a c)
  · refine (window_sum lo x S_ init h_S_ hi h b t a).trans ?_
    unfold window
    rw [← hlo]
    exact Finset.sum_congr rfl fun k _ => rows_back g x U hx b t a k
  · rw [hw]
    exact count_at _ b t a

/-- The four groups side by side. -/
theorem groups_at (f : Fin 4 → FVec Ideal S2x8192x256 .f32) (U : FVec Ideal S16384x1024 .f32) (PW : FVec Ideal S4x256x256 .f32) (PS : FVec Ideal S1024 .f32)
    (hf : ∀ g b t c, (f g (ix3 b t c) : EReal) * PS (ix1 (groupCol g c)) = pooled U PW PS g (seqRow b t) c) (b : Fin 2) (t : Fin 8192) (k : Fin 1024) :
    ((concatenate S2x8192x1024 2 [⟨S2x8192x256, f 0⟩, ⟨S2x8192x256, f 1⟩, ⟨S2x8192x256, f 2⟩, ⟨S2x8192x256, f 3⟩] concatenates_S2x8192x256_S2x8192x256_S2x8192x256_S2x8192x256_S2x8192x1024_d2 : FVec Ideal S2x8192x1024 .f32) (ix3 b t k) : EReal) * PS (ix1 k)
      = pool U PW PS (seqRow b t) k := by
  have hk := k.isLt
  have hg : ∀ (g : Fin 4) (c : Fin 256) (h : 256 * g.val + c.val = k.val), (f g (ix3 b t c) : EReal) = f ⟨k.val / 256, by omega⟩ (ix3 b t ⟨k.val % 256, Nat.mod_lt _ (by decide)⟩) := fun g c h => by
    have e1 : g = ⟨k.val / 256, by omega⟩ := Fin.ext (by show g.val = k.val / 256; omega)
    have e2 : c = ⟨k.val % 256, Nat.mod_lt _ (by decide)⟩ := Fin.ext (by show c.val = k.val % 256; omega)
    rw [← e1, ← e2]
  unfold pool
  rw [← hf]
  refine congrArg₂ (fun y z : EReal => y * z) ?_ (congrArg (fun q => (PS (ix1 q) : EReal)) (Fin.ext (by show k.val = 256 * (k.val / 256) + k.val % 256; omega)))
  obtain ⟨R, hR⟩ : ∃ R : EReal, R = f ⟨k.val / 256, by omega⟩ (ix3 b t ⟨k.val % 256, Nat.mod_lt _ (by decide)⟩) := ⟨_, rfl⟩
  rw [← hR]
  pointwise
  refine cat_four (fun c => (f 0 (ix3 b t c) : EReal)) (fun c => (f 1 (ix3 b t c) : EReal)) (fun c => (f 2 (ix3 b t c) : EReal)) (fun c => (f 3 (ix3 b t c) : EReal)) k.val (by omega) R (fun h => (hg 0 _ ?_).trans hR.symm) (fun e h => (hg 1 _ ?_).trans hR.symm) (fun e h => (hg 2 _ ?_).trans hR.symm) (fun e h => (hg 3 _ ?_).trans hR.symm)
  · show 256 * 0 + k.val = k.val; omega
  · show 256 * 1 + (k.val - 256) = k.val; omega
  · show 256 * 2 + (k.val - 256 - 256) = k.val; omega
  · show 256 * 3 + (k.val - 256 - 256 - 256) = k.val; omega

/-- The row the layer norm is taken of. -/
theorem pre_at (A : FVec Ideal S8x16384x128 .f32) (U : FVec Ideal S16384x1024 .f32) (G : FVec Ideal S16384x4096 .f32) (X : FVec Ideal S16384x2048 .f32) (PW : FVec Ideal S4x256x256 .f32) (PS : FVec Ideal S1024 .f32)
    (WA WB : FVec Ideal S1024x2048 .f32) (WO : FVec Ideal S2048x2048 .f32) (C : FVec Ideal S2x8192x1024 .f32) (hC : ∀ b t k, (C (ix3 b t k) : EReal) * PS (ix1 k) = pool U PW PS (seqRow b t) k) (r : Fin 16384) (j : Fin 2048) :
    ((addf (mulf (broadcastInDim S16384x2048 ![] bcast_S_S16384x2048 (constant S_ .f32 0x3FB504F3#32)) X) (Host.dotGeneral dot_S16384x2048_S2048x2048_S16384x2048_1_0_0_1_n_n none (addf (mulf (extractStridedSlice S16384x2048 ![0, 0] G slices_S16384x4096_S16384x2048_0_0) (Host.dotGeneral dot_S16384x1024_S1024x2048_S16384x2048_1_0_0_1_n_n none (shapeCast _ (transpose S16384x8x128 [1, 0, 2] A transposes_S8x16384x128_S16384x8x128_1_0_2) shapeCasts_S16384x8x128_S16384x1024) WA)) (mulf (extractStridedSlice S16384x2048 ![0, 2048] G slices_S16384x4096_S16384x2048_0_2048) (Host.dotGeneral dot_S16384x1024_S1024x2048_S16384x2048_1_0_0_1_n_n none (shapeCast _ (mulf C (broadcastInDim S2x8192x1024 ![0, 1, 2] bcast_S1x1x1024_S2x8192x1024_0_1_2 (broadcastInDim S1x1x1024 ![2] bcast_S1024_S1x1x1024_2 PS))) shapeCasts_S2x8192x1024_S16384x1024) WB))) WO)) : FVec Ideal S16384x2048 .f32) (ix2 r j) = mixed A U G X PW PS WA WB WO r j := by
  have e : ∀ k : Fin 1024, pool U PW PS r k = (C (ix3 (⟨r.val / 8192, by omega⟩ : Fin 2) (⟨r.val % 8192, Nat.mod_lt _ (by decide)⟩ : Fin 8192) k) : EReal) * PS (ix1 k) := fun k =>
    ((hC _ _ k).trans (congrArg (fun q => pool U PW PS q k) (Fin.ext (by show r.val / 8192 * 8192 + r.val % 8192 = r.val; omega)))).symm
  unfold mixed merged head
  simp only [e]
  pointwise

/-- The layer norm of the reference. -/
theorem norm_at (T : FVec Ideal S16384x2048 .f32) (P Q : FVec Ideal S2048 .f32) (r : Fin 16384) (j : Fin 2048) :
    (addf (mulf (mulf (subf T (broadcastInDim S16384x2048 ![0, 1] bcast_S16384x1_S16384x2048_0_1 (Host.divf (broadcastInDim S16384x1 ![0] bcast_S16384_S16384x1_0 (Host.reduceAdd T (constant S_ .f32 0x00000000#32) reducesTo_S16384x2048_S16384_d1 h_S_)) (broadcastInDim S16384x1 ![] bcast_S_S16384x1 (constant S_ .f32 0x45000000#32))))) (broadcastInDim S16384x2048 ![0, 1] bcast_S16384x1_S16384x2048_0_1 (Host.rsqrt (addf (Host.divf (broadcastInDim S16384x1 ![0] bcast_S16384_S16384x1_0 (Host.reduceAdd (mulf (subf T (broadcastInDim S16384x2048 ![0, 1] bcast_S16384x1_S16384x2048_0_1 (Host.divf (broadcastInDim S16384x1 ![0] bcast_S16384_S16384x1_0 (Host.reduceAdd T (constant S_ .f32 0x00000000#32) reducesTo_S16384x2048_S16384_d1 h_S_)) (broadcastInDim S16384x1 ![] bcast_S_S16384x1 (constant S_ .f32 0x45000000#32))))) (subf T (broadcastInDim S16384x2048 ![0, 1] bcast_S16384x1_S16384x2048_0_1 (Host.divf (broadcastInDim S16384x1 ![0] bcast_S16384_S16384x1_0 (Host.reduceAdd T (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 P))) (broadcastInDim S16384x2048 ![0, 1] bcast_S1x2048_S16384x2048_0_1 (broadcastInDim S1x2048 ![1] bcast_S2048_S1x2048_1 Q)) : FVec Ideal S16384x2048 .f32) (ix2 r j) = normed (fun q => (T (ix2 r q) : EReal)) j * P (ix1 j) + Q (ix1 j) := by
  generalize hR : normed (fun q => (T (ix2 r q) : EReal)) j * P (ix1 j) + Q (ix1 j) = R
  pointwise
  rw [← hR]
  rfl

/-- A group's columns of the rows, sequence by sequence. -/
theorem slice_at (g : Fin 4) (U : FVec Ideal S16384x1024 .f32) (off : ℕ) (ho : off = 256 * g.val) (h : S2x8192x1024.Slices ![0, 0, off] S2x8192x256) (b : Fin 2) (t : Fin 8192) (a : Fin 256) :
    ((extractStridedSlice S2x8192x256 ![0, 0, off] (shapeCast _ U shapeCasts_S16384x1024_S2x8192x1024) h : FVec Ideal S2x8192x256 .f32) (ix3 b t a) : EReal) = U (ix2 (seqRow b t) (groupCol g a)) := by
  subst ho
  pointwise
  rfl

theorem weight_at (g : Fin 4) (PW : FVec Ideal S4x256x256 .f32) (h : S4x256x256.Slices ![g.val, 0, 0] S1x256x256) (a c : Fin 256) :
    ((shapeCast _ (extractStridedSlice S1x256x256 ![g.val, 0, 0] PW h) shapeCasts_S1x256x256_S256x256 : FVec Ideal S256x256 .f32) (ix2 a c) : EReal) = PW (ix3 g a c) := by
  pointwise

variable (m : (ℓ : Loc nD τ sig) → Buf (Elt Ideal) ℓ)

theorem groups_of (f0 f1 f2 f3 : FVec Ideal S2x8192x256 .f32) (U : FVec Ideal S16384x1024 .f32) (PW : FVec Ideal S4x256x256 .f32) (PS : FVec Ideal S1024 .f32)
    (h0 : ∀ b t c, (f0 (ix3 b t c) : EReal) * PS (ix1 (groupCol 0 c)) = pooled U PW PS 0 (seqRow b t) c) (h1 : ∀ b t c, (f1 (ix3 b t c) : EReal) * PS (ix1 (groupCol 1 c)) = pooled U PW PS 1 (seqRow b t) c)
    (h2 : ∀ b t c, (f2 (ix3 b t c) : EReal) * PS (ix1 (groupCol 2 c)) = pooled U PW PS 2 (seqRow b t) c) (h3 : ∀ b t c, (f3 (ix3 b t c) : EReal) * PS (ix1 (groupCol 3 c)) = pooled U PW PS 3 (seqRow b t) c)
    (b : Fin 2) (t : Fin 8192) (k : Fin 1024) :
    ((concatenate S2x8192x1024 2 [⟨S2x8192x256, f0⟩, ⟨S2x8192x256, f1⟩, ⟨S2x8192x256, f2⟩, ⟨S2x8192x256, f3⟩] concatenates_S2x8192x256_S2x8192x256_S2x8192x256_S2x8192x256_S2x8192x1024_d2 : FVec Ideal S2x8192x1024 .f32) (ix3 b t k) : EReal) * PS (ix1 k)
      = pool U PW PS (seqRow b t) k :=
  groups_at ![f0, f1, f2, f3] U PW PS (fun g => match g with | 0 => h0 | 1 => h1 | 2 => h2 | 3 => h3) b t k

theorem zero_at (i : S_.Idx) : ((broadcastInDim S_ ![] bcast_S_S_ (constant S_ .f32 0x00000000#32) : FVec Ideal S_ .f32) i : EReal) = 0 := by
  obtain rfl : i = ix0 := funext fun a => a.elim0
  pointwise

/-- The reference's first result. -/
theorem ref_rows (c : Dev nD) (i : S16384x2048.Idx) : (res_main_v103 m c i : EReal)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) i := by
  obtain ⟨r, j, rfl⟩ : ∃ (r : Fin 16384) (j : Fin 2048), i = ix2 r j := ⟨i 0, i 1, funext fun a => by fin_cases a <;> rfl⟩
  unfold res_main_v103
  generalize (m ((c.tc : Thread nD τ).loc main_arg0)) = A
  generalize (m ((c.tc : Thread nD τ).loc main_arg1)) = U
  generalize (m ((c.tc : Thread nD τ).loc main_arg2)) = G
  generalize (m ((c.tc : Thread nD τ).loc main_arg3)) = X
  generalize (m ((c.tc : Thread nD τ).loc main_arg4)) = PW
  generalize (m ((c.tc : Thread nD τ).loc main_arg5)) = PS
  generalize (m ((c.tc : Thread nD τ).loc main_arg6)) = WA
  generalize (m ((c.tc : Thread nD τ).loc main_arg7)) = WB
  generalize (m ((c.tc : Thread nD τ).loc main_arg8)) = WO
  generalize (m ((c.tc : Thread nD τ).loc main_arg9)) = P
  generalize (m ((c.tc : Thread nD τ).loc main_arg10)) = Q
  refine (norm_at _ P Q r j).trans (congrArg (fun f => normed f j * (P (ix1 j) : EReal) + Q (ix1 j)) (funext fun q => ?_))
  refine pre_at A U G X PW PS WA WB WO _ (groups_of _ _ _ _ U PW PS ?_ ?_ ?_ ?_) r q
  · exact group_at 0 1 2#32 rfl rfl _ _ _ (zero_at _) _ U PW PS (slice_at 0 U 0 rfl _) (weight_at 0 PW _)
  · exact group_at 1 3 4#32 rfl rfl _ _ _ (zero_at _) _ U PW PS (slice_at 1 U 256 rfl _) (weight_at 1 PW _)
  · exact group_at 2 7 8#32 rfl rfl _ _ _ (zero_at _) _ U PW PS (slice_at 2 U 512 rfl _) (weight_at 2 PW _)
  · exact group_at 3 15 16#32 rfl rfl _ _ _ (zero_at _) _ U PW PS (slice_at 3 U 768 rfl _) (weight_at 3 PW _)

/-- The second is the first in the shorter format. -/
theorem ref_short (c : Dev nD) : res_main_v104 m c = truncf .bf16 (show FVec Ideal S16384x2048 .f32 from res_main_v103 m c) bitsLt_bf16_f32 := by
  unfold res_main_v104 res_main_v103
  rfl

end

end Cert.MixerTail

end
-- ==== Proof.RouterPick.lean ====
module

public import Idealize.ShloMosaic.Lib.Pipeline.ValueKit
public import Idealize.ShloMosaic.Lib.SortPrefix
public import Idealize.ShloMosaic.Lib.SortFacts
public import Idealize.ShloMosaic.Lib.Pointwise
public import Idealize.ShloMosaic.Lib.Tactic

/-! The two experts a row chooses: the greatest of its eight logits and the next, the earlier expert at a tie. -/

@[expose] public section

set_option maxRecDepth 16384

noncomputable section

namespace Cert.MoeRouter

open Idealize.ShloMosaic Idealize.ShloMosaic.TcCoe Idealize.ShloMosaic.Tactic

/-- Expert `i` goes before expert `j`. -/
def Before (f : Fin 8 → EReal) (i j : Fin 8) : Prop := f j < f i ∨ (f j = f i ∧ i < j)

/-- `a` is the row's first expert and `b` its second. -/
structure Picks (f : Fin 8 → EReal) (a b : Fin 8) : Prop where
  ne : b ≠ a
  first : ∀ j, j ≠ a → Before f a j
  second : ∀ j, j ≠ a → j ≠ b → Before f b j

theorem Before.le {f : Fin 8 → EReal} {i j : Fin 8} (h : Before f i j) : f j ≤ f i := h.elim le_of_lt fun h => le_of_eq h.1

theorem Picks.top {f : Fin 8 → EReal} {a b : Fin 8} (h : Picks f a b) (j : Fin 8) : f j ≤ f a := by
  by_cases e : j = a
  · rw [e]
  · exact (h.first j e).le

theorem Picks.top_place {f : Fin 8 → EReal} {a b : Fin 8} (h : Picks f a b) (j : Fin 8) (e : f j = f a) : a ≤ j := by
  by_cases n : j = a
  · exact n.ge
  · rcases h.first j n with l | l
    · exact absurd e l.ne
    · exact l.2.le

theorem Picks.next {f : Fin 8 → EReal} {a b : Fin 8} (h : Picks f a b) (j : Fin 8) (n : j ≠ a) : f j ≤ f b := by
  by_cases e : j = b
  · rw [e]
  · exact (h.second j n e).le

theorem Picks.next_place {f : Fin 8 → EReal} {a b : Fin 8} (h : Picks f a b) (j : Fin 8) (n : j ≠ a) (e : f j = f b) : b ≤ j := by
  by_cases k : j = b
  · exact k.ge
  · rcases h.second j n k with l | l
    · exact absurd e l.ne
    · exact l.2.le

/-- The greatest of the lanes, from the least value. -/
theorem max_pick {n : ℕ} (g : Fin n → EReal) (a : Fin n) (h : ∀ l, g l ≤ g a) : (Finset.univ : Finset (Fin n)).fold max (⊥ : EReal) g = g a := by
  refine le_antisymm ((Finset.fold_max_le _).mpr ⟨bot_le, fun l _ => h l⟩) ((Finset.le_fold_max _).mpr (Or.inr ⟨a, Finset.mem_univ _, le_rfl⟩))

theorem minsi_cases (x y : BitVec 32) : (x.toInt < y.toInt ∧ IntOp.minsi x y = x) ∨ (y.toInt ≤ x.toInt ∧ IntOp.minsi x y = y) := by
  unfold IntOp.minsi
  split
  · next h => exact Or.inl ⟨BitVec.slt_iff_toInt_lt.mp h, rfl⟩
  · next h => exact Or.inr ⟨not_lt.mp fun l => h (BitVec.slt_iff_toInt_lt.mpr l), rfl⟩

/-- The least of the lanes' words. -/
theorem min_pick {n : ℕ} (w : Fin n → BitVec 32) (a : Fin n) (h : ∀ l, (w a).toInt ≤ (w l).toInt) : (Finset.univ : Finset (Fin n)).fold IntOp.minsi 2147483647#32 w = w a := by
  have top : ∀ v : BitVec 32, v.toInt ≤ (2147483647#32 : BitVec 32).toInt := fun v => by
    have := BitVec.toInt_lt (x := v)
    have e : (2147483647#32 : BitVec 32).toInt = 2147483647 := by decide
    omega
  have key : ∀ s : Finset (Fin n), (w a).toInt ≤ (s.fold IntOp.minsi 2147483647#32 w).toInt ∧ (a ∈ s → s.fold IntOp.minsi 2147483647#32 w = w a) := fun s => by
    induction s using Finset.induction_on with
    | empty => exact ⟨top _, fun h => absurd h (Finset.notMem_empty _)⟩
    | insert l s hl ih =>
      rw [Finset.fold_insert hl]
      have hla := h l
      rcases minsi_cases (w l) (s.fold IntOp.minsi 2147483647#32 w) with ⟨c, e⟩ | ⟨c, e⟩
      · rw [e]
        refine ⟨hla, fun hm => ?_⟩
        rcases Finset.mem_insert.mp hm with q | q
        · rw [q]
        · rw [ih.2 q] at c
          omega
      · rw [e]
        refine ⟨ih.1, fun hm => ?_⟩
        rcases Finset.mem_insert.mp hm with q | q
        · rw [← q] at c
          exact BitVec.eq_of_toInt_eq (le_antisymm c ih.1)
        · exact ih.2 q
  exact (key _).2 (Finset.mem_univ _)

/-- A stable sort asks only whether a later entry goes before an earlier one. -/
theorem sort_congr {ι : Type} (R R' : ι → ι → Bool) (l : List ι) (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The place a stable sort, greater first, takes each of its entries from. -/
def order (f : Fin 8 → EReal) : Fin 8 → Fin 8 := sortedFrom fun k k' => (Ideal.cmp .ogt (f k) (f k') : BitVec 1) == 1#1

/-- Greater first, the earlier place at a tie. -/
def ahead (f : Fin 8 → EReal) (k k' : Fin 8) : Bool := decide (f k' < f k) || (decide (f k = f k') && decide (k < k'))

theorem ahead_total (f : Fin 8 → EReal) : StrictTotalBefore (ahead f) :=
  StrictTotalBefore.of_key_then_position (fun a b : EReal => decide (b < a)) f (fun a => by simp) (fun a b c h k => by simp only [decide_eq_true_eq] at h k ⊢; exact lt_trans k h)
    (fun a b => by simp only [decide_eq_true_eq]; rcases lt_trichotomy a b with h | h | h <;> simp [h])

theorem ahead_before (f : Fin 8 → EReal) (i j : Fin 8) (h : ahead f i j = true) : Before f i j := by
  unfold ahead at h
  simp only [Bool.or_eq_true, Bool.and_eq_true, decide_eq_true_eq] at h
  exact h.imp id fun h => ⟨h.1.symm, h.2⟩

theorem order_ahead (f : Fin 8 → EReal) : order f = sortedFrom (ahead f) := by
  have e : sortPositions 8 (fun k k' => (Ideal.cmp .ogt (f k) (f k') : BitVec 1) == 1#1) = sortPositions 8 (ahead f) :=
    sort_congr _ _ _ ((List.pairwise_lt_finRange 8).imp fun {a b} hab => by
      have n : ¬ b < a := not_lt.mpr hab.le
      unfold ahead Ideal.cmp
      simp only [n, and_false, decide_false, Bool.and_false, Bool.or_false]
      by_cases q : f a < f b
      · simp only [decide_eq_true q]; rfl
      · simp only [decide_eq_false q]; rfl)
  funext k
  unfold order sortedFrom
  rw [List.get_of_eq e]
  rfl

theorem order_before (f : Fin 8 → EReal) (i j : Fin 8) (h : i < j) : Before f (order f i) (order f j) := by
  rw [order_ahead]
  have t := ahead_total f
  have n := sortedFrom_noInversion (ahead f) (ahead f) t.asymm (fun _ _ h => h) t.negTrans i j h
  have d : sortedFrom (ahead f) i ≠ sortedFrom (ahead f) j := fun e => h.ne (sortedFrom_injective _ e)
  rcases t.total _ _ d with q | q
  · exact ahead_before f _ _ q
  · rw [n] at q
    exact absurd q (by decide)

theorem order_picks (f : Fin 8 → EReal) : Picks f (order f 0) (order f 1) := by
  have sur : ∀ j, ∃ k, order f k = j := sortedFrom_surjective _
  refine ⟨fun e => absurd (sortedFrom_injective _ e) (by decide), fun j n => ?_, fun j n k => ?_⟩
  · obtain ⟨q, rfl⟩ := sur j
    exact order_before f 0 q (Nat.pos_of_ne_zero fun e => n (congrArg (order f) (Fin.ext e)))
  · obtain ⟨q, rfl⟩ := sur j
    have q0 : q.val ≠ 0 := fun e => n (congrArg (order f) (Fin.ext e))
    have q1 : q.val ≠ 1 := fun e => k (congrArg (order f) (Fin.ext e))
    exact order_before f 1 q (by show 1 < q.val; omega)

end Cert.MoeRouter

end
-- ==== Proof.RouterRows.lean ====
module

public import proofs.«01_k».proof.Proof.RouterPick
public import proofs.«01_k».proof.Proof.Gen.RouterIdeal.Value
public import Idealize.ShloMosaic.Lib.Pipeline.ValueKit
public import Idealize.ShloMosaic.Lib.Pointwise
public import Idealize.ShloMosaic.Lib.StableHlo.RunRead
public import Idealize.ShloMosaic.Lib.Tactic
public import Idealize.ShloMosaic.Lib.Tactic.CleanTypes

/-! One block of the router's rows over the extended reals: the two experts each row chooses, their weights, and how
many rows before it, in the block and before the block, chose each of them. -/

@[expose] public section

set_option maxRecDepth 16384

noncomputable section

namespace Cert.MoeRouter

open Cert.RouterIdeal Cert.RouterIdeal.Gen
open Idealize.ShloMosaic Idealize.ShloMosaic.TcCoe Idealize.ShloMosaic.Tactic

theorem select_of (b : Bool) {α : Type} (x y : α) : Scalar.select (BitVec.ofBool b) x y = if b then x else y := by cases b <;> rfl

theorem word_eq (p q : ℕ) (hp : p < 2 ^ 31) (hq : q < 2 ^ 31) : (BitVec.ofNat 32 p = BitVec.ofNat 32 q) ↔ p = q := by
  refine ⟨fun h => ?_, fun h => h ▸ rfl⟩
  have := congrArg BitVec.toNat h
  rw [BitVec.toNat_ofNat, BitVec.toNat_ofNat, Nat.mod_eq_of_lt (by omega), Nat.mod_eq_of_lt (by omega)] at this
  exact this

theorem word_int (p : ℕ) (hp : p < 2 ^ 31) : (BitVec.ofNat 32 p).toInt = p := by
  rw [BitVec.toInt_eq_toNat_cond, BitVec.toNat_ofNat, Nat.mod_eq_of_lt (by omega), if_pos (by omega)]

theorem select_eq (p q : ℕ) (hp : p < 2 ^ 31) (hq : q < 2 ^ 31) {α : Type} (x y : α) :
    Scalar.select (IntOp.cmpi .eq (BitVec.ofNat 32 p) (BitVec.ofNat 32 q)) x y = if p = q then x else y := by
  unfold IntOp.cmpi
  rw [select_of]
  refine if_congr ?_ rfl rfl
  simpa using word_eq p q hp hq

theorem select_slt (p q : ℕ) (hp : p < 2 ^ 31) (hq : q < 2 ^ 31) {α : Type} (x y : α) :
    Scalar.select (IntOp.cmpi .slt (BitVec.ofNat 32 p) (BitVec.ofNat 32 q)) x y = if p < q then x else y := by
  unfold IntOp.cmpi
  rw [select_of]
  refine if_congr ?_ rfl rfl
  show BitVec.slt _ _ = true ↔ _
  rw [BitVec.slt_iff_toInt_lt, word_int p hp, word_int q hq]
  exact Int.ofNat_lt

theorem select_sge (p q : ℕ) (hp : p < 2 ^ 31) (hq : q < 2 ^ 31) {α : Type} (x y : α) :
    Scalar.select (IntOp.cmpi .sge (BitVec.ofNat 32 p) (BitVec.ofNat 32 q)) x y = if q ≤ p then x else y := by
  unfold IntOp.cmpi
  rw [select_of]
  refine if_congr ?_ rfl rfl
  show BitVec.sle _ _ = true ↔ _
  rw [BitVec.sle_iff_toInt_le, word_int p hp, word_int q hq]
  exact Int.ofNat_le

/-- The least value, as a word. -/
theorem low : (Ideal.ofBits FTy.f32 4286578688#32 : EReal) = ⊥ := by simp [Ideal.ofBits, Ideal.ieee]

theorem test_eq (p q : ℕ) (hp : p < 2 ^ 31) (hq : q < 2 ^ 31) : IntOp.cmpi .eq (BitVec.ofNat 32 p) (BitVec.ofNat 32 q) = BitVec.ofBool (decide (p = q)) := by
  unfold IntOp.cmpi
  congr 1
  rw [Bool.eq_iff_iff]
  simpa using word_eq p q hp hq

/-- The logits of the block's rows, on the eight lanes that hold experts; the others hold the least value. -/
def Logits (x0 : Vec Ideal S512x2048 .bf16) (x1 : Vec Ideal S2048x128 .bf16) (f : ℕ → Fin 8 → EReal) : Prop :=
  ∀ (r : Fin 512) (j : Fin 8), ∑ q : Fin 2048, (x0 (ix2 r q) : EReal) * x1 (ix2 q ⟨j.val, by omega⟩) = f r.val j

/-- A row's lanes. -/
def lanes (f : Fin 8 → EReal) (l : Fin 128) : EReal := if h : l.val < 8 then f ⟨l.val, h⟩ else ⊥

/-- The lane of an expert. -/
def lane (a : Fin 8) : Fin 128 := ⟨a.val, by omega⟩

theorem lanes_lane (f : Fin 8 → EReal) (a : Fin 8) : lanes f (lane a) = f a := dif_pos a.isLt

theorem rest_lane (f : Fin 8 → EReal) {a b : Fin 8} (n : b ≠ a) : (if (lane b).val = a.val then ⊥ else lanes f (lane b)) = f b := by
  rw [if_neg (show ¬ (lane b).val = a.val from fun q => n (Fin.ext q)), lanes_lane]

/-- The least lane that holds a value. -/
theorem least_lane (w : Fin 128 → BitVec 32) (a : Fin 8) (h : w (lane a) = BitVec.ofNat 32 a.val) (hw : ∀ l : Fin 128, (w l = BitVec.ofNat 32 l.val ∧ a.val ≤ l.val) ∨ w l = 128#32) :
    (Finset.univ : Finset (Fin 128)).fold IntOp.minsi 2147483647#32 w = BitVec.ofNat 32 a.val := by
  have ha := a.isLt
  refine (min_pick w (lane a) fun l => ?_).trans h
  have hl := l.isLt
  rw [h, word_int _ (by omega)]
  rcases hw l with ⟨e, k⟩ | e
  · rw [e, word_int _ (by omega)]
    omega
  · rw [e, show (128#32 : BitVec 32).toInt = 128 from by decide]
    omega

theorem lanes_at (x0 : Vec Ideal S512x2048 .bf16) (x1 : Vec Ideal S2048x128 .bf16) (f : ℕ → Fin 8 → EReal) (h : Logits x0 x1 f) (r : Fin 512) (l : Fin 128) :
    (k0_pay3 (F := Ideal) x0 x1 (ix2 r l) : EReal) = lanes (f r.val) l := by
  unfold lanes
  generalize hR : (if h : l.val < 8 then f r.val ⟨l.val, h⟩ else ⊥) = R
  pointwise [k0_pay3]
  rw [← hR, select_slt l.val 8 (by omega) (by omega)]
  split
  · next c => exact h r ⟨l.val, c⟩
  · exact low

section

variable (x0 : Vec Ideal S512x2048 .bf16) (x1 : Vec Ideal S2048x128 .bf16) (f : ℕ → Fin 8 → EReal) (hL : Logits x0 x1 f) (A B : ℕ → Fin 8) (hp : ∀ r, Picks (f r) (A r) (B r)) (hb : ∀ r j, f r j ≠ ⊥)
include hL hp hb

theorem top_at (r : Fin 512) : (k0_pay4 (F := Ideal) x0 x1 (ix2 r 0) : EReal) = f r.val (A r.val) := by
  have e := lanes_at x0 x1 f hL
  unfold k0_pay4
  generalize k0_pay3 (F := Ideal) x0 x1 = L at e ⊢
  pointwise
  simp only [e]
  rw [low]
  refine (max_pick (lanes (f r.val)) (lane (A r.val)) fun l => ?_).trans (lanes_lane _ _)
  rw [lanes_lane]
  unfold lanes
  split
  · exact (hp r.val).top _
  · exact bot_le

theorem top_lane (r : Fin 512) : k0_pay5 (F := Ideal) x0 x1 (ix2 r 0) = BitVec.ofNat 32 (A r.val).val := by
  have e := lanes_at x0 x1 f hL
  have t := top_at x0 x1 f hL A B hp hb
  unfold k0_pay5
  generalize k0_pay3 (F := Ideal) x0 x1 = L at e ⊢
  generalize k0_pay4 (F := Ideal) x0 x1 = M at t ⊢
  pointwise
  refine least_lane _ _ ?_ fun l => ?_
  · rw [e, t, lanes_lane, if_pos rfl]
    rfl
  · rw [e, t]
    by_cases h : lanes (f r.val) l = f r.val (A r.val)
    · rw [if_pos h]
      refine Or.inl ⟨rfl, ?_⟩
      by_cases c : l.val < 8
      · have := (hp r.val).top_place ⟨l.val, c⟩ ((show lanes (f r.val) l = _ from dif_pos c).symm.trans h)
        exact this
      · exact absurd (h.symm.trans (show lanes (f r.val) l = _ from dif_neg c)) (hb _ _)
    · rw [if_neg h]
      exact Or.inr rfl

theorem rest_at (r : Fin 512) (l : Fin 128) : (k0_pay6 (F := Ideal) x0 x1 (ix2 r l) : EReal) = if l.val = (A r.val).val then ⊥ else lanes (f r.val) l := by
  have e := lanes_at x0 x1 f hL
  have t := top_lane x0 x1 f hL A B hp hb
  unfold k0_pay6
  generalize k0_pay3 (F := Ideal) x0 x1 = L at e ⊢
  generalize k0_pay5 (F := Ideal) x0 x1 = M at t ⊢
  pointwise
  rw [t, e, low, select_eq l.val (A r.val).val (by omega) (by have := (A r.val).isLt; omega)]

theorem next_at (r : Fin 512) : (k0_pay7 (F := Ideal) x0 x1 (ix2 r 0) : EReal) = f r.val (B r.val) := by
  have e := rest_at x0 x1 f hL A B hp hb
  unfold k0_pay7
  generalize k0_pay6 (F := Ideal) x0 x1 = L at e ⊢
  pointwise
  simp only [e]
  rw [low]
  refine (max_pick _ (lane (B r.val)) fun l => ?_).trans (rest_lane _ (hp r.val).ne)
  rw [rest_lane _ (hp r.val).ne]
  split
  · exact bot_le
  · next n =>
    unfold lanes
    split
    · next c => exact (hp r.val).next _ fun q => n (congrArg Fin.val q)
    · exact bot_le

theorem next_lane (r : Fin 512) : k0_pay8 (F := Ideal) x0 x1 (ix2 r 0) = BitVec.ofNat 32 (B r.val).val := by
  have e := rest_at x0 x1 f hL A B hp hb
  have t := next_at x0 x1 f hL A B hp hb
  unfold k0_pay8
  generalize k0_pay6 (F := Ideal) x0 x1 = L at e ⊢
  generalize k0_pay7 (F := Ideal) x0 x1 = M at t ⊢
  pointwise
  refine least_lane _ _ ?_ fun l => ?_
  · rw [e, t, rest_lane _ (hp r.val).ne, if_pos rfl]
    rfl
  · rw [e, t]
    by_cases h : (if l.val = (A r.val).val then ⊥ else lanes (f r.val) l) = f r.val (B r.val)
    · rw [if_pos h]
      refine Or.inl ⟨rfl, ?_⟩
      by_cases n : l.val = (A r.val).val
      · rw [if_pos n] at h
        exact absurd h.symm (hb _ _)
      · rw [if_neg n] at h
        by_cases c : l.val < 8
        · have := (hp r.val).next_place ⟨l.val, c⟩ (fun q => n (congrArg Fin.val q)) ((show lanes (f r.val) l = _ from dif_pos c).symm.trans h)
          exact this
        · exact absurd (h.symm.trans (show lanes (f r.val) l = _ from dif_neg c)) (hb _ _)
    · rw [if_neg h]
      exact Or.inr rfl

/-- How much the second counts beside the first. -/
theorem ratio_at (r : Fin 512) : (k0_pay9 (F := Ideal) x0 x1 (ix2 r 0) : EReal) = Ideal.exp (f r.val (B r.val) - f r.val (A r.val)) := by
  rw [← next_at x0 x1 f hL A B hp hb, ← top_at x0 x1 f hL A B hp hb]
  unfold k0_pay9
  generalize k0_pay4 (F := Ideal) x0 x1 = L
  generalize k0_pay7 (F := Ideal) x0 x1 = M
  pointwise

theorem weight_first (r : Fin 512) : (k0_pay10 (F := Ideal) x0 x1 (ix2 r 0) : EReal) = Ideal.div 1 (1 + Ideal.exp (f r.val (B r.val) - f r.val (A r.val))) := by
  rw [← ratio_at x0 x1 f hL A B hp hb]
  unfold k0_pay10
  generalize k0_pay9 (F := Ideal) x0 x1 = L
  pointwise

theorem weight_second (r : Fin 512) : (k0_pay11 (F := Ideal) (k0_pay9 x0 x1) (Scalar.ofBits .f32 0x3F800000#32) (ix2 r 0) : EReal) = Ideal.div (Ideal.exp (f r.val (B r.val) - f r.val (A r.val))) (1 + Ideal.exp (f r.val (B r.val) - f r.val (A r.val))) := by
  rw [← ratio_at x0 x1 f hL A B hp hb]
  unfold k0_pay11
  generalize k0_pay9 (F := Ideal) x0 x1 = L
  pointwise

end

/-- One where a row chose the expert of the lane. -/
def hit (a b : Fin 8) (n : ℕ) : ℝ := if n = a.val ∨ n = b.val then 1 else 0

/-- The lanes' numbers. -/
abbrev laneNo : IVec S512x128 32 := iota .tc S512x128 32 [1] iota_S512x128_d1_w32

section

variable (u v : IVec S512x1 32) (A B : ℕ → Fin 8) (hu : ∀ r : Fin 512, u (ix2 r 0) = BitVec.ofNat 32 (A r.val).val) (hv : ∀ r : Fin 512, v (ix2 r 0) = BitVec.ofNat 32 (B r.val).val)
include hu hv

theorem hit_at (r : Fin 512) (l : Fin 128) : (k0_pay14 (F := Ideal) laneNo u v (ix2 r l) : EReal) = (hit (A r.val) (B r.val) l.val : ℝ) := by
  generalize hR : ((hit (A r.val) (B r.val) l.val : ℝ) : EReal) = R
  pointwise [k0_pay14, k0_pay12, k0_pay13]
  rw [hu, hv, ← hR]
  have ha := (A r.val).isLt
  have hb := (B r.val).isLt
  have hl := l.isLt
  rw [test_eq _ _ (by omega) (by omega), test_eq _ _ (by omega) (by omega)]
  unfold hit
  by_cases p : l.val = (A r.val).val
  · rw [decide_eq_true p, if_pos (Or.inl p)]
    cases decide (l.val = (B r.val).val) <;> exact EReal.coe_one.symm
  · rw [decide_eq_false p]
    by_cases q : l.val = (B r.val).val
    · rw [decide_eq_true q, if_pos (Or.inr q)]
      exact EReal.coe_one.symm
    · rw [decide_eq_false q, if_neg (fun h => h.elim p q)]
      exact EReal.coe_zero.symm

/-- The rows before a row that chose the lane's expert: those of the block, and those before it. -/
theorem before_at (c : Vec Ideal S1x128 .f32) (r : Fin 512) (l : Fin 128) :
    (k0_pay15 (F := Ideal) laneNo u v c (ix2 r l) : EReal) = c (ix2 0 l) + ∑ k ∈ Finset.range r.val, ((hit (A k) (B k) l.val : ℝ) : EReal) := by
  have e := hit_at u v A B hu hv
  generalize hR : (c (ix2 0 l) : EReal) + ∑ k ∈ Finset.range r.val, (((hit (A k) (B k) l.val : ℝ) : EReal)) = R
  unfold k0_pay15
  generalize k0_pay14 (F := Ideal) laneNo u v = L at e ⊢
  pointwise
  rw [← hR]
  simp only [e]
  have s : ∀ x : Fin 512, Scalar.select (IntOp.cmpi .sge (BitVec.ofNat 32 r.val) (BitVec.ofNat 32 x.val)) ((hit (A x.val) (B x.val) l.val : ℝ) : EReal) 0
      = (fun k : ℕ => if k ≤ r.val then ((hit (A k) (B k) l.val : ℝ) : EReal) else 0) x.val := fun x => select_sge r.val x.val (by omega) (by omega) _ _
  rw [Finset.sum_congr rfl fun x _ => s x, ← Finset.sum_range (fun k : ℕ => if k ≤ r.val then ((hit (A k) (B k) l.val : ℝ) : EReal) else 0), ← Finset.sum_filter,
    show (Finset.range 512).filter (fun k => k ≤ r.val) = Finset.range (r.val + 1) from by ext k; simp only [Finset.mem_filter, Finset.mem_range]; omega,
    Finset.sum_range_succ, EReal.add_sub_cancel_right, add_comm]

theorem count_at (c : Vec Ideal S1x128 .f32) (l : Fin 128) :
    (k0_pay16 (F := Ideal) laneNo u v c (ix2 0 l) : EReal) = c (ix2 0 l) + ∑ k ∈ Finset.range 512, ((hit (A k) (B k) l.val : ℝ) : EReal) := by
  have e := hit_at u v A B hu hv
  generalize hR : (c (ix2 0 l) : EReal) + ∑ k ∈ Finset.range 512, (((hit (A k) (B k) l.val : ℝ) : EReal)) = R
  unfold k0_pay16
  generalize k0_pay14 (F := Ideal) laneNo u v = L at e ⊢
  pointwise
  rw [← hR]
  simp only [e]
  rw [Finset.sum_range]

theorem rank_first (c : Vec Ideal S1x128 .f32) (r : Fin 512) : (k0_pay18 (F := Ideal) laneNo u v c (ix2 r 0) : EReal) = k0_pay15 (F := Ideal) laneNo u v c (ix2 r (lane (A r.val))) := by
  unfold k0_pay18
  generalize k0_pay15 (F := Ideal) laneNo u v c = L
  pointwise [k0_pay12]
  rw [hu]
  have ha := (A r.val).isLt
  rw [Finset.sum_eq_single (lane (A r.val)) (fun x _ n => ?_) fun h => absurd (Finset.mem_univ _) h]
  · rw [select_eq _ _ (by omega) (by omega)]
    exact if_pos rfl
  · rw [select_eq _ _ (by omega) (by omega)]
    exact if_neg fun q => n (Fin.ext q)

theorem rank_second (c : Vec Ideal S1x128 .f32) (r : Fin 512) : (k0_pay19 (F := Ideal) laneNo u v c (ix2 r 0) : EReal) = k0_pay15 (F := Ideal) laneNo u v c (ix2 r (lane (B r.val))) := by
  unfold k0_pay19
  generalize k0_pay15 (F := Ideal) laneNo u v c = L
  pointwise [k0_pay13]
  rw [hv]
  have ha := (B r.val).isLt
  rw [Finset.sum_eq_single (lane (B r.val)) (fun x _ n => ?_) fun h => absurd (Finset.mem_univ _) h]
  · rw [select_eq _ _ (by omega) (by omega)]
    exact if_pos rfl
  · rw [select_eq _ _ (by omega) (by omega)]
    exact if_neg fun q => n (Fin.ext q)

end

/-- A row of the route. -/
def routed (w1 w2 e1 e2 r1 r2 : EReal) (n : ℕ) : EReal :=
  if n = 5 then r2 else if n = 4 then r1 else if n = 3 then e2 else if n = 2 then e1 else if n = 1 then w2 else if n = 0 then w1 else 0

theorem route_at (u v : IVec S512x1 32) (p q s t : FVec Ideal S512x1 .f32) (r : Fin 512) (l : Fin 128) :
    (k0_pay1 (F := Ideal) laneNo u v p q s t (ix2 r l) : EReal)
      = routed (p (ix2 r 0)) (q (ix2 r 0)) (FloatOps.sitofp (F := Ideal) .f32 (u (ix2 r 0))) (FloatOps.sitofp (F := Ideal) .f32 (v (ix2 r 0))) (s (ix2 r 0)) (t (ix2 r 0)) l.val := by
  have hl := l.isLt
  generalize hR : routed (p (ix2 r 0)) (q (ix2 r 0)) (FloatOps.sitofp (F := Ideal) .f32 (u (ix2 r 0))) (FloatOps.sitofp (F := Ideal) .f32 (v (ix2 r 0))) (s (ix2 r 0)) (t (ix2 r 0)) l.val = R
  pointwise [k0_pay1]
  rw [← hR]
  unfold routed
  rw [select_eq l.val 5 (by omega) (by omega), select_eq l.val 4 (by omega) (by omega), select_eq l.val 3 (by omega) (by omega), select_eq l.val 2 (by omega) (by omega), select_eq l.val 1 (by omega) (by omega), select_eq l.val 0 (by omega) (by omega)]

end Cert.MoeRouter

end
-- ==== Proof.RouterCase.lean ====
module

public import proofs.«01_k».proof.Proof.RouterRows
public import proofs.«01_k».proof.Proof.DenseCase

/-! What one grid point of the router leaves, in its two result blocks and in the scratch it keeps the counts in, as a
function of its input blocks and of the counts the point before left. -/

@[expose] public section

set_option maxRecDepth 16384

noncomputable section

namespace Cert.MoeRouter

open Cert.RouterIdeal Cert.RouterIdeal.Gen
open Cert.DenseFfn (start_zero)
open Idealize.ShloMosaic Idealize.ShloMosaic.TcCoe Idealize.ShloMosaic.Tactic
open Idealize.SL Idealize.SL.Sem

variable {F : FTy → Type} [FloatOps F]

/-- The block's rows of the route, over the counts before the block. -/
def routeBlock (x0 : Vec F S512x2048 .bf16) (x1 : Vec F S2048x128 .bf16) (carry : Vec F S1x128 .f32) : FVec F S512x128 .f32 :=
  k0_pay1 laneNo (k0_pay5 x0 x1) (k0_pay8 x0 x1) (k0_pay10 x0 x1) (k0_pay11 (k0_pay9 x0 x1) (Scalar.ofBits .f32 0x3F800000#32))
    (k0_pay18 laneNo (k0_pay5 x0 x1) (k0_pay8 x0 x1) carry) (k0_pay19 laneNo (k0_pay5 x0 x1) (k0_pay8 x0 x1) carry)

theorem out_2_first (c : Dev nD) (i : grid0.Coords) (a1 : Memref sig .tc .vmem S512x2048 .bf16) (h1 : a1.IsWhole) (a2 : Memref sig .tc .vmem S2048x128 .bf16) (h2 : a2.IsWhole) (a3 : Memref sig .tc .vmem S512x128 .f32) (h3 : a3.IsWhole) (a4 : Memref sig .tc .vmem S1x128 .f32) (h4 : a4.IsWhole) (a5 : Memref sig .tc .vmem S1x128 .f32) (h5 : a5.IsWhole) (hc : cond0_0 i)
    (x0 : Vec F S512x2048 .bf16) (x1 : Vec F S2048x128 .bf16) :
    out0_A_2 c i a1 h1 a2 h2 a3 h3 a4 h4 a5 h5 hc x0 x1 = routeBlock x0 x1 k0_pay2 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero (S := S512x128) start_zero]
  simp only [View.readAt_eq_ld, View.readCov_unit_zero (S := S1x128) _ start_zero, h1.read_unread, h2.read_unread, h5.read_unread, View.ld_unit_zero (S := S512x2048) start_zero, View.ld_unit_zero (S := S2048x128) start_zero, View.ld_unit_zero (S := S1x128) start_zero]
  rfl

theorem out_3_first (c : Dev nD) (i : grid0.Coords) (a1 : Memref sig .tc .vmem S512x2048 .bf16) (h1 : a1.IsWhole) (a2 : Memref sig .tc .vmem S2048x128 .bf16) (h2 : a2.IsWhole) (a3 : Memref sig .tc .vmem S512x128 .f32) (h3 : a3.IsWhole) (a4 : Memref sig .tc .vmem S1x128 .f32) (h4 : a4.IsWhole) (a5 : Memref sig .tc .vmem S1x128 .f32) (h5 : a5.IsWhole) (hc : cond0_0 i)
    (x0 : Vec F S512x2048 .bf16) (x1 : Vec F S2048x128 .bf16) :
    out0_A_3 c i a1 h1 a2 h2 a3 h3 a4 h4 a5 h5 hc x0 x1 = k0_pay16 laneNo (k0_pay5 x0 x1) (k0_pay8 x0 x1) k0_pay2 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_unit_zero (S := S1x128) start_zero]
  simp only [View.readAt_eq_ld, View.readCov_unit_zero (S := S1x128) _ start_zero, h1.read_unread, h2.read_unread, h5.read_unread, View.ld_unit_zero (S := S512x2048) start_zero, View.ld_unit_zero (S := S2048x128) start_zero, View.ld_unit_zero (S := S1x128) start_zero]

theorem carry_first (c : Dev nD) (i : grid0.Coords) (a1 : Memref sig .tc .vmem S512x2048 .bf16) (h1 : a1.IsWhole) (a2 : Memref sig .tc .vmem S2048x128 .bf16) (h2 : a2.IsWhole) (a3 : Memref sig .tc .vmem S512x128 .f32) (h3 : a3.IsWhole) (a4 : Memref sig .tc .vmem S1x128 .f32) (h4 : a4.IsWhole) (a5 : Memref sig .tc .vmem S1x128 .f32) (h5 : a5.IsWhole) (hc : cond0_0 i)
    (x0 : Vec F S512x2048 .bf16) (x1 : Vec F S2048x128 .bf16) :
    sout0_A_0 c i a1 h1 a2 h2 a3 h3 a4 h4 a5 h5 hc x0 x1 = k0_pay17 laneNo (k0_pay5 x0 x1) (k0_pay8 x0 x1) k0_pay2 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_cons_unit_zero (S := S1x128) start_zero]
  simp only [View.readAt_eq_ld, View.readCov_unit_zero (S := S1x128) _ start_zero, h1.read_unread, h2.read_unread, h5.read_unread, View.ld_unit_zero (S := S512x2048) start_zero, View.ld_unit_zero (S := S2048x128) start_zero, View.ld_unit_zero (S := S1x128) start_zero]

theorem out_2_later (c : Dev nD) (i : grid0.Coords) (a1 : Memref sig .tc .vmem S512x2048 .bf16) (h1 : a1.IsWhole) (a2 : Memref sig .tc .vmem S2048x128 .bf16) (h2 : a2.IsWhole) (a3 : Memref sig .tc .vmem S512x128 .f32) (h3 : a3.IsWhole) (a4 : Memref sig .tc .vmem S1x128 .f32) (h4 : a4.IsWhole) (a5 : Memref sig .tc .vmem S1x128 .f32) (h5 : a5.IsWhole) (hc : ¬cond0_0 i)
    (x0 : Vec F S512x2048 .bf16) (x1 : Vec F S2048x128 .bf16) (carry : Vec F S1x128 .f32) :
    out0_B_2 c i a1 h1 a2 h2 a3 h3 a4 h4 a5 h5 hc x0 x1 carry = routeBlock x0 x1 carry := by
  unfold out0_B_2
  rw [View.read_writes_eq_canon _ _ _ (cover0_B_2 c i a1 h1 a2 h2 a3 h3 a4 h4 a5 h5 hc x0 x1 carry)]
  unfold kernelRun0_B
  dsimp only
  sl_unfold_words
  rw [View.canon_unit_zero (S := S512x128) start_zero]
  simp only [View.readAt_eq_ld, View.readCov_unit_zero (S := S1x128) _ start_zero, h1.read_unread, h2.read_unread, h5.read_unread, View.ld_unit_zero (S := S512x2048) start_zero, View.ld_unit_zero (S := S2048x128) start_zero, View.ld_unit_zero (S := S1x128) start_zero]
  rfl

theorem out_3_later (c : Dev nD) (i : grid0.Coords) (a1 : Memref sig .tc .vmem S512x2048 .bf16) (h1 : a1.IsWhole) (a2 : Memref sig .tc .vmem S2048x128 .bf16) (h2 : a2.IsWhole) (a3 : Memref sig .tc .vmem S512x128 .f32) (h3 : a3.IsWhole) (a4 : Memref sig .tc .vmem S1x128 .f32) (h4 : a4.IsWhole) (a5 : Memref sig .tc .vmem S1x128 .f32) (h5 : a5.IsWhole) (hc : ¬cond0_0 i)
    (x0 : Vec F S512x2048 .bf16) (x1 : Vec F S2048x128 .bf16) (carry : Vec F S1x128 .f32) :
    out0_B_3 c i a1 h1 a2 h2 a3 h3 a4 h4 a5 h5 hc x0 x1 carry = k0_pay16 laneNo (k0_pay5 x0 x1) (k0_pay8 x0 x1) carry := by
  unfold out0_B_3
  rw [View.read_writes_eq_canon _ _ _ (cover0_B_3 c i a1 h1 a2 h2 a3 h3 a4 h4 a5 h5 hc x0 x1 carry)]
  unfold kernelRun0_B
  dsimp only
  sl_unfold_words
  rw [View.canon_unit_zero (S := S1x128) start_zero]
  simp only [View.readAt_eq_ld, View.readCov_unit_zero (S := S1x128) _ start_zero, h1.read_unread, h2.read_unread, h5.read_unread, View.ld_unit_zero (S := S512x2048) start_zero, View.ld_unit_zero (S := S2048x128) start_zero, View.ld_unit_zero (S := S1x128) start_zero]

theorem carry_later (c : Dev nD) (i : grid0.Coords) (a1 : Memref sig .tc .vmem S512x2048 .bf16) (h1 : a1.IsWhole) (a2 : Memref sig .tc .vmem S2048x128 .bf16) (h2 : a2.IsWhole) (a3 : Memref sig .tc .vmem S512x128 .f32) (h3 : a3.IsWhole) (a4 : Memref sig .tc .vmem S1x128 .f32) (h4 : a4.IsWhole) (a5 : Memref sig .tc .vmem S1x128 .f32) (h5 : a5.IsWhole) (hc : ¬cond0_0 i)
    (x0 : Vec F S512x2048 .bf16) (x1 : Vec F S2048x128 .bf16) (carry : Vec F S1x128 .f32) :
    sout0_B_0 c i a1 h1 a2 h2 a3 h3 a4 h4 a5 h5 hc x0 x1 carry = k0_pay17 laneNo (k0_pay5 x0 x1) (k0_pay8 x0 x1) carry := by
  unfold sout0_B_0
  rw [View.read_writes_eq_canon _ _ _ (scover0_B_0 c i a1 h1 a2 h2 a3 h3 a4 h4 a5 h5 hc x0 x1 carry)]
  unfold kernelRun0_B
  dsimp only
  sl_unfold_words
  rw [View.canon_unit_zero (S := S1x128) start_zero]
  simp only [View.readAt_eq_ld, View.readCov_unit_zero (S := S1x128) _ start_zero, h1.read_unread, h2.read_unread, h5.read_unread, View.ld_unit_zero (S := S512x2048) start_zero, View.ld_unit_zero (S := S2048x128) start_zero, View.ld_unit_zero (S := S1x128) start_zero]

end Cert.MoeRouter

end
-- ==== Proof.RouterRef.lean ====
module

public import proofs.«01_k».proof.Proof.RouterRows
public import proofs.«01_k».proof.Proof.TailRef
public import proofs.«01_k».proof.Proof.Gen.RouterRefIdeal.Run

/-! The router's reference, entry by entry: the two experts of a row and their weights, and how many rows before the row
chose each of them. -/

@[expose] public section

set_option maxRecDepth 16384

noncomputable section

namespace Cert.MoeRouter

open Cert.RouterRefIdeal Cert.RouterRefIdeal.Gen Cert.RouterRefIdeal.Value
open Idealize.ShloMosaic Idealize.ShloMosaic.TcCoe Idealize.ShloMosaic.Tactic

/-- A row's logits. -/
def logit (x : FVec Ideal S16384x2048 .f32) (w : FVec Ideal S2048x8 .f32) (n : ℕ) (j : Fin 8) : EReal :=
  if h : n < 16384 then ∑ q : Fin 2048, (x (ix2 ⟨n, h⟩ q) : EReal) * w (ix2 q j) else 0

def logitsOf (x : FVec Ideal S16384x2048 .f32) (w : FVec Ideal S2048x8 .f32) : FVec Ideal S16384x8 .f32 := Host.dotGeneral dot_S16384x2048_S2048x8_S16384x8_1_0_0_1_n_n none x w

theorem logits_at (x : FVec Ideal S16384x2048 .f32) (w : FVec Ideal S2048x8 .f32) (r : Fin 16384) (j : Fin 8) : (logitsOf x w (ix2 r j) : EReal) = logit x w r.val j := by
  generalize hR : logit x w r.val j = R
  pointwise [logitsOf]
  rw [← hR]
  exact (show logit x w r.val j = _ from dif_pos r.isLt).symm

theorem along_row (h : 1 < S16384x8.rank) (r : Fin 16384) (a : Fin 8) (b : Fin (S16384x8.size ⟨1, h⟩)) : (ix2 r a : S16384x8.Idx).along ⟨1, h⟩ b = ix2 r b := by
  funext x
  match x with
  | 0 => rfl
  | 1 => rfl

theorem topk_value (L : FVec Ideal S16384x8 .f32) (r : Fin 16384) (k : Fin 2) :
    ((Host.topK S16384x2 1 (FloatOps.cmpfTotal .gt) L sliceFits_S16384x8_S16384x2).1 (ix2 r k) : EReal) = L (ix2 r (order (fun j => L (ix2 r j)) ⟨k.val, by omega⟩)) := by
  have e : ∀ G : FVec Ideal S16384x8 .f32, extractStridedSlice S16384x2 (fun _ => 0) G sliceFits_S16384x8_S16384x2 (ix2 r k) = G (ix2 r ⟨k.val, by omega⟩) := fun G => by pointwise
  unfold Host.topK Host.sort2
  simp only [dif_pos (show 1 < S16384x8.rank by decide)]
  refine (e _).trans ?_
  simp only [along_row]
  rfl

theorem topk_place (L : FVec Ideal S16384x8 .f32) (r : Fin 16384) (k : Fin 2) :
    (Host.topK S16384x2 1 (FloatOps.cmpfTotal .gt) L sliceFits_S16384x8_S16384x2).2 (ix2 r k) = BitVec.ofNat 32 (order (fun j => L (ix2 r j)) ⟨k.val, by omega⟩).val := by
  have e : ∀ G : IVec S16384x8 32, extractStridedSlice S16384x2 (fun _ => 0) G sliceFits_S16384x8_S16384x2 (ix2 r k) = G (ix2 r ⟨k.val, by omega⟩) := fun G => by pointwise
  unfold Host.topK Host.sort2
  simp only [dif_pos (show 1 < S16384x8.rank by decide)]
  refine (e _).trans ?_
  simp only [along_row]
  rfl

/-- One where the row's choice is the expert. -/
def hotOf (i : IVec S16384x2 32) : FVec Ideal S16384x2x8 .f32 :=
  uitofp .f32 (cmpi .eq (broadcastInDim S16384x2x8 ![0, 1, 2] bcast_S16384x2x1_S16384x2x8_0_1_2 (broadcastInDim S16384x2x1 ![0, 1] bcast_S16384x2_S16384x2x1_0_1 i)) (broadcastInDim S16384x2x8 ![0, 1, 2] bcast_S1x1x8_S16384x2x8_0_1_2 (iotaInDim S1x1x8 32 2)))

def chosenOf (i : IVec S16384x2 32) : FVec Ideal S16384x8 .f32 := Host.reduceAdd (hotOf i) (constant S_ .f32 0x00000000#32) reducesTo_S16384x2x8_S16384x8_d1 h_S_

def softOf (v : FVec Ideal S16384x2 .f32) : FVec Ideal S16384x2 .f32 :=
  Host.divf (Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))) (broadcastInDim S16384x2 ![0, 1] bcast_S16384x1_S16384x2_0_1 (broadcastInDim S16384x1 ![0] bcast_S16384_S16384x1_0 (Host.reduceAdd (Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))) (constant S_ .f32 0x00000000#32) reducesTo_S16384x2_S16384_d1 h_S_)))

def beforeOf (h : FVec Ideal S16384x8 .f32) : FVec Ideal S16384x8 .f32 :=
  subf (shapeCast S16384x8 (Host.reduceWindowAdd ![1, 16384, 1] ![1, 1, 1] ![0, 16383, 0] ![0, 0, 0] (broadcastInDim S1x16384x8 ![1, 2] bcast_S16384x8_S1x16384x8_1_2 h) (broadcastInDim S_ ![] bcast_S_S_ (constant S_ .f32 0x00000000#32)) reduceWindows_S1x16384x8_S1x16384x8_w1s1p0_0_w16384s1p16383_0_w1s1p0_0 h_S_) shapeCasts_S1x16384x8_S16384x8) h

def rankOf (o : FVec Ideal S16384x2x8 .f32) (b : FVec Ideal S16384x8 .f32) : FVec Ideal S16384x2 .f32 :=
  Host.reduceAdd (mulf o (broadcastInDim S16384x2x8 ![0, 1, 2] bcast_S16384x1x8_S16384x2x8_0_1_2 (broadcastInDim S16384x1x8 ![0, 2] bcast_S16384x8_S16384x1x8_0_2 b))) (constant S_ .f32 0x00000000#32) reducesTo_S16384x2x8_S16384x2_d2 h_S_

def routeOf (p q s : FVec Ideal S16384x2 .f32) : FVec Ideal S16384x128 .f32 :=
  pad S16384x128 ![0, 0] ![0, 122] ![0, 0] ((concatenate S16384x6 1 [⟨S16384x2, p⟩, ⟨S16384x2, q⟩, ⟨S16384x2, s⟩] concatenates_S16384x2_S16384x2_S16384x2_S16384x6_d1 : (⟨S16384x6, .f32⟩ : BufTy).Contents (Elt Ideal))) (sitofp .f32 (constantI S_ 32 0#32)) pads_S16384x6_S16384x128_000_01220 h_S_

def countsOf (h : FVec Ideal S16384x8 .f32) : FVec Ideal S1x128 .f32 :=
  pad S1x128 ![0, 0] ![0, 120] ![0, 0] (broadcastInDim S1x8 ![1] bcast_S8_S1x8_1 (Host.reduceAdd h (constant S_ .f32 0x00000000#32) reducesTo_S16384x8_S8_d0 h_S_)) (sitofp .f32 (constantI S_ 32 0#32)) pads_S1x8_S1x128_000_01200 h_S_

theorem hot_at (i : IVec S16384x2 32) (r : Fin 16384) (k : Fin 2) (a : Fin 8) (h : i (ix2 r k) = BitVec.ofNat 32 a.val) (j : Fin 8) : (hotOf i (ix3 r k j) : EReal) = if j = a then 1 else 0 := by
  generalize hR : (if j = a then (1 : EReal) else 0) = R
  pointwise [hotOf]
  rw [← hR, h, test_eq _ _ (by omega) (by omega)]
  by_cases q : j = a
  · rw [q, decide_eq_true rfl, if_pos rfl]
    show (((BitVec.ofBool true).toNat : ℝ) : EReal) = 1
    simp
  · rw [decide_eq_false fun e => q (Fin.ext e.symm), if_neg q]
    show (((BitVec.ofBool false).toNat : ℝ) : EReal) = 0
    simp

theorem chosen_at (i : IVec S16384x2 32) (r : Fin 16384) (a b : Fin 8) (n : b ≠ a) (h0 : i (ix2 r 0) = BitVec.ofNat 32 a.val) (h1 : i (ix2 r 1) = BitVec.ofNat 32 b.val) (j : Fin 8) :
    (chosenOf i (ix2 r j) : EReal) = (hit a b j.val : ℝ) := by
  have e0 := hot_at i r 0 a h0 j
  have e1 := hot_at i r 1 b h1 j
  generalize hR : ((hit a b j.val : ℝ) : EReal) = R
  unfold chosenOf
  generalize hotOf i = H at e0 e1 ⊢
  pointwise
  rw [← hR, Fin.sum_univ_two, e0, e1]
  unfold hit
  by_cases p : j = a
  · have q : ¬ j = b := fun q => n (q.symm.trans p)
    rw [if_pos p, if_neg q, if_pos (Or.inl (congrArg Fin.val p)), add_zero]
    exact EReal.coe_one.symm
  · rw [if_neg p, zero_add]
    by_cases q : j = b
    · rw [if_pos q, if_pos (Or.inr (congrArg Fin.val q))]
      exact EReal.coe_one.symm
    · rw [if_neg q, if_neg fun h => h.elim (fun h => p (Fin.ext h)) (fun h => q (Fin.ext h))]
      exact EReal.coe_zero.symm

/-- The softmax of two values, the first the greater. -/
theorem soft_at (v : FVec Ideal S16384x2 .f32) (r : Fin 16384) (a b : ℝ) (ha : (v (ix2 r 0) : EReal) = a) (hb : (v (ix2 r 1) : EReal) = b) (l : b ≤ a) (k : Fin 2) :
    (softOf v (ix2 r k) : EReal) = Ideal.div (Ideal.exp (v (ix2 r k) - (a : EReal))) (1 + Ideal.exp ((b : EReal) - (a : EReal))) := by
  generalize hR : Ideal.div (Ideal.exp (v (ix2 r k) - (a : EReal))) (1 + Ideal.exp ((b : EReal) - (a : EReal))) = R
  pointwise [softOf]
  have m : (Finset.univ : Finset (Fin 2)).fold max (⊥ : EReal) (fun x => v (ix2 r x)) = a :=
    (max_pick (fun x : Fin 2 => (v (ix2 r x) : EReal)) 0 fun x => by
      match x with
      | 0 => exact le_rfl
      | 1 => rw [ha, hb]; exact EReal.coe_le_coe_iff.mpr l).trans ha
  have z : Ideal.exp ((a : EReal) - (a : EReal)) = 1 := by
    rw [← EReal.coe_sub, sub_self]
    show ((Real.exp 0 : ℝ) : EReal) = 1
    rw [Real.exp_zero]
    exact EReal.coe_one
  rw [low, m, max_eq_right bot_le, Fin.sum_univ_two, ha, hb, z, hR]

theorem zero_word (i : S_.Idx) : ((broadcastInDim S_ ![] bcast_S_S_ (constant S_ .f32 0x00000000#32) : FVec Ideal S_ .f32) i : EReal) = 0 := by
  obtain rfl : i = ix0 := funext fun a => a.elim0
  pointwise

/-- The rows before a row that chose an expert. -/
theorem before_of (h : FVec Ideal S16384x8 .f32) (H : ℕ → ℝ) (j : Fin 8) (e : ∀ r : Fin 16384, (h (ix2 r j) : EReal) = (H r.val : ℝ)) (r : Fin 16384) :
    (beforeOf h (ix2 r j) : EReal) = ∑ k ∈ Finset.range r.val, ((H k : ℝ) : EReal) := by
  have w := Cert.MixerTail.window_sum 16383 (broadcastInDim S1x16384x8 ![1, 2] bcast_S16384x8_S1x16384x8_1_2 h : FVec Ideal S1x16384x8 .f32) S_ (broadcastInDim S_ ![] bcast_S_S_ (constant S_ .f32 0x00000000#32)) h_S_ (zero_word (Shape.Idx.first h_S_))
    reduceWindows_S1x16384x8_S1x16384x8_w1s1p0_0_w16384s1p16383_0_w1s1p0_0 0 r j
  simp only [Nat.reduceAdd] at w
  have b : ∀ t : Fin 16384, ((broadcastInDim S1x16384x8 ![1, 2] bcast_S16384x8_S1x16384x8_1_2 h : FVec Ideal S1x16384x8 .f32) (ix3 0 t j) : EReal) = (H t.val : ℝ) := fun t => by
    rw [← e]
    pointwise
  unfold beforeOf
  generalize (Host.reduceWindowAdd ![1, 16384, 1] ![1, 1, 1] ![0, 16383, 0] ![0, 0, 0] (broadcastInDim S1x16384x8 ![1, 2] bcast_S16384x8_S1x16384x8_1_2 h) (broadcastInDim S_ ![] bcast_S_S_ (constant S_ .f32 0x00000000#32)) reduceWindows_S1x16384x8_S1x16384x8_w1s1p0_0_w16384s1p16383_0_w1s1p0_0 h_S_ : FVec Ideal S1x16384x8 .f32) = W at w ⊢
  generalize (broadcastInDim S1x16384x8 ![1, 2] bcast_S16384x8_S1x16384x8_1_2 h : FVec Ideal S1x16384x8 .f32) = X at w b
  generalize hR : ∑ k ∈ Finset.range r.val, ((H k : ℝ) : EReal) = R
  pointwise
  have s : ∀ k : ℕ, Cert.MixerTail.rowBack X 0 r j k = if k ≤ r.val then ((H (r.val + 1 - 1 - k) : ℝ) : EReal) else 0 := fun k => by
    unfold Cert.MixerTail.rowBack
    split
    · exact b _
    · rfl
  rw [← hR, w, e, Finset.sum_congr rfl fun k _ => s k, ← Finset.sum_filter,
    show (Finset.range 16384).filter (fun k => k ≤ r.val) = Finset.range (r.val + 1) from by ext k; simp only [Finset.mem_filter, Finset.mem_range]; omega,
    Finset.sum_range_reflect (fun k => ((H k : ℝ) : EReal)) (r.val + 1), Finset.sum_range_succ, EReal.add_sub_cancel_right]

theorem rank_of (o : FVec Ideal S16384x2x8 .f32) (b : FVec Ideal S16384x8 .f32) (r : Fin 16384) (k : Fin 2) (a : Fin 8) (ho : ∀ j, (o (ix3 r k j) : EReal) = if j = a then 1 else 0) :
    (rankOf o b (ix2 r k) : EReal) = b (ix2 r a) := by
  pointwise [rankOf]
  rw [Finset.sum_eq_single a (fun x _ n => by rw [ho, if_neg n, zero_mul]) fun h => absurd (Finset.mem_univ _) h, ho, if_pos rfl, one_mul]

theorem pad_zero : (FloatOps.sitofp (F := Ideal) .f32 0#32 : EReal) = 0 := by
  show (((0#32 : BitVec 32).toInt : ℝ) : EReal) = 0
  simp

theorem route_of (p q s : FVec Ideal S16384x2 .f32) (r : Fin 16384) (l : Fin 128) :
    (routeOf p q s (ix2 r l) : EReal) = routed (p (ix2 r 0)) (p (ix2 r 1)) (q (ix2 r 0)) (q (ix2 r 1)) (s (ix2 r 0)) (s (ix2 r 1)) l.val := by
  generalize hR : routed (p (ix2 r 0)) (p (ix2 r 1)) (q (ix2 r 0)) (q (ix2 r 1)) (s (ix2 r 0)) (s (ix2 r 1)) l.val = R
  pointwise [routeOf]
  rw [← hR, pad_zero]
  obtain ⟨n, hn⟩ := l
  unfold routed
  by_cases c : n < 6
  · rw [dif_pos (show (⟨n, hn⟩ : Fin 128).val < 6 from c)]
    interval_cases n <;> rfl
  · rw [dif_neg (show ¬ (⟨n, hn⟩ : Fin 128).val < 6 from c)]
    dsimp only
    rw [if_neg (by omega), if_neg (by omega), if_neg (by omega), if_neg (by omega), if_neg (by omega), if_neg (by omega)]

theorem counts_of (h : FVec Ideal S16384x8 .f32) (l : Fin 128) : (countsOf h (ix2 0 l) : EReal) = if c : l.val < 8 then ∑ x : Fin 16384, (h (ix2 x ⟨l.val, c⟩) : EReal) else 0 := by
  generalize hR : (if c : l.val < 8 then ∑ x : Fin 16384, (h (ix2 x ⟨l.val, c⟩) : EReal) else 0) = R
  pointwise [countsOf]
  rw [← hR, pad_zero]

/-- The row's two experts. -/
def pick0 (x : FVec Ideal S16384x2048 .f32) (w : FVec Ideal S2048x8 .f32) (n : ℕ) : Fin 8 := order (logit x w n) 0
def pick1 (x : FVec Ideal S16384x2048 .f32) (w : FVec Ideal S2048x8 .f32) (n : ℕ) : Fin 8 := order (logit x w n) 1

/-- How many of the first rows chose an expert. -/
def chose (x : FVec Ideal S16384x2048 .f32) (w : FVec Ideal S2048x8 .f32) (n e : ℕ) : EReal := ∑ k ∈ Finset.range n, ((hit (pick0 x w k) (pick1 x w k) e : ℝ) : EReal)

/-- How much the row's second expert counts beside its first. -/
def ratio (x : FVec Ideal S16384x2048 .f32) (w : FVec Ideal S2048x8 .f32) (n : ℕ) : EReal := Ideal.exp (logit x w n (pick1 x w n) - logit x w n (pick0 x w n))

/-- The route's entries. -/
def routeAt (x : FVec Ideal S16384x2048 .f32) (w : FVec Ideal S2048x8 .f32) (n l : ℕ) : EReal :=
  routed (Ideal.div 1 (1 + ratio x w n)) (Ideal.div (ratio x w n) (1 + ratio x w n)) (FloatOps.sitofp (F := Ideal) .f32 (BitVec.ofNat 32 (pick0 x w n).val)) (FloatOps.sitofp (F := Ideal) .f32 (BitVec.ofNat 32 (pick1 x w n).val))
    (chose x w n (pick0 x w n).val) (chose x w n (pick1 x w n).val) l

section

variable (x : FVec Ideal S16384x2048 .f32) (w : FVec Ideal S2048x8 .f32)

def topsOf : FVec Ideal S16384x2 .f32 := (Host.topK S16384x2 1 (FloatOps.cmpfTotal .gt) (logitsOf x w) sliceFits_S16384x8_S16384x2).1
def placesOf : IVec S16384x2 32 := (Host.topK S16384x2 1 (FloatOps.cmpfTotal .gt) (logitsOf x w) sliceFits_S16384x8_S16384x2).2

theorem row_logits (r : Fin 16384) : (fun j => (logitsOf x w (ix2 r j) : EReal)) = logit x w r.val := funext fun j => logits_at x w r j

theorem tops_at (r : Fin 16384) (k : Fin 2) : (topsOf x w (ix2 r k) : EReal) = logit x w r.val (order (logit x w r.val) ⟨k.val, by omega⟩) := by
  unfold topsOf
  rw [topk_value, row_logits, logits_at]

theorem places_at (r : Fin 16384) (k : Fin 2) : placesOf x w (ix2 r k) = BitVec.ofNat 32 (order (logit x w r.val) ⟨k.val, by omega⟩).val := by
  unfold placesOf
  rw [topk_place, row_logits]

theorem all_chosen (r : Fin 16384) (j : Fin 8) : (chosenOf (placesOf x w) (ix2 r j) : EReal) = (hit (pick0 x w r.val) (pick1 x w r.val) j.val : ℝ) :=
  chosen_at _ r _ _ (order_picks (logit x w r.val)).ne (places_at x w r 0) (places_at x w r 1) j

theorem all_before (r : Fin 16384) (j : Fin 8) : (beforeOf (chosenOf (placesOf x w)) (ix2 r j) : EReal) = chose x w r.val j.val :=
  before_of _ (fun n => hit (pick0 x w n) (pick1 x w n) j.val) j (fun r => all_chosen x w r j) r

/-- The reference's route. -/
theorem ref_route (hf : ∀ n j, ∃ a : ℝ, logit x w n j = a) (r : Fin 16384) (l : Fin 128) :
    (routeOf (softOf (topsOf x w)) (sitofp .f32 (placesOf x w)) (rankOf (hotOf (placesOf x w)) (beforeOf (chosenOf (placesOf x w)))) (ix2 r l) : EReal) = routeAt x w r.val l.val := by
  obtain ⟨a, ha⟩ := hf r.val (pick0 x w r.val)
  obtain ⟨b, hb⟩ := hf r.val (pick1 x w r.val)
  have le : b ≤ a := EReal.coe_le_coe_iff.mp (by rw [← ha, ← hb]; exact (order_picks (logit x w r.val)).top _)
  have t0 : (topsOf x w (ix2 r 0) : EReal) = a := (tops_at x w r 0).trans ha
  have t1 : (topsOf x w (ix2 r 1) : EReal) = b := (tops_at x w r 1).trans hb
  have z : Ideal.exp ((a : EReal) - (a : EReal)) = 1 := by
    rw [← EReal.coe_sub, sub_self]
    show ((Real.exp 0 : ℝ) : EReal) = 1
    rw [Real.exp_zero]
    exact EReal.coe_one
  have s0 := soft_at (topsOf x w) r a b t0 t1 le 0
  have s1 := soft_at (topsOf x w) r a b t0 t1 le 1
  rw [t0, z] at s0
  rw [t1] at s1
  rw [route_of, s0, s1, rank_of _ _ r 0 (pick0 x w r.val) (hot_at _ r 0 _ (places_at x w r 0)), rank_of _ _ r 1 (pick1 x w r.val) (hot_at _ r 1 _ (places_at x w r 1)), all_before, all_before]
  unfold routeAt ratio
  rw [ha, hb]
  show routed _ _ (FloatOps.sitofp (F := Ideal) .f32 (placesOf x w (ix2 r 0))) (FloatOps.sitofp (F := Ideal) .f32 (placesOf x w (ix2 r 1))) _ _ _ = _
  rw [places_at, places_at]
  rfl

/-- The reference's counts. -/
theorem ref_counts (l : Fin 128) : (countsOf (chosenOf (placesOf x w)) (ix2 0 l) : EReal) = chose x w 16384 l.val := by
  rw [counts_of]
  unfold chose
  split
  · rw [Finset.sum_range]
    exact Finset.sum_congr rfl fun r _ => all_chosen x w r _
  · next c =>
    refine (Finset.sum_eq_zero fun k _ => ?_).symm
    unfold hit
    rw [if_neg fun h => c (by rcases h with h | h <;> rw [h] <;> exact Fin.isLt _)]
    exact EReal.coe_zero

end

section

variable (m : (ℓ : Loc nD τ sig) → Buf (Elt Ideal) ℓ) (c : Dev nD)

theorem res_route : res_main_v27 m c = routeOf (softOf (topsOf (m ((c.tc : Thread nD τ).loc main_arg0)) (m ((c.tc : Thread nD τ).loc main_arg1)))) (sitofp .f32 (placesOf (m ((c.tc : Thread nD τ).loc main_arg0)) (m ((c.tc : Thread nD τ).loc main_arg1))))
    (rankOf (hotOf (placesOf (m ((c.tc : Thread nD τ).loc main_arg0)) (m ((c.tc : Thread nD τ).loc main_arg1)))) (beforeOf (chosenOf (placesOf (m ((c.tc : Thread nD τ).loc main_arg0)) (m ((c.tc : Thread nD τ).loc main_arg1)))))) := by
  unfold res_main_v27 routeOf softOf rankOf beforeOf chosenOf hotOf topsOf placesOf logitsOf
  rfl

end

end Cert.MoeRouter

end
-- ==== Proof.RouterArrays.lean ====
module

public import proofs.«01_k».proof.Proof.RouterCase
public import proofs.«01_k».proof.Proof.RouterRef

/-! The arrays of the router: each grid point's blocks are the arguments' rows, and the counts each leaves are those of
the rows so far. -/

@[expose] public section

set_option maxRecDepth 16384

noncomputable section

namespace Cert.MoeRouter

open Cert.RouterIdeal Cert.RouterIdeal.Gen Cert.RouterIdeal.Value
open Idealize.ShloMosaic Idealize.ShloMosaic.TcCoe Idealize.ShloMosaic.Tactic
open Idealize.SL Idealize.SL.Sem
open Idealize.ShloMosaic.Pipeline (Dat)

theorem zeros_at (l : Fin 128) : (k0_pay2 (F := Ideal) (ix2 0 l) : EReal) = 0 := by
  pointwise [k0_pay2]

theorem kept_at (u v : IVec S512x1 32) (c : Vec Ideal S1x128 .f32) (l : Fin 128) : (k0_pay17 (F := Ideal) laneNo u v c (ix2 0 l) : EReal) = k0_pay16 (F := Ideal) laneNo u v c (ix2 0 l) := by
  unfold k0_pay17
  generalize k0_pay16 (F := Ideal) laneNo u v c = L
  pointwise

/-- The rows chosen so far, and those of a block after them. -/
theorem chose_add (x : FVec Ideal S16384x2048 .f32) (w : FVec Ideal S2048x8 .f32) (n k e : ℕ) :
    chose x w n e + ∑ i ∈ Finset.range k, ((hit (pick0 x w (n + i)) (pick1 x w (n + i)) e : ℝ) : EReal) = chose x w (n + k) e :=
  (Finset.sum_range_add _ _ _).symm

section

variable (x : FVec Ideal S16384x2048 .f32) (w : FVec Ideal S2048x8 .f32) (hf : ∀ n j, ∃ a : ℝ, logit x w n j = a) (n : ℕ) (x0 : Vec Ideal S512x2048 .bf16) (x1 : Vec Ideal S2048x128 .bf16) (hL : Logits x0 x1 fun k => logit x w (n + k))
    (carry : Vec Ideal S1x128 .f32) (hc : ∀ l : Fin 128, (carry (ix2 0 l) : EReal) = chose x w n l.val)
include hf hL hc

/-- A block's route, over the rows chosen before it. -/
theorem block_route (r : Fin 512) (l : Fin 128) : (routeBlock (F := Ideal) x0 x1 carry (ix2 r l) : EReal) = routeAt x w (n + r.val) l.val := by
  have hp : ∀ k, Picks (logit x w (n + k)) (pick0 x w (n + k)) (pick1 x w (n + k)) := fun k => order_picks (logit x w (n + k))
  have hb : ∀ k j, logit x w (n + k) j ≠ ⊥ := fun k j => by
    obtain ⟨a, e⟩ := hf (n + k) j
    rw [e]
    exact EReal.coe_ne_bot a
  have t0 := top_lane x0 x1 (fun k => logit x w (n + k)) hL (fun k => pick0 x w (n + k)) (fun k => pick1 x w (n + k)) hp hb
  have t1 := next_lane x0 x1 (fun k => logit x w (n + k)) hL (fun k => pick0 x w (n + k)) (fun k => pick1 x w (n + k)) hp hb
  unfold routeBlock
  rw [route_at, weight_first x0 x1 (fun k => logit x w (n + k)) hL (fun k => pick0 x w (n + k)) (fun k => pick1 x w (n + k)) hp hb, weight_second x0 x1 (fun k => logit x w (n + k)) hL (fun k => pick0 x w (n + k)) (fun k => pick1 x w (n + k)) hp hb, t0, t1, rank_first (k0_pay5 x0 x1) (k0_pay8 x0 x1) (fun k => pick0 x w (n + k)) (fun k => pick1 x w (n + k)) t0 t1, rank_second (k0_pay5 x0 x1) (k0_pay8 x0 x1) (fun k => pick0 x w (n + k)) (fun k => pick1 x w (n + k)) t0 t1, before_at (k0_pay5 x0 x1) (k0_pay8 x0 x1) (fun k => pick0 x w (n + k)) (fun k => pick1 x w (n + k)) t0 t1, before_at (k0_pay5 x0 x1) (k0_pay8 x0 x1) (fun k => pick0 x w (n + k)) (fun k => pick1 x w (n + k)) t0 t1, hc, hc, chose_add, chose_add]
  rfl

/-- The counts after it. -/
theorem block_counts (l : Fin 128) : (k0_pay16 (F := Ideal) laneNo (k0_pay5 x0 x1) (k0_pay8 x0 x1) carry (ix2 0 l) : EReal) = chose x w (n + 512) l.val := by
  have hp : ∀ k, Picks (logit x w (n + k)) (pick0 x w (n + k)) (pick1 x w (n + k)) := fun k => order_picks (logit x w (n + k))
  have hb : ∀ k j, logit x w (n + k) j ≠ ⊥ := fun k j => by
    obtain ⟨a, e⟩ := hf (n + k) j
    rw [e]
    exact EReal.coe_ne_bot a
  have t0 := top_lane x0 x1 (fun k => logit x w (n + k)) hL (fun k => pick0 x w (n + k)) (fun k => pick1 x w (n + k)) hp hb
  have t1 := next_lane x0 x1 (fun k => logit x w (n + k)) hL (fun k => pick0 x w (n + k)) (fun k => pick1 x w (n + k)) hp hb
  rw [count_at (k0_pay5 x0 x1) (k0_pay8 x0 x1) (fun k => pick0 x w (n + k)) (fun k => pick1 x w (n + k)) t0 t1, hc, chose_add]

end

variable (m : (ℓ : Loc nD τ sig) → Buf (Elt Ideal) ℓ)

theorem point_of (t : Fin grid0.N) : (grid0.coords t 0).val = t.val := by
  have ht : t.val < 32 := Nat.lt_of_lt_of_eq t.isLt N_0
  have e : (grid0.coords t 0).val = t.val / 1 % 32 := Pipeline.Grid.coords_val t 0 (by decide) rfl
  rw [e]; omega

theorem row_word (t : Fin grid0.N) : (BitVec.ofNat 32 (grid0.coords t 0).val).toNat = t.val := by
  have ht : t.val < 32 := Nat.lt_of_lt_of_eq t.isLt N_0
  rw [point_of, BitVec.toNat_ofNat]; omega

theorem place_0 (t : Fin grid0.N) : (cfg0.win 0).index t = ![t.val, 0] := congrArg (fun n : ℕ => (![n, 0] : Fin 2 → ℕ)) (row_word t)
theorem read_0 (c : Dev nD) (t : Fin grid0.N) (y : S512x2048.Idx) (z : S16384x2048.Idx) (h0 : (z 0).val = t.val * 512 + (y 0).val) (h1 : (z 1).val = (y 1).val) :
    (iblk m c 0 t : Vec Ideal S512x2048 .bf16) y = (V m c main_v0 : S16384x2048.Idx → EReal) z := by
  refine congrArg (V m c main_v0) (funext fun q => Fin.ext ?_)
  refine (Pipeline.Window.rect_emb_val (cfg0.win 0) t y q).trans ?_
  rw [place_0]
  fin_cases q
  · exact h0.symm
  · exact (Nat.zero_add _).trans h1.symm

theorem place_1 (t : Fin grid0.N) : (cfg0.win 1).index t = ![0, 0] := rfl
theorem read_1 (c : Dev nD) (t : Fin grid0.N) (y : S2048x128.Idx) : (iblk m c 1 t : Vec Ideal S2048x128 .bf16) y = (V m c main_v2 : S2048x128.Idx → EReal) y := by
  refine congrArg (V m c main_v2) (funext fun q => Fin.ext ?_)
  refine (Pipeline.Window.rect_emb_val (cfg0.win 1) t y q).trans ?_
  rw [place_1]
  fin_cases q <;> exact Nat.zero_add _

theorem V_rows (c : Dev nD) (z : S16384x2048.Idx) : (V m c main_v0 z : EReal) = m ((c : Thread nD τ).loc main_arg0) z := by
  have e : V m c main_v0 = truncf .bf16 (show FVec Ideal S16384x2048 .f32 from m ((c : Thread nD τ).loc main_arg0)) bitsLt_bf16_f32 := by unfold V; after_reads_simp
  rw [e]; rfl

theorem lane_at (W : FVec Ideal S2048x8 .f32) (q : Fin 2048) (j : Fin 8) :
    ((truncf .bf16 (pad S2048x128 ![0, 0] ![0, 120] ![0, 0] W (sitofp .f32 (constantI S_ 32 0#32)) pads_S2048x8_S2048x128_000_01200 h_S_ : FVec Ideal S2048x128 .f32) bitsLt_bf16_f32 : FVec Ideal S2048x128 .bf16) (ix2 q ⟨j.val, by omega⟩) : EReal) = W (ix2 q j) := by
  pointwise

theorem V_lanes (c : Dev nD) (q : Fin 2048) (j : Fin 8) : (V m c main_v2 (ix2 q ⟨j.val, by omega⟩) : EReal) = m ((c : Thread nD τ).loc main_arg1) (ix2 q j) := by
  have e : V m c main_v2 = truncf .bf16 (show FVec Ideal S2048x128 .f32 from pad S2048x128 ![0, 0] ![0, 120] ![0, 0] (m ((c : Thread nD τ).loc main_arg1)) (sitofp .f32 (constantI S_ 32 0#32)) pads_S2048x8_S2048x128_000_01200 h_S_) bitsLt_bf16_f32 := by unfold V; after_reads_simp; rfl
  rw [e]
  exact lane_at _ q j

section

variable (c : Dev nD)

theorem block_logits (t : Fin grid0.N) : Logits (iblk m c 0 t) (iblk m c 1 t) fun k => logit (m ((c : Thread nD τ).loc main_arg0)) (m ((c : Thread nD τ).loc main_arg1)) (t.val * 512 + k) := fun r j => by
  have ht : t.val < 32 := Nat.lt_of_lt_of_eq t.isLt N_0
  have hr : t.val * 512 + r.val < 16384 := by omega
  refine Eq.trans (Finset.sum_congr rfl fun q _ => ?_) (show logit _ _ (t.val * 512 + r.val) j = _ from dif_pos hr).symm
  exact congrArg₂ (fun a b : EReal => a * b) ((read_0 m c t (ix2 r q) (ix2 ⟨_, hr⟩ q) rfl rfl).trans (V_rows m c _)) ((read_1 m c t _).trans (V_lanes m c q j))

variable (hf : ∀ n j, ∃ a : ℝ, logit (m ((c : Thread nD τ).loc main_arg0)) (m ((c : Thread nD τ).loc main_arg1)) n j = a)
include hf

/-- What a point leaves: its rows of the route, and the counts so far, twice. -/
theorem point_all (n : ℕ) (hn : n < cfg0.N) :
    (∀ (r : Fin 512) (l : Fin 128), ((outsAt0 m c n hn).1 (ix2 r l) : EReal) = routeAt (m ((c : Thread nD τ).loc main_arg0)) (m ((c : Thread nD τ).loc main_arg1)) (n * 512 + r.val) l.val)
    ∧ (∀ l : Fin 128, ((outsAt0 m c n hn).2.1 (ix2 0 l) : EReal) = chose (m ((c : Thread nD τ).loc main_arg0)) (m ((c : Thread nD τ).loc main_arg1)) (n * 512 + 512) l.val)
    ∧ (∀ l : Fin 128, ((outsAt0 m c n hn).2.2 (ix2 0 l) : EReal) = chose (m ((c : Thread nD τ).loc main_arg0)) (m ((c : Thread nD τ).loc main_arg1)) (n * 512 + 512) l.val) := by
  have hN := Nat.lt_of_lt_of_eq hn N_0
  induction n with
  | zero =>
    have hc : ∀ l : Fin 128, (k0_pay2 (F := Ideal) (ix2 0 l) : EReal) = chose (m ((c : Thread nD τ).loc main_arg0)) (m ((c : Thread nD τ).loc main_arg1)) (0 * 512) l.val := fun l => (zeros_at l).trans (Finset.sum_range_zero _).symm
    have hL := block_logits m c ⟨0, hn⟩
    rw [show outsAt0 m c 0 hn = _ from outsAt0_A m c ⟨0, hn⟩ rfl]
    dsimp only
    rw [out_2_first, out_3_first, carry_first]
    exact ⟨block_route _ _ hf _ _ _ hL _ hc, block_counts _ _ hf _ _ _ hL _ hc, fun l => (kept_at _ _ _ l).trans (block_counts _ _ hf _ _ _ hL _ hc l)⟩
  | succ n ih =>
    have hc := (ih (Nat.lt_of_succ_lt hn) (by omega)).2.2
    rw [← Nat.succ_mul] at hc
    have hL := block_logits m c ⟨n + 1, hn⟩
    rw [show outsAt0 m c (n + 1) hn = _ from outsAt0_B m c ⟨n + 1, hn⟩ (by show ¬ (n + 1) % 32 = 0; omega)]
    dsimp only
    rw [out_2_later, out_3_later, carry_later]
    exact ⟨block_route _ _ hf _ _ _ hL _ hc, block_counts _ _ hf _ _ _ hL _ hc, fun l => (kept_at _ _ _ l).trans (block_counts _ _ hf _ _ _ hL _ hc l)⟩

/-- The kernel's route. -/
theorem kernel_route (r : Fin 16384) (l : Fin 128) : (G2 m c (ix2 r l) : EReal) = routeAt (m ((c : Thread nD τ).loc main_arg0)) (m ((c : Thread nD τ).loc main_arg1)) r.val l.val := by
  have hr := r.isLt
  have hl := l.isLt
  have hp : pt2Of (ix2 r l) = r.val / 512 := by
    show 1 * (r.val / 512 - 0) + 1 * (l.val / 128 - 0) = _
    omega
  have hb : r.val / 512 < cfg0.N := lt_of_lt_of_eq (by omega) N_0.symm
  have hi : loc2Of (ix2 r l) = ix2 ⟨r.val % 512, Nat.mod_lt _ (by decide)⟩ l := by
    funext a; apply Fin.ext
    match a with
    | ⟨0, _⟩ => rfl
    | ⟨1, _⟩ => show l.val % 128 = l.val; omega
  unfold G2
  rw [dif_pos (by rw [hp]; exact hb), hi, fold0_congr m c _ _ _ (by rw [Nat.zero_add]; exact hb) hp, ← outsAt0_sweep m c (r.val / 512) hb, (point_all m c hf _ hb).1]
  refine congrArg (fun n => routeAt _ _ n l.val) ?_
  show r.val / 512 * 512 + r.val % 512 = r.val
  omega

/-- The kernel's counts. -/
theorem kernel_counts (l : Fin 128) : (G3 m c (ix2 0 l) : EReal) = chose (m ((c : Thread nD τ).loc main_arg0)) (m ((c : Thread nD τ).loc main_arg1)) 16384 l.val := by
  have hb : 31 < cfg0.N := lt_of_lt_of_eq (by decide) N_0.symm
  rw [G3_last, ← outsAt0_sweep m c 31 hb, (point_all m c hf _ hb).2.1]

end

end Cert.MoeRouter

end
-- ==== Proof.RouterPre.lean ====
module

public import proofs.«01_k».proof.Pre_finite
public import proofs.«01_k».proof.Proof.RouterRef

/-! Arguments whose entries are finite have finite logits. -/

@[expose] public section

set_option maxRecDepth 16384

noncomputable section

namespace Cert.MoeRouter

open Cert.Pre_finite
open Idealize.ShloMosaic Idealize.ShloMosaic.TcCoe Idealize.ShloMosaic.Tactic

/-- The side conditions the precondition's operations take. -/
theorem pre_facts : Cert.Pre_finite.Facts where
  bcast_S_S16384x2048 := by decide
  bcast_S_S2048x8 := by decide

/-- The word the precondition compares with is infinity. -/
theorem top_word : (Ideal.ofBits FTy.f32 2139095040#32 : EReal) = ⊤ := by simp [Ideal.ofBits, Ideal.ieee]

/-- An extended real whose absolute value is below infinity is a real. -/
theorem real_of (v : EReal) (h : max v (-v) < (⊤ : EReal)) : ∃ a : ℝ, v = a := by
  induction v using EReal.rec with
  | bot => exact absurd h (by simp)
  | top => exact absurd h (by simp)
  | coe a => exact ⟨a, rfl⟩

/-- The precondition's comparison of one entry. -/
theorem real_of_test (v : Ideal .f32) (h : BitVec.ofBool (decide (FloatOps.absf v < Ideal.ofBits FTy.f32 2139095040#32)) = 1#1) : ∃ a : ℝ, (v : EReal) = a := by
  refine real_of v ?_
  rw [top_word] at h
  by_contra hv
  rw [decide_eq_false (show ¬ (FloatOps.absf v < (⊤ : EReal)) from hv)] at h
  exact absurd h (by decide)

/-- A finite sum of reals is a real. -/
theorem sum_real {ι : Type} (s : Finset ι) (f : ι → EReal) (h : ∀ q, ∃ a : ℝ, f q = a) : ∃ a : ℝ, ∑ q ∈ s, f q = a := by
  choose g hg using h
  classical
  induction s using Finset.induction_on with
  | empty => exact ⟨0, by simp⟩
  | insert q s hq ih =>
    obtain ⟨a, ha⟩ := ih
    exact ⟨g q + a, by rw [Finset.sum_insert hq, ha, hg, EReal.coe_add]⟩

/-- The logits of finite rows and weights are finite. -/
theorem logits_real (x : FVec Ideal S16384x2048 .f32) (w : FVec Ideal S2048x8 .f32) (hx : ∀ r q, ∃ a : ℝ, (x (ix2 r q) : EReal) = a) (hw : ∀ q j, ∃ a : ℝ, (w (ix2 q j) : EReal) = a) (n : ℕ) (j : Fin 8) : ∃ a : ℝ, logit x w n j = a := by
  unfold logit
  split
  · next h =>
    refine sum_real _ _ fun q => ?_
    obtain ⟨a, ha⟩ := hx ⟨n, h⟩ q
    obtain ⟨b, hb⟩ := hw q j
    exact ⟨a * b, by rw [ha, hb, EReal.coe_mul]⟩
  · exact ⟨0, EReal.coe_zero.symm⟩

variable [hF : Cert.Pre_finite.Facts]

/-- What the precondition says of the rows. -/
theorem rows_real (x : FVec Ideal S16384x2048 .f32) (w : FVec Ideal S2048x8 .f32) (h : (Cert.Pre_finite.fn (F := Ideal) x w).1 = fun _ => 1#1) (r : Fin 16384) (q : Fin 2048) : ∃ a : ℝ, (x (ix2 r q) : EReal) = a := by
  refine real_of_test _ (Eq.trans (Eq.symm ?_) (congrFun h (ix2 r q)))
  unfold Cert.Pre_finite.fn
  pointwise

/-- What the precondition says of the weights. -/
theorem weights_real (x : FVec Ideal S16384x2048 .f32) (w : FVec Ideal S2048x8 .f32) (h : (Cert.Pre_finite.fn (F := Ideal) x w).2 = fun _ => 1#1) (q : Fin 2048) (j : Fin 8) : ∃ a : ℝ, (w (ix2 q j) : EReal) = a := by
  refine real_of_test _ (Eq.trans (Eq.symm ?_) (congrFun h (ix2 q j)))
  unfold Cert.Pre_finite.fn
  pointwise

end Cert.MoeRouter

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Dense
public import proofs.«01_k».proof.Proof.Gen.DenseIdeal
public import proofs.«01_k».proof.Proof.Gen.DenseIdeal.Value
public import proofs.«01_k».proof.Proof.Gen.DenseRefIdeal
public import proofs.«01_k».proof.Proof.Gen.DenseRefIdeal.Run
public import proofs.«01_k».proof.Proof.Gen.Gates
public import proofs.«01_k».proof.Proof.Gen.GatesIdeal
public import proofs.«01_k».proof.Proof.Gen.GatesIdeal.Value
public import proofs.«01_k».proof.Proof.Gen.GatesRefIdeal
public import proofs.«01_k».proof.Proof.Gen.GatesRefIdeal.Run
public import proofs.«01_k».proof.Proof.Gen.Mix
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.Tail
public import proofs.«01_k».proof.Proof.Gen.TailIdeal
public import proofs.«01_k».proof.Proof.Gen.TailIdeal.Value
public import proofs.«01_k».proof.Proof.Gen.TailRefIdeal
public import proofs.«01_k».proof.Proof.Gen.TailRefIdeal.Run
public import proofs.«01_k».proof.Proof.Gen.Router
public import proofs.«01_k».proof.Proof.Gen.RouterIdeal
public import proofs.«01_k».proof.Proof.Gen.RouterIdeal.Value
public import proofs.«01_k».proof.Proof.Gen.RouterRefIdeal
public import proofs.«01_k».proof.Proof.Gen.RouterRefIdeal.Run
public import proofs.«01_k».proof.Proof.RefValue
public import proofs.«01_k».proof.Proof.DenseRef
public import proofs.«01_k».proof.Proof.GatesValue
public import proofs.«01_k».proof.Proof.MixValue
public import proofs.«01_k».proof.Proof.TailArrays
public import proofs.«01_k».proof.Proof.TailRef
public import proofs.«01_k».proof.Proof.RouterArrays
public import proofs.«01_k».proof.Proof.RouterPre
public import Idealize.ShloMosaic.Adequacy
public import Idealize.ShloMosaic.Init

@[expose] public section

noncomputable section

namespace Cert.Proof

open Idealize.ShloMosaic Idealize.SL.Sem

/-- What a frame says of the program over any float values: it runs to the end with its arguments as they were and every
    counter at zero. -/
def FrameAt (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The program's frame, over any float values. -/
theorem frame_any (F : FTy → Type) [FloatOps F] : FrameAt F := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.Moe.run_args m ρ (Cert.Moe.ok m))

theorem frame_ideal : Cert.quiescent_KernelIdeal := frame_any Ideal

/-- The two programs are one text, so one statement is the other. -/
theorem frame_same : Cert.quiescent_Kernel = FrameAt Bits := by
  sl_kernel_rfl

theorem frame_bits : Cert.quiescent_Kernel := frame_same.mpr (frame_any Bits)

/-- The reference runs to the end with its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the two programs leave equal results. -/
theorem equal_results : Cert.algebraic_KernelIdeal_ReferenceIdeal := fun m g m' g' _ hm =>
  ⟨fun c => Cert.Moe.result m c,
    (θ_run Cert.KernelIdeal.defs _ _).mono (fun _ h c => ⟨(h.1 c).2.2.2.2.2.trans (Cert.Moe.arr_eq m (Cert.Moe.ok m) c),
      (h.1 c).1, (h.1 c).2.1, (h.1 c).2.2.1, (h.1 c).2.2.2.1, (h.1 c).2.2.2.2.1⟩) (Cert.Moe.run_args m g (Cert.Moe.ok m)),
    (θ_run Cert.ReferenceIdeal.defs _ _).mono (fun _ h c => ⟨(h c).1.trans
        (Cert.Moe.result_eq m m' c (hm c).1 (hm c).2.1 (hm c).2.2.1 (hm c).2.2.2.1 (hm c).2.2.2.2), (h c).2⟩) (Cert.Moe.Ref.run_result m' g')⟩

/-! ## The dense feed-forward -/

/-- A frame of this program over any float values. -/
def DenseAt (F : FTy → Type) [FloatOps F] : Prop :=
  ∀ (m : (ℓ : Loc Cert.DenseIdeal.nD Cert.DenseIdeal.τ Cert.DenseIdeal.sig) → Buf (Elt F) ℓ) (ρ : Dev Cert.DenseIdeal.nD → PrngReg), True →
    θ_run (Cert.DenseIdeal.defs (F := F)) (onTc (τ := Cert.DenseIdeal.τ) (Cert.DenseIdeal.main (F := F))) ⟨m, fun _ => 0, ρ⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

theorem dense_any (F : FTy → Type) [FloatOps F] : DenseAt F := fun m ρ _ => Cert.DenseIdeal.Gen.frame m ρ

theorem dense_ideal : Cert.quiescent_DenseIdeal := dense_any Ideal

theorem dense_same : Cert.quiescent_Dense = DenseAt Bits := by
  sl_kernel_rfl

theorem dense_bits : Cert.quiescent_Dense := dense_same.mpr (dense_any Bits)

theorem dense_reference : Cert.quiescent_DenseRefIdeal := fun m ρ _ =>
  (θ_run Cert.DenseRefIdeal.defs _ _).mono (fun r h => ⟨fun c => (h c).2.2, sem_eq_zero_of_no_sems (by decide) r.2⟩)
    (Cert.DenseRefIdeal.Value.run (F := Ideal) m ρ)

/-- The dense feed-forward's rows. -/
def denseRows (m : (ℓ : Loc Cert.DenseIdeal.nD Cert.DenseIdeal.τ Cert.DenseIdeal.sig) → Buf (Elt Ideal) ℓ) (c : Dev Cert.DenseIdeal.nD) : FVec Ideal Cert.DenseIdeal.S16384x2048 .f32 :=
  Cert.DenseFfn.result (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5))

theorem dense_equal : Cert.algebraic_DenseIdeal_DenseRefIdeal := fun m g m' g' _ hm => by
  have hrows : ∀ c, Cert.DenseRefIdeal.Value.res_main_v31 m' c = denseRows m c := fun c => funext fun i => by
    obtain ⟨h0, h1, h2, h3, h4, h5⟩ := hm c
    refine (Cert.DenseFfn.ref_rows m' c i).trans ?_
    rw [h0, h1, h2, h3, h4, h5]
    rfl
  refine ⟨fun c => denseRows m c, fun c => (denseRows m c : Cert.DenseIdeal.S16384x2048.Idx → EReal),
    (θ_run Cert.DenseIdeal.defs _ _).mono (fun _ h c => ⟨(h c).1.trans (funext (Cert.DenseFfn.result_7 m c)), (h c).2.1.trans (funext (Cert.DenseFfn.result_8 m c)), (h c).2.2⟩)
      (Cert.DenseIdeal.Value.run (F := Ideal) m g),
    (θ_run Cert.DenseRefIdeal.defs _ _).mono (fun _ h c => ⟨(h c).1.trans (hrows c), (h c).2.1.trans ((Cert.DenseFfn.ref_short m' c).trans ?_), (h c).2.2⟩)
      (Cert.DenseRefIdeal.Value.run (F := Ideal) m' g')⟩
  rw [hrows c]
  rfl

/-! ## The gates -/

/-- A frame of this program over any float values. -/
def GatesAt (F : FTy → Type) [FloatOps F] : Prop :=
  ∀ (m : (ℓ : Loc Cert.GatesIdeal.nD Cert.GatesIdeal.τ Cert.GatesIdeal.sig) → Buf (Elt F) ℓ) (ρ : Dev Cert.GatesIdeal.nD → PrngReg), True →
    θ_run (Cert.GatesIdeal.defs (F := F)) (onTc (τ := Cert.GatesIdeal.τ) (Cert.GatesIdeal.main (F := F))) ⟨m, fun _ => 0, ρ⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

theorem gates_any (F : FTy → Type) [FloatOps F] : GatesAt F := fun m ρ _ => Cert.GatesIdeal.Gen.frame m ρ

theorem gates_ideal : Cert.quiescent_GatesIdeal := gates_any Ideal

theorem gates_same : Cert.quiescent_Gates = GatesAt Bits := by
  sl_kernel_rfl

theorem gates_bits : Cert.quiescent_Gates := gates_same.mpr (gates_any Bits)

theorem gates_reference : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem gates_equal : Cert.algebraic_GatesIdeal_GatesRefIdeal := fun m g m' g' _ hm =>
  ⟨fun c => (Cert.InGates.result (m ((c.tc : Thread Cert.GatesIdeal.nD Cert.GatesIdeal.τ).loc Cert.GatesIdeal.main_arg0)) (m ((c.tc : Thread Cert.GatesIdeal.nD Cert.GatesIdeal.τ).loc Cert.GatesIdeal.main_arg1)) : FVec Ideal Cert.GatesIdeal.S16384x4096 .f32),
    (θ_run Cert.GatesIdeal.defs _ _).mono (fun _ h c => ⟨(h c).1.trans (Cert.InGates.arr_eq m c), (h c).2⟩) (Cert.GatesIdeal.Value.run_blocks (F := Ideal) m g),
    (θ_run Cert.GatesRefIdeal.defs _ _).mono (fun _ h c => ⟨(h c).1.trans (funext fun i => (Cert.InGates.ref_at _ _ i).trans
        (congrFun (congrArg₂ Cert.InGates.result (hm c).1 (hm c).2) i)), (h c).2⟩) (Cert.GatesRefIdeal.Value.run (F := Ideal) m' g')⟩

/-! ## The heads and the mixer's columns -/

/-- A frame of this program over any float values. -/
def MixAt (F : FTy → Type) [FloatOps F] : Prop :=
  ∀ (m : (ℓ : Loc Cert.MixIdeal.nD Cert.MixIdeal.τ Cert.MixIdeal.sig) → Buf (Elt F) ℓ) (ρ : Dev Cert.MixIdeal.nD → PrngReg), True →
    θ_run (Cert.MixIdeal.defs (F := F)) (onTc (τ := Cert.MixIdeal.τ) (Cert.MixIdeal.main (F := F))) ⟨m, fun _ => 0, ρ⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

theorem mix_any (F : FTy → Type) [FloatOps F] : MixAt F := fun m ρ _ => Cert.MixIdeal.Gen.frame m ρ

theorem mix_ideal : Cert.quiescent_MixIdeal := mix_any Ideal

theorem mix_same : Cert.quiescent_Mix = MixAt Bits := by
  sl_kernel_rfl

theorem mix_bits : Cert.quiescent_Mix := mix_same.mpr (mix_any Bits)

theorem mix_reference : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

theorem mix_equal : Cert.algebraic_MixIdeal_MixRefIdeal := fun m g m' g' _ hm =>
  ⟨fun c => (Cert.InMix.heads (m ((c.tc : Thread Cert.MixIdeal.nD Cert.MixIdeal.τ).loc Cert.MixIdeal.main_arg0)) (m ((c.tc : Thread Cert.MixIdeal.nD Cert.MixIdeal.τ).loc Cert.MixIdeal.main_arg1)) : FVec Ideal Cert.MixIdeal.S24x16384x128 .bf16),
    fun c => (Cert.InMix.tail (m ((c.tc : Thread Cert.MixIdeal.nD Cert.MixIdeal.τ).loc Cert.MixIdeal.main_arg0)) (m ((c.tc : Thread Cert.MixIdeal.nD Cert.MixIdeal.τ).loc Cert.MixIdeal.main_arg1)) : FVec Ideal Cert.MixIdeal.S16384x1024 .f32),
    (θ_run Cert.MixIdeal.defs _ _).mono (fun _ h c => ⟨(h c).1.trans (Cert.InMix.heads_eq m c), (h c).2.1.trans (Cert.InMix.tails_eq m c), (h c).2.2⟩) (Cert.MixIdeal.Value.run_blocks (F := Ideal) m g),
    (θ_run Cert.MixRefIdeal.defs _ _).mono (fun _ h c => ⟨(h c).1.trans (funext fun i => (Cert.InMix.ref_heads _ _ i).trans
        (congrFun (congrArg₂ Cert.InMix.heads (hm c).1 (hm c).2) i)), (h c).2.1.trans (funext fun i => (Cert.InMix.ref_tail _ _ i).trans
        (congrFun (congrArg₂ Cert.InMix.tail (hm c).1 (hm c).2) i)), (h c).2.2⟩) (Cert.MixRefIdeal.Value.run (F := Ideal) m' g')⟩

/-! ## The mixer's tail -/

/-- A frame of this program over any float values. -/
def TailAt (F : FTy → Type) [FloatOps F] : Prop :=
  ∀ (m : (ℓ : Loc Cert.TailIdeal.nD Cert.TailIdeal.τ Cert.TailIdeal.sig) → Buf (Elt F) ℓ) (ρ : Dev Cert.TailIdeal.nD → PrngReg), True →
    θ_run (Cert.TailIdeal.defs (F := F)) (onTc (τ := Cert.TailIdeal.τ) (Cert.TailIdeal.main (F := F))) ⟨m, fun _ => 0, ρ⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

theorem tail_any (F : FTy → Type) [FloatOps F] : TailAt F := fun m ρ _ => Cert.TailIdeal.Gen.frame m ρ

theorem tail_ideal : Cert.quiescent_TailIdeal := tail_any Ideal

theorem tail_same : Cert.quiescent_Tail = TailAt Bits := by
  sl_kernel_rfl

theorem tail_bits : Cert.quiescent_Tail := tail_same.mpr (tail_any Bits)

theorem tail_reference : Cert.quiescent_TailRefIdeal := fun m ρ _ =>
  (θ_run Cert.TailRefIdeal.defs _ _).mono (fun r h => ⟨fun c => (h c).2.2, sem_eq_zero_of_no_sems (by decide) r.2⟩)
    (Cert.TailRefIdeal.Value.run (F := Ideal) m ρ)

/-- The rows after the mixer. -/
def tailRows (m : (ℓ : Loc Cert.TailIdeal.nD Cert.TailIdeal.τ Cert.TailIdeal.sig) → Buf (Elt Ideal) ℓ) (c : Dev Cert.TailIdeal.nD) : FVec Ideal Cert.TailIdeal.S16384x2048 .f32 :=
  Cert.MixerTail.result (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10))

theorem tail_equal : Cert.algebraic_TailIdeal_TailRefIdeal := fun m g m' g' _ hm => by
  have hrows : ∀ c, Cert.TailRefIdeal.Value.res_main_v103 m' c = tailRows m c := fun c => funext fun i => by
    obtain ⟨h0, h1, h2, h3, h4, h5, h6, h7, h8, h9, h10⟩ := hm c
    refine (Cert.MixerTail.ref_rows m' c i).trans ?_
    rw [h0, h1, h2, h3, h4, h5, h6, h7, h8, h9, h10]
    rfl
  refine ⟨fun c => tailRows m c, fun c => (tailRows m c : Cert.TailIdeal.S16384x2048.Idx → EReal),
    (θ_run Cert.TailIdeal.defs _ _).mono (fun _ h c => ⟨(h c).1.trans (Cert.MixerTail.array_13 m c), (h c).2.1.trans (Cert.MixerTail.array_14 m c), (h c).2.2⟩)
      (Cert.TailIdeal.Value.run_blocks (F := Ideal) m g),
    (θ_run Cert.TailRefIdeal.defs _ _).mono (fun _ h c => ⟨(h c).1.trans (hrows c), (h c).2.1.trans ((Cert.MixerTail.ref_short m' c).trans ?_), (h c).2.2⟩)
      (Cert.TailRefIdeal.Value.run (F := Ideal) m' g')⟩
  rw [hrows c]
  rfl

/-! ## The router -/

/-- A frame of this program over any float values. -/
def RouterAt (F : FTy → Type) [FloatOps F] : Prop :=
  ∀ (m : (ℓ : Loc Cert.RouterIdeal.nD Cert.RouterIdeal.τ Cert.RouterIdeal.sig) → Buf (Elt F) ℓ) (ρ : Dev Cert.RouterIdeal.nD → PrngReg), True →
    θ_run (Cert.RouterIdeal.defs (F := F)) (onTc (τ := Cert.RouterIdeal.τ) (Cert.RouterIdeal.main (F := F))) ⟨m, fun _ => 0, ρ⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

theorem router_any (F : FTy → Type) [FloatOps F] : RouterAt F := fun m ρ _ => Cert.RouterIdeal.Gen.frame m ρ

theorem router_ideal : Cert.quiescent_RouterIdeal := router_any Ideal

theorem router_same : Cert.quiescent_Router = RouterAt Bits := by
  sl_kernel_rfl

theorem router_bits : Cert.quiescent_Router := router_same.mpr (router_any Bits)

theorem router_reference : Cert.quiescent_RouterRefIdeal := fun m ρ _ =>
  (θ_run Cert.RouterRefIdeal.defs _ _).mono (fun r h => ⟨fun c => (h c).2.2, sem_eq_zero_of_no_sems (by decide) r.2⟩)
    (Cert.RouterRefIdeal.Value.run (F := Ideal) m ρ)

/-- The side conditions of the precondition's operations. -/
theorem finite_facts : Cert.Pre_finite.Facts := Cert.MoeRouter.pre_facts

/-- A frame holds under the precondition too. -/
theorem router_ideal_finite : Cert.quiescent_RouterIdeal_pre_finite (hPre_finite := finite_facts) := fun m ρ _ => router_ideal m ρ trivial

theorem router_reference_finite : Cert.quiescent_RouterRefIdeal_pre_finite (hPre_finite := finite_facts) := fun m ρ _ => router_reference m ρ trivial

/-- A token's row of the routing table. -/
def routing (x : FVec Ideal Cert.RouterIdeal.S16384x2048 .f32) (w : FVec Ideal Cert.RouterIdeal.S2048x8 .f32) : FVec Ideal Cert.RouterIdeal.S16384x128 .f32 :=
  fun i => Cert.MoeRouter.routeAt x w (i 0).val (i 1).val

/-- How many tokens chose each expert. -/
def chosen (x : FVec Ideal Cert.RouterIdeal.S16384x2048 .f32) (w : FVec Ideal Cert.RouterIdeal.S2048x8 .f32) : FVec Ideal Cert.RouterIdeal.S1x128 .f32 :=
  fun i => Cert.MoeRouter.chose x w 16384 (i 1).val

/-- An array is given by its entries at pairs of a row and a column. -/
theorem pairs {n k : Nat} {A B : (⟨2, ![n, k]⟩ : Shape).Idx → EReal} (h : ∀ (r : Fin n) (l : Fin k), A (ix2 r l) = B (ix2 r l)) : A = B := by
  funext i
  obtain ⟨r, l, rfl⟩ : ∃ (r : Fin n) (l : Fin k), i = ix2 r l := ⟨i 0, i 1, funext fun q => by fin_cases q <;> rfl⟩
  exact h r l

theorem router_equal : Cert.algebraic_RouterIdeal_RouterRefIdeal_pre_finite (hPre_finite := finite_facts) := fun m g m' g' hpre hm => by
  have hf : ∀ (c : Dev Cert.RouterIdeal.nD) (n : ℕ) (j : Fin 8), ∃ a : ℝ, Cert.MoeRouter.logit (m ((c.tc : Thread Cert.RouterIdeal.nD Cert.RouterIdeal.τ).loc Cert.RouterIdeal.main_arg0)) (m ((c.tc : Thread Cert.RouterIdeal.nD Cert.RouterIdeal.τ).loc Cert.RouterIdeal.main_arg1)) n j = a := fun c =>
    Cert.MoeRouter.logits_real _ _ (Cert.MoeRouter.rows_real (hF := finite_facts) _ _ (hpre c).1) (Cert.MoeRouter.weights_real (hF := finite_facts) _ _ (hpre c).2)
  have hrows : ∀ c, Cert.RouterRefIdeal.Value.res_main_v27 m' c = routing (m ((c.tc : Thread Cert.RouterIdeal.nD Cert.RouterIdeal.τ).loc Cert.RouterIdeal.main_arg0)) (m ((c.tc : Thread Cert.RouterIdeal.nD Cert.RouterIdeal.τ).loc Cert.RouterIdeal.main_arg1)) := fun c => by
    refine (Cert.MoeRouter.res_route m' c).trans ?_
    rw [(hm c).1, (hm c).2]
    exact pairs fun r l => Cert.MoeRouter.ref_route _ _ (hf c) r l
  refine ⟨fun c => routing (m ((c.tc : Thread Cert.RouterIdeal.nD Cert.RouterIdeal.τ).loc Cert.RouterIdeal.main_arg0)) (m ((c.tc : Thread Cert.RouterIdeal.nD Cert.RouterIdeal.τ).loc Cert.RouterIdeal.main_arg1)), fun c => chosen (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    (θ_run Cert.RouterIdeal.defs _ _).mono (fun _ h c => ⟨(h c).1.trans (pairs fun r l => Cert.MoeRouter.kernel_route m c (hf c) r l), (h c).2.1.trans (pairs fun r l => ?_), (h c).2.2⟩)
      (Cert.RouterIdeal.Value.run (F := Ideal) m g),
    (θ_run Cert.RouterRefIdeal.defs _ _).mono (fun _ h c => ⟨(h c).1.trans (hrows c), (h c).2.1.trans ?_, (h c).2.2⟩)
      (Cert.RouterRefIdeal.Value.run (F := Ideal) m' g')⟩
  · obtain rfl : r = 0 := Subsingleton.elim _ _
    exact Cert.MoeRouter.kernel_counts m c (hf c) l
  · rw [(hm c).1, (hm c).2]
    refine pairs fun r l => ?_
    obtain rfl : r = 0 := Subsingleton.elim _ _
    exact Cert.MoeRouter.ref_counts _ _ l

theorem claim : Cert.Claim := ⟨Cert.Kernel.Gen.facts, Cert.KernelIdeal.Gen.facts, Cert.ReferenceIdeal.Gen.facts, Cert.Dense.Gen.facts, Cert.DenseIdeal.Gen.facts, Cert.DenseRefIdeal.Gen.facts, Cert.Gates.Gen.facts, Cert.GatesIdeal.Gen.facts, Cert.GatesRefIdeal.Gen.facts, Cert.Mix.Gen.facts, Cert.MixIdeal.Gen.facts, Cert.MixRefIdeal.Gen.facts,
  Cert.Tail.Gen.facts, Cert.TailIdeal.Gen.facts, Cert.TailRefIdeal.Gen.facts, Cert.Router.Gen.facts, Cert.RouterIdeal.Gen.facts, Cert.RouterRefIdeal.Gen.facts, finite_facts,
  frame_bits, frame_ideal, frame_reference, dense_bits, dense_ideal, dense_reference, gates_bits, gates_ideal, gates_reference, mix_bits, mix_ideal, mix_reference, tail_bits, tail_ideal, tail_reference, router_bits, router_ideal, router_ideal_finite, router_reference, router_reference_finite,
  trivial, equal_results, trivial, dense_equal, trivial, gates_equal, trivial, mix_equal, trivial, tail_equal, trivial, router_equal⟩

end Cert.Proof

end
